-- ==== Defs.lean ====
def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdIdeal_finite [hPre_finite : Cert.Pre_finite.Facts] (m : (ℓ : Loc Cert.SsdIdeal.nD Cert.SsdIdeal.τ Cert.SsdIdeal.sig) → Buf (Elt Ideal) ℓ) : Prop :=
  ∀ c : Dev Cert.SsdIdeal.nD,
    (Cert.Pre_finite.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2))) = (fun _ => 1#1)

def Pre_SsdRefIdeal (m : (ℓ : Loc Cert.SsdRefIdeal.nD Cert.SsdRefIdeal.τ Cert.SsdRefIdeal.sig) → Buf (Elt Ideal) ℓ) : Prop :=
  True

def Pre_SsdRefIdeal_finite [hPre_finite : Cert.Pre_finite.Facts] (m : (ℓ : Loc Cert.SsdRefIdeal.nD Cert.SsdRefIdeal.τ Cert.SsdRefIdeal.sig) → Buf (Elt Ideal) ℓ) : Prop :=
  ∀ c : Dev Cert.SsdRefIdeal.nD,
    (Cert.Pre_finite.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Expert (m : (ℓ : Loc Cert.Expert.nD Cert.Expert.τ Cert.Expert.sig) → Buf (Elt Bits) ℓ) : Prop :=
  True

def Pre_ExpertIdeal (m : (ℓ : Loc Cert.ExpertIdeal.nD Cert.ExpertIdeal.τ Cert.ExpertIdeal.sig) → Buf (Elt Ideal) ℓ) : Prop :=
  True

def Pre_ExpertRefIdeal (m : (ℓ : Loc Cert.ExpertRefIdeal.nD Cert.ExpertRefIdeal.τ Cert.ExpertRefIdeal.sig) → Buf (Elt Ideal) ℓ) : Prop :=
  True

def Pre_Weights (m : (ℓ : Loc Cert.Weights.nD Cert.Weights.τ Cert.Weights.sig) → Buf (Elt Bits) ℓ) : Prop :=
  True

def Pre_WeightsIdeal (m : (ℓ : Loc Cert.WeightsIdeal.nD Cert.WeightsIdeal.τ Cert.WeightsIdeal.sig) → Buf (Elt Ideal) ℓ) : Prop :=
  True

def Pre_WeightsRefIdeal (m : (ℓ : Loc Cert.WeightsRefIdeal.nD Cert.WeightsRefIdeal.τ Cert.WeightsRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Norm1 (m : (ℓ : Loc Cert.Norm1.nD Cert.Norm1.τ Cert.Norm1.sig) → Buf (Elt Bits) ℓ) : Prop :=
  True

def Pre_Norm1Ideal (m : (ℓ : Loc Cert.Norm1Ideal.nD Cert.Norm1Ideal.τ Cert.Norm1Ideal.sig) → Buf (Elt Ideal) ℓ) : Prop :=
  True

def Pre_Norm1RefIdeal (m : (ℓ : Loc Cert.Norm1RefIdeal.nD Cert.Norm1RefIdeal.τ Cert.Norm1RefIdeal.sig) → Buf (Elt Ideal) ℓ) : Prop :=
  True

def Pre_Norm2 (m : (ℓ : Loc Cert.Norm2.nD Cert.Norm2.τ Cert.Norm2.sig) → Buf (Elt Bits) ℓ) : Prop :=
  True

def Pre_Norm2Ideal (m : (ℓ : Loc Cert.Norm2Ideal.nD Cert.Norm2Ideal.τ Cert.Norm2Ideal.sig) → Buf (Elt Ideal) ℓ) : Prop :=
  True

def Pre_Norm2RefIdeal (m : (ℓ : Loc Cert.Norm2RefIdeal.nD Cert.Norm2RefIdeal.τ Cert.Norm2RefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Finish (m : (ℓ : Loc Cert.Finish.nD Cert.Finish.τ Cert.Finish.sig) → Buf (Elt Bits) ℓ) : Prop :=
  True

def Pre_FinishIdeal (m : (ℓ : Loc Cert.FinishIdeal.nD Cert.FinishIdeal.τ Cert.FinishIdeal.sig) → Buf (Elt Ideal) ℓ) : Prop :=
  True

def Pre_FinishIdeal_finite_heads [hPre_finite_heads : Cert.Pre_finite_heads.Facts] (m : (ℓ : Loc Cert.FinishIdeal.nD Cert.FinishIdeal.τ Cert.FinishIdeal.sig) → Buf (Elt Ideal) ℓ) : Prop :=
  ∀ c : Dev Cert.FinishIdeal.nD,
    (Cert.Pre_finite_heads.fn (F := Ideal) (m ((c.tc : Thread Cert.FinishIdeal.nD Cert.FinishIdeal.τ).loc Cert.FinishIdeal.main_arg0)) (m ((c.tc : Thread Cert.FinishIdeal.nD Cert.FinishIdeal.τ).loc Cert.FinishIdeal.main_arg1)) (m ((c.tc : Thread Cert.FinishIdeal.nD Cert.FinishIdeal.τ).loc Cert.FinishIdeal.main_arg2)) (m ((c.tc : Thread Cert.FinishIdeal.nD Cert.FinishIdeal.τ).loc Cert.FinishIdeal.main_arg3)) (m ((c.tc : Thread Cert.FinishIdeal.nD Cert.FinishIdeal.τ).loc Cert.FinishIdeal.main_arg4)) (m ((c.tc : Thread Cert.FinishIdeal.nD Cert.FinishIdeal.τ).loc Cert.FinishIdeal.main_arg5)) (m ((c.tc : Thread Cert.FinishIdeal.nD Cert.FinishIdeal.τ).loc Cert.FinishIdeal.main_arg6)) (m ((c.tc : Thread Cert.FinishIdeal.nD Cert.FinishIdeal.τ).loc Cert.FinishIdeal.main_arg7)) (m ((c.tc : Thread Cert.FinishIdeal.nD Cert.FinishIdeal.τ).loc Cert.FinishIdeal.main_arg8)) (m ((c.tc : Thread Cert.FinishIdeal.nD Cert.FinishIdeal.τ).loc Cert.FinishIdeal.main_arg9))) = (fun _ => 1#1)

def Pre_FinishRefIdeal (m : (ℓ : Loc Cert.FinishRefIdeal.nD Cert.FinishRefIdeal.τ Cert.FinishRefIdeal.sig) → Buf (Elt Ideal) ℓ) : Prop :=
  True

def Pre_FinishRefIdeal_finite_heads [hPre_finite_heads : Cert.Pre_finite_heads.Facts] (m : (ℓ : Loc Cert.FinishRefIdeal.nD Cert.FinishRefIdeal.τ Cert.FinishRefIdeal.sig) → Buf (Elt Ideal) ℓ) : Prop :=
  ∀ c : Dev Cert.FinishRefIdeal.nD,
    (Cert.Pre_finite_heads.fn (F := Ideal) (m ((c.tc : Thread Cert.FinishRefIdeal.nD Cert.FinishRefIdeal.τ).loc Cert.FinishRefIdeal.main_arg0)) (m ((c.tc : Thread Cert.FinishRefIdeal.nD Cert.FinishRefIdeal.τ).loc Cert.FinishRefIdeal.main_arg1)) (m ((c.tc : Thread Cert.FinishRefIdeal.nD Cert.FinishRefIdeal.τ).loc Cert.FinishRefIdeal.main_arg2)) (m ((c.tc : Thread Cert.FinishRefIdeal.nD Cert.FinishRefIdeal.τ).loc Cert.FinishRefIdeal.main_arg3)) (m ((c.tc : Thread Cert.FinishRefIdeal.nD Cert.FinishRefIdeal.τ).loc Cert.FinishRefIdeal.main_arg4)) (m ((c.tc : Thread Cert.FinishRefIdeal.nD Cert.FinishRefIdeal.τ).loc Cert.FinishRefIdeal.main_arg5)) (m ((c.tc : Thread Cert.FinishRefIdeal.nD Cert.FinishRefIdeal.τ).loc Cert.FinishRefIdeal.main_arg6)) (m ((c.tc : Thread Cert.FinishRefIdeal.nD Cert.FinishRefIdeal.τ).loc Cert.FinishRefIdeal.main_arg7)) (m ((c.tc : Thread Cert.FinishRefIdeal.nD Cert.FinishRefIdeal.τ).loc Cert.FinishRefIdeal.main_arg8)) (m ((c.tc : Thread Cert.FinishRefIdeal.nD Cert.FinishRefIdeal.τ).loc Cert.FinishRefIdeal.main_arg9))) = (fun _ => 1#1)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2))
      ∧ r.2.sem = fun _ => 0)

def quiescent_SsdIdeal_pre_finite [hSsdIdeal : Cert.SsdIdeal.Facts] [hPre_finite : Cert.Pre_finite.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal_finite m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2))
      ∧ r.2.sem = fun _ => 0)

def quiescent_SsdRefIdeal_pre_finite [hSsdRefIdeal : Cert.SsdRefIdeal.Facts] [hPre_finite : Cert.Pre_finite.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal_finite m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_Expert [hExpert : Cert.Expert.Facts] : Prop :=
  ∀ (m : (ℓ : Loc Cert.Expert.nD Cert.Expert.τ Cert.Expert.sig) → Buf (Elt Bits) ℓ) (g : Dev Cert.Expert.nD → PrngReg), Pre_Expert m →
    θ_run (Cert.Expert.defs (F := Bits)) (onTc (τ := Cert.Expert.τ) (Cert.Expert.main (F := Bits))) ⟨m, fun _ => 0, g⟩ (fun r => (∀ c : Dev Cert.Expert.nD,
      r.2.mem ((c.tc : Thread Cert.Expert.nD Cert.Expert.τ).loc Cert.Expert.main_arg0) = m ((c.tc : Thread Cert.Expert.nD Cert.Expert.τ).loc Cert.Expert.main_arg0)
      ∧ r.2.mem ((c.tc : Thread Cert.Expert.nD Cert.Expert.τ).loc Cert.Expert.main_arg1) = m ((c.tc : Thread Cert.Expert.nD Cert.Expert.τ).loc Cert.Expert.main_arg1))
      ∧ r.2.sem = fun _ => 0)

def quiescent_ExpertIdeal [hExpertIdeal : Cert.ExpertIdeal.Facts] : Prop :=
  ∀ (m : (ℓ : Loc Cert.ExpertIdeal.nD Cert.ExpertIdeal.τ Cert.ExpertIdeal.sig) → Buf (Elt Ideal) ℓ) (g : Dev Cert.ExpertIdeal.nD → PrngReg), Pre_ExpertIdeal m →
    θ_run (Cert.ExpertIdeal.defs (F := Ideal)) (onTc (τ := Cert.ExpertIdeal.τ) (Cert.ExpertIdeal.main (F := Ideal))) ⟨m, fun _ => 0, g⟩ (fun r => (∀ c : Dev Cert.ExpertIdeal.nD,
      r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
      ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1))
      ∧ r.2.sem = fun _ => 0)

def quiescent_ExpertRefIdeal [hExpertRefIdeal : Cert.ExpertRefIdeal.Facts] : Prop :=
  ∀ (m : (ℓ : Loc Cert.ExpertRefIdeal.nD Cert.ExpertRefIdeal.τ Cert.ExpertRefIdeal.sig) → Buf (Elt Ideal) ℓ) (g : Dev Cert.ExpertRefIdeal.nD → PrngReg), Pre_ExpertRefIdeal m →
    θ_run (Cert.ExpertRefIdeal.defs (F := Ideal)) (onTc (τ := Cert.ExpertRefIdeal.τ) (Cert.ExpertRefIdeal.main (F := Ideal))) ⟨m, fun _ => 0, g⟩ (fun r => (∀ c : Dev Cert.ExpertRefIdeal.nD,
      r.2.mem ((c.tc : Thread Cert.ExpertRefIdeal.nD Cert.ExpertRefIdeal.τ).loc Cert.ExpertRefIdeal.main_arg0) = m ((c.tc : Thread Cert.ExpertRefIdeal.nD Cert.ExpertRefIdeal.τ).loc Cert.ExpertRefIdeal.main_arg0)
      ∧ r.2.mem ((c.tc : Thread Cert.ExpertRefIdeal.nD Cert.ExpertRefIdeal.τ).loc Cert.ExpertRefIdeal.main_arg1) = m ((c.tc : Thread Cert.ExpertRefIdeal.nD Cert.ExpertRefIdeal.τ).loc Cert.ExpertRefIdeal.main_arg1))
      ∧ r.2.sem = fun _ => 0)

def quiescent_Weights [hWeights : Cert.Weights.Facts] : Prop :=
  ∀ (m : (ℓ : Loc Cert.Weights.nD Cert.Weights.τ Cert.Weights.sig) → Buf (Elt Bits) ℓ) (g : Dev Cert.Weights.nD → PrngReg), Pre_Weights m →
    θ_run (Cert.Weights.defs (F := Bits)) (onTc (τ := Cert.Weights.τ) (Cert.Weights.main (F := Bits))) ⟨m, fun _ => 0, g⟩ (fun r => (∀ c : Dev Cert.Weights.nD,
      r.2.mem ((c.tc : Thread Cert.Weights.nD Cert.Weights.τ).loc Cert.Weights.main_arg0) = m ((c.tc : Thread Cert.Weights.nD Cert.Weights.τ).loc Cert.Weights.main_arg0)
      ∧ r.2.mem ((c.tc : Thread Cert.Weights.nD Cert.Weights.τ).loc Cert.Weights.main_arg1) = m ((c.tc : Thread Cert.Weights.nD Cert.Weights.τ).loc Cert.Weights.main_arg1)
      ∧ r.2.mem ((c.tc : Thread Cert.Weights.nD Cert.Weights.τ).loc Cert.Weights.main_arg2) = m ((c.tc : Thread Cert.Weights.nD Cert.Weights.τ).loc Cert.Weights.main_arg2)
      ∧ r.2.mem ((c.tc : Thread Cert.Weights.nD Cert.Weights.τ).loc Cert.Weights.main_arg3) = m ((c.tc : Thread Cert.Weights.nD Cert.Weights.τ).loc Cert.Weights.main_arg3)
      ∧ r.2.mem ((c.tc : Thread Cert.Weights.nD Cert.Weights.τ).loc Cert.Weights.main_arg4) = m ((c.tc : Thread Cert.Weights.nD Cert.Weights.τ).loc Cert.Weights.main_arg4)
      ∧ r.2.mem ((c.tc : Thread Cert.Weights.nD Cert.Weights.τ).loc Cert.Weights.main_arg5) = m ((c.tc : Thread Cert.Weights.nD Cert.Weights.τ).loc Cert.Weights.main_arg5))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
      ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
      ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
      ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3)
      ∧ r.2.mem ((c.tc : Thread Cert.WeightsIdeal.nD Cert.WeightsIdeal.τ).loc Cert.WeightsIdeal.main_arg4) = m ((c.tc : Thread Cert.WeightsIdeal.nD Cert.WeightsIdeal.τ).loc Cert.WeightsIdeal.main_arg4)
      ∧ r.2.mem ((c.tc : Thread Cert.WeightsIdeal.nD Cert.WeightsIdeal.τ).loc Cert.WeightsIdeal.main_arg5) = m ((c.tc : Thread Cert.WeightsIdeal.nD Cert.WeightsIdeal.τ).loc Cert.WeightsIdeal.main_arg5))
      ∧ r.2.sem = fun _ => 0)

def quiescent_WeightsRefIdeal [hWeightsRefIdeal : Cert.WeightsRefIdeal.Facts] : Prop :=
  ∀ (m : (ℓ : Loc Cert.WeightsRefIdeal.nD Cert.WeightsRefIdeal.τ Cert.WeightsRefIdeal.sig) → Buf (Elt Ideal) ℓ) (g : Dev Cert.WeightsRefIdeal.nD → PrngReg), Pre_WeightsRefIdeal m →
    θ_run (Cert.WeightsRefIdeal.defs (F := Ideal)) (onTc (τ := Cert.WeightsRefIdeal.τ) (Cert.WeightsRefIdeal.main (F := Ideal))) ⟨m, fun _ => 0, g⟩ (fun r => (∀ c : Dev Cert.WeightsRefIdeal.nD,
      r.2.mem ((c.tc : Thread Cert.WeightsRefIdeal.nD Cert.WeightsRefIdeal.τ).loc Cert.WeightsRefIdeal.main_arg0) = m ((c.tc : Thread Cert.WeightsRefIdeal.nD Cert.WeightsRefIdeal.τ).loc Cert.WeightsRefIdeal.main_arg0)
      ∧ r.2.mem ((c.tc : Thread Cert.WeightsRefIdeal.nD Cert.WeightsRefIdeal.τ).loc Cert.WeightsRefIdeal.main_arg1) = m ((c.tc : Thread Cert.WeightsRefIdeal.nD Cert.WeightsRefIdeal.τ).loc Cert.WeightsRefIdeal.main_arg1)
      ∧ r.2.mem ((c.tc : Thread Cert.WeightsRefIdeal.nD Cert.WeightsRefIdeal.τ).loc Cert.WeightsRefIdeal.main_arg2) = m ((c.tc : Thread Cert.WeightsRefIdeal.nD Cert.WeightsRefIdeal.τ).loc Cert.WeightsRefIdeal.main_arg2)
      ∧ r.2.mem ((c.tc : Thread Cert.WeightsRefIdeal.nD Cert.WeightsRefIdeal.τ).loc Cert.WeightsRefIdeal.main_arg3) = m ((c.tc : Thread Cert.WeightsRefIdeal.nD Cert.WeightsRefIdeal.τ).loc Cert.WeightsRefIdeal.main_arg3)
      ∧ r.2.mem ((c.tc : Thread Cert.WeightsRefIdeal.nD Cert.WeightsRefIdeal.τ).loc Cert.WeightsRefIdeal.main_arg4) = m ((c.tc : Thread Cert.WeightsRefIdeal.nD Cert.WeightsRefIdeal.τ).loc Cert.WeightsRefIdeal.main_arg4)
      ∧ r.2.mem ((c.tc : Thread Cert.WeightsRefIdeal.nD Cert.WeightsRefIdeal.τ).loc Cert.WeightsRefIdeal.main_arg5) = m ((c.tc : Thread Cert.WeightsRefIdeal.nD Cert.WeightsRefIdeal.τ).loc Cert.WeightsRefIdeal.main_arg5))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3))
      ∧ r.2.sem = fun _ => 0)

def quiescent_Norm1 [hNorm1 : Cert.Norm1.Facts] : Prop :=
  ∀ (m : (ℓ : Loc Cert.Norm1.nD Cert.Norm1.τ Cert.Norm1.sig) → Buf (Elt Bits) ℓ) (g : Dev Cert.Norm1.nD → PrngReg), Pre_Norm1 m →
    θ_run (Cert.Norm1.defs (F := Bits)) (onTc (τ := Cert.Norm1.τ) (Cert.Norm1.main (F := Bits))) ⟨m, fun _ => 0, g⟩ (fun r => (∀ c : Dev Cert.Norm1.nD,
      r.2.mem ((c.tc : Thread Cert.Norm1.nD Cert.Norm1.τ).loc Cert.Norm1.main_arg0) = m ((c.tc : Thread Cert.Norm1.nD Cert.Norm1.τ).loc Cert.Norm1.main_arg0)
      ∧ r.2.mem ((c.tc : Thread Cert.Norm1.nD Cert.Norm1.τ).loc Cert.Norm1.main_arg1) = m ((c.tc : Thread Cert.Norm1.nD Cert.Norm1.τ).loc Cert.Norm1.main_arg1)
      ∧ r.2.mem ((c.tc : Thread Cert.Norm1.nD Cert.Norm1.τ).loc Cert.Norm1.main_arg2) = m ((c.tc : Thread Cert.Norm1.nD Cert.Norm1.τ).loc Cert.Norm1.main_arg2)
      ∧ r.2.mem ((c.tc : Thread Cert.Norm1.nD Cert.Norm1.τ).loc Cert.Norm1.main_arg3) = m ((c.tc : Thread Cert.Norm1.nD Cert.Norm1.τ).loc Cert.Norm1.main_arg3))
      ∧ r.2.sem = fun _ => 0)

def quiescent_Norm1Ideal [hNorm1Ideal : Cert.Norm1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
      ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
      ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3))
      ∧ r.2.sem = fun _ => 0)

def quiescent_Norm1RefIdeal [hNorm1RefIdeal : Cert.Norm1RefIdeal.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1)
      ∧ r.2.mem ((c.tc : Thread Cert.Norm1RefIdeal.nD Cert.Norm1RefIdeal.τ).loc Cert.Norm1RefIdeal.main_arg2) = m ((c.tc : Thread Cert.Norm1RefIdeal.nD Cert.Norm1RefIdeal.τ).loc Cert.Norm1RefIdeal.main_arg2)
      ∧ r.2.mem ((c.tc : Thread Cert.Norm1RefIdeal.nD Cert.Norm1RefIdeal.τ).loc Cert.Norm1RefIdeal.main_arg3) = m ((c.tc : Thread Cert.Norm1RefIdeal.nD Cert.Norm1RefIdeal.τ).loc Cert.Norm1RefIdeal.main_arg3))
      ∧ r.2.sem = fun _ => 0)

def quiescent_Norm2 [hNorm2 : Cert.Norm2.Facts] : Prop :=
  ∀ (m : (ℓ : Loc Cert.Norm2.nD Cert.Norm2.τ Cert.Norm2.sig) → Buf (Elt Bits) ℓ) (g : Dev Cert.Norm2.nD → PrngReg), Pre_Norm2 m →
    θ_run (Cert.Norm2.defs (F := Bits)) (onTc (τ := Cert.Norm2.τ) (Cert.Norm2.main (F := Bits))) ⟨m, fun _ => 0, g⟩ (fun r => (∀ c : Dev Cert.Norm2.nD,
      r.2.mem ((c.tc : Thread Cert.Norm2.nD Cert.Norm2.τ).loc Cert.Norm2.main_arg0) = m ((c.tc : Thread Cert.Norm2.nD Cert.Norm2.τ).loc Cert.Norm2.main_arg0)
      ∧ r.2.mem ((c.tc : Thread Cert.Norm2.nD Cert.Norm2.τ).loc Cert.Norm2.main_arg1) = m ((c.tc : Thread Cert.Norm2.nD Cert.Norm2.τ).loc Cert.Norm2.main_arg1)
      ∧ r.2.mem ((c.tc : Thread Cert.Norm2.nD Cert.Norm2.τ).loc Cert.Norm2.main_arg2) = m ((c.tc : Thread Cert.Norm2.nD Cert.Norm2.τ).loc Cert.Norm2.main_arg2))
      ∧ r.2.sem = fun _ => 0)

def quiescent_Norm2Ideal [hNorm2Ideal : Cert.Norm2Ideal.Facts] : Prop :=
  ∀ (m : (ℓ : Loc Cert.Norm2Ideal.nD Cert.Norm2Ideal.τ Cert.Norm2Ideal.sig) → Buf (Elt Ideal) ℓ) (g : Dev Cert.Norm2Ideal.nD → PrngReg), Pre_Norm2Ideal m →
    θ_run (Cert.Norm2Ideal.defs (F := Ideal)) (onTc (τ := Cert.Norm2Ideal.τ) (Cert.Norm2Ideal.main (F := Ideal))) ⟨m, fun _ => 0, g⟩ (fun r => (∀ c : Dev Cert.Norm2Ideal.nD,
      r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
      ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
      ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2))
      ∧ r.2.sem = fun _ => 0)

def quiescent_Norm2RefIdeal [hNorm2RefIdeal : Cert.Norm2RefIdeal.Facts] : Prop :=
  ∀ (m : (ℓ : Loc Cert.Norm2RefIdeal.nD Cert.Norm2RefIdeal.τ Cert.Norm2RefIdeal.sig) → Buf (Elt Ideal) ℓ) (g : Dev Cert.Norm2RefIdeal.nD → PrngReg), Pre_Norm2RefIdeal m →
    θ_run (Cert.Norm2RefIdeal.defs (F := Ideal)) (onTc (τ := Cert.Norm2RefIdeal.τ) (Cert.Norm2RefIdeal.main (F := Ideal))) ⟨m, fun _ => 0, g⟩ (fun r => (∀ c : Dev Cert.Norm2RefIdeal.nD,
      r.2.mem ((c.tc : Thread Cert.Norm2RefIdeal.nD Cert.Norm2RefIdeal.τ).loc Cert.Norm2RefIdeal.main_arg0) = m ((c.tc : Thread Cert.Norm2RefIdeal.nD Cert.Norm2RefIdeal.τ).loc Cert.Norm2RefIdeal.main_arg0)
      ∧ r.2.mem ((c.tc : Thread Cert.Norm2RefIdeal.nD Cert.Norm2RefIdeal.τ).loc Cert.Norm2RefIdeal.main_arg1) = m ((c.tc : Thread Cert.Norm2RefIdeal.nD Cert.Norm2RefIdeal.τ).loc Cert.Norm2RefIdeal.main_arg1)
      ∧ r.2.mem ((c.tc : Thread Cert.Norm2RefIdeal.nD Cert.Norm2RefIdeal.τ).loc Cert.Norm2RefIdeal.main_arg2) = m ((c.tc : Thread Cert.Norm2RefIdeal.nD Cert.Norm2RefIdeal.τ).loc Cert.Norm2RefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Finish [hFinish : Cert.Finish.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3)
      ∧ r.2.mem ((c.tc : Thread Cert.Finish.nD Cert.Finish.τ).loc Cert.Finish.main_arg4) = m ((c.tc : Thread Cert.Finish.nD Cert.Finish.τ).loc Cert.Finish.main_arg4)
      ∧ r.2.mem ((c.tc : Thread Cert.Finish.nD Cert.Finish.τ).loc Cert.Finish.main_arg5) = m ((c.tc : Thread Cert.Finish.nD Cert.Finish.τ).loc Cert.Finish.main_arg5)
      ∧ r.2.mem ((c.tc : Thread Cert.Finish.nD Cert.Finish.τ).loc Cert.Finish.main_arg6) = m ((c.tc : Thread Cert.Finish.nD Cert.Finish.τ).loc Cert.Finish.main_arg6)
      ∧ r.2.mem ((c.tc : Thread Cert.Finish.nD Cert.Finish.τ).loc Cert.Finish.main_arg7) = m ((c.tc : Thread Cert.Finish.nD Cert.Finish.τ).loc Cert.Finish.main_arg7)
      ∧ r.2.mem ((c.tc : Thread Cert.Finish.nD Cert.Finish.τ).loc Cert.Finish.main_arg8) = m ((c.tc : Thread Cert.Finish.nD Cert.Finish.τ).loc Cert.Finish.main_arg8)
      ∧ r.2.mem ((c.tc : Thread Cert.Finish.nD Cert.Finish.τ).loc Cert.Finish.main_arg9) = m ((c.tc : Thread Cert.Finish.nD Cert.Finish.τ).loc Cert.Finish.main_arg9))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
      ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
      ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
      ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
      ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8)
      ∧ r.2.mem ((c.tc : Thread Cert.FinishIdeal.nD Cert.FinishIdeal.τ).loc Cert.FinishIdeal.main_arg9) = m ((c.tc : Thread Cert.FinishIdeal.nD Cert.FinishIdeal.τ).loc Cert.FinishIdeal.main_arg9))
      ∧ r.2.sem = fun _ => 0)

def quiescent_FinishIdeal_pre_finite_heads [hFinishIdeal : Cert.FinishIdeal.Facts] [hPre_finite_heads : Cert.Pre_finite_heads.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal_finite_heads m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
      ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
      ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
      ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
      ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8)
      ∧ r.2.mem ((c.tc : Thread Cert.FinishIdeal.nD Cert.FinishIdeal.τ).loc Cert.FinishIdeal.main_arg9) = m ((c.tc : Thread Cert.FinishIdeal.nD Cert.FinishIdeal.τ).loc Cert.FinishIdeal.main_arg9))
      ∧ r.2.sem = fun _ => 0)

def quiescent_FinishRefIdeal [hFinishRefIdeal : Cert.FinishRefIdeal.Facts] : Prop :=
  ∀ (m : (ℓ : Loc Cert.FinishRefIdeal.nD Cert.FinishRefIdeal.τ Cert.FinishRefIdeal.sig) → Buf (Elt Ideal) ℓ) (g : Dev Cert.FinishRefIdeal.nD → PrngReg), Pre_FinishRefIdeal m →
    θ_run (Cert.FinishRefIdeal.defs (F := Ideal)) (onTc (τ := Cert.FinishRefIdeal.τ) (Cert.FinishRefIdeal.main (F := Ideal))) ⟨m, fun _ => 0, g⟩ (fun r => (∀ c : Dev Cert.FinishRefIdeal.nD,
      r.2.mem ((c.tc : Thread Cert.FinishRefIdeal.nD Cert.FinishRefIdeal.τ).loc Cert.FinishRefIdeal.main_arg0) = m ((c.tc : Thread Cert.FinishRefIdeal.nD Cert.FinishRefIdeal.τ).loc Cert.FinishRefIdeal.main_arg0)
      ∧ r.2.mem ((c.tc : Thread Cert.FinishRefIdeal.nD Cert.FinishRefIdeal.τ).loc Cert.FinishRefIdeal.main_arg1) = m ((c.tc : Thread Cert.FinishRefIdeal.nD Cert.FinishRefIdeal.τ).loc Cert.FinishRefIdeal.main_arg1)
      ∧ r.2.mem ((c.tc : Thread Cert.FinishRefIdeal.nD Cert.FinishRefIdeal.τ).loc Cert.FinishRefIdeal.main_arg2) = m ((c.tc : Thread Cert.FinishRefIdeal.nD Cert.FinishRefIdeal.τ).loc Cert.FinishRefIdeal.main_arg2)
      ∧ r.2.mem ((c.tc : Thread Cert.FinishRefIdeal.nD Cert.FinishRefIdeal.τ).loc Cert.FinishRefIdeal.main_arg3) = m ((c.tc : Thread Cert.FinishRefIdeal.nD Cert.FinishRefIdeal.τ).loc Cert.FinishRefIdeal.main_arg3)
      ∧ r.2.mem ((c.tc : Thread Cert.FinishRefIdeal.nD Cert.FinishRefIdeal.τ).loc Cert.FinishRefIdeal.main_arg4) = m ((c.tc : Thread Cert.FinishRefIdeal.nD Cert.FinishRefIdeal.τ).loc Cert.FinishRefIdeal.main_arg4)
      ∧ r.2.mem ((c.tc : Thread Cert.FinishRefIdeal.nD Cert.FinishRefIdeal.τ).loc Cert.FinishRefIdeal.main_arg5) = m ((c.tc : Thread Cert.FinishRefIdeal.nD Cert.FinishRefIdeal.τ).loc Cert.FinishRefIdeal.main_arg5)
      ∧ r.2.mem ((c.tc : Thread Cert.FinishRefIdeal.nD Cert.FinishRefIdeal.τ).loc Cert.FinishRefIdeal.main_arg6) = m ((c.tc : Thread Cert.FinishRefIdeal.nD Cert.FinishRefIdeal.τ).loc Cert.FinishRefIdeal.main_arg6)
      ∧ r.2.mem ((c.tc : Thread Cert.FinishRefIdeal.nD Cert.FinishRefIdeal.τ).loc Cert.FinishRefIdeal.main_arg7) = m ((c.tc : Thread Cert.FinishRefIdeal.nD Cert.FinishRefIdeal.τ).loc Cert.FinishRefIdeal.main_arg7)
      ∧ r.2.mem ((c.tc : Thread Cert.FinishRefIdeal.nD Cert.FinishRefIdeal.τ).loc Cert.FinishRefIdeal.main_arg8) = m ((c.tc : Thread Cert.FinishRefIdeal.nD Cert.FinishRefIdeal.τ).loc Cert.FinishRefIdeal.main_arg8)
      ∧ r.2.mem ((c.tc : Thread Cert.FinishRefIdeal.nD Cert.FinishRefIdeal.τ).loc Cert.FinishRefIdeal.main_arg9) = m ((c.tc : Thread Cert.FinishRefIdeal.nD Cert.FinishRefIdeal.τ).loc Cert.FinishRefIdeal.main_arg9))
      ∧ r.2.sem = fun _ => 0)

def quiescent_FinishRefIdeal_pre_finite_heads [hFinishRefIdeal : Cert.FinishRefIdeal.Facts] [hPre_finite_heads : Cert.Pre_finite_heads.Facts] : Prop :=
  ∀ (m : (ℓ : Loc Cert.FinishRefIdeal.nD Cert.FinishRefIdeal.τ Cert.FinishRefIdeal.sig) → Buf (Elt Ideal) ℓ) (g : Dev Cert.FinishRefIdeal.nD → PrngReg), Pre_FinishRefIdeal_finite_heads m →
    θ_run (Cert.FinishRefIdeal.defs (F := Ideal)) (onTc (τ := Cert.FinishRefIdeal.τ) (Cert.FinishRefIdeal.main (F := Ideal))) ⟨m, fun _ => 0, g⟩ (fun r => (∀ c : Dev Cert.FinishRefIdeal.nD,
      r.2.mem ((c.tc : Thread Cert.FinishRefIdeal.nD Cert.FinishRefIdeal.τ).loc Cert.FinishRefIdeal.main_arg0) = m ((c.tc : Thread Cert.FinishRefIdeal.nD Cert.FinishRefIdeal.τ).loc Cert.FinishRefIdeal.main_arg0)
      ∧ r.2.mem ((c.tc : Thread Cert.FinishRefIdeal.nD Cert.FinishRefIdeal.τ).loc Cert.FinishRefIdeal.main_arg1) = m ((c.tc : Thread Cert.FinishRefIdeal.nD Cert.FinishRefIdeal.τ).loc Cert.FinishRefIdeal.main_arg1)
      ∧ r.2.mem ((c.tc : Thread Cert.FinishRefIdeal.nD Cert.FinishRefIdeal.τ).loc Cert.FinishRefIdeal.main_arg2) = m ((c.tc : Thread Cert.FinishRefIdeal.nD Cert.FinishRefIdeal.τ).loc Cert.FinishRefIdeal.main_arg2)
      ∧ r.2.mem ((c.tc : Thread Cert.FinishRefIdeal.nD Cert.FinishRefIdeal.τ).loc Cert.FinishRefIdeal.main_arg3) = m ((c.tc : Thread Cert.FinishRefIdeal.nD Cert.FinishRefIdeal.τ).loc Cert.FinishRefIdeal.main_arg3)
      ∧ r.2.mem ((c.tc : Thread Cert.FinishRefIdeal.nD Cert.FinishRefIdeal.τ).loc Cert.FinishRefIdeal.main_arg4) = m ((c.tc : Thread Cert.FinishRefIdeal.nD Cert.FinishRefIdeal.τ).loc Cert.FinishRefIdeal.main_arg4)
      ∧ r.2.mem ((c.tc : Thread Cert.FinishRefIdeal.nD Cert.FinishRefIdeal.τ).loc Cert.FinishRefIdeal.main_arg5) = m ((c.tc : Thread Cert.FinishRefIdeal.nD Cert.FinishRefIdeal.τ).loc Cert.FinishRefIdeal.main_arg5)
      ∧ r.2.mem ((c.tc : Thread Cert.FinishRefIdeal.nD Cert.FinishRefIdeal.τ).loc Cert.FinishRefIdeal.main_arg6) = m ((c.tc : Thread Cert.FinishRefIdeal.nD Cert.FinishRefIdeal.τ).loc Cert.FinishRefIdeal.main_arg6)
      ∧ r.2.mem ((c.tc : Thread Cert.FinishRefIdeal.nD Cert.FinishRefIdeal.τ).loc Cert.FinishRefIdeal.main_arg7) = m ((c.tc : Thread Cert.FinishRefIdeal.nD Cert.FinishRefIdeal.τ).loc Cert.FinishRefIdeal.main_arg7)
      ∧ r.2.mem ((c.tc : Thread Cert.FinishRefIdeal.nD Cert.FinishRefIdeal.τ).loc Cert.FinishRefIdeal.main_arg8) = m ((c.tc : Thread Cert.FinishRefIdeal.nD Cert.FinishRefIdeal.τ).loc Cert.FinishRefIdeal.main_arg8)
      ∧ r.2.mem ((c.tc : Thread Cert.FinishRefIdeal.nD Cert.FinishRefIdeal.τ).loc Cert.FinishRefIdeal.main_arg9) = m ((c.tc : Thread Cert.FinishRefIdeal.nD Cert.FinishRefIdeal.τ).loc Cert.FinishRefIdeal.main_arg9))
      ∧ r.2.sem = fun _ => 0)

def preserves_Ssd_SsdIdeal : Prop :=
  True

def algebraic_SsdIdeal_SsdRefIdeal_pre_finite [hSsdIdeal : Cert.SsdIdeal.Facts] [hSsdRefIdeal : Cert.SsdRefIdeal.Facts] [hPre_finite : Cert.Pre_finite.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal_finite m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)) →
    ∃ (v0 : (c : Dev Cert.SsdIdeal.nD) → Buf (Elt Ideal) ((c.tc : Thread Cert.SsdIdeal.nD Cert.SsdIdeal.τ).loc Cert.SsdIdeal.main_v8)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v8) = v0 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v76) = v0 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v14) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v0)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v0) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v2) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_Expert_ExpertIdeal : Prop :=
  True

def algebraic_ExpertIdeal_ExpertRefIdeal [hExpertIdeal : Cert.ExpertIdeal.Facts] [hExpertRefIdeal : Cert.ExpertRefIdeal.Facts] : Prop :=
  ∀ (m : (ℓ : Loc Cert.ExpertIdeal.nD Cert.ExpertIdeal.τ Cert.ExpertIdeal.sig) → Buf (Elt Ideal) ℓ) (g : Dev Cert.ExpertIdeal.nD → PrngReg)
    (m' : (ℓ : Loc Cert.ExpertRefIdeal.nD Cert.ExpertRefIdeal.τ Cert.ExpertRefIdeal.sig) → Buf (Elt Ideal) ℓ) (g' : Dev Cert.ExpertRefIdeal.nD → PrngReg), Pre_ExpertIdeal m →
    (∀ c : Dev Cert.ExpertIdeal.nD,
      m' ((c.tc : Thread Cert.ExpertRefIdeal.nD Cert.ExpertRefIdeal.τ).loc Cert.ExpertRefIdeal.main_arg0) = m ((c.tc : Thread Cert.ExpertIdeal.nD Cert.ExpertIdeal.τ).loc Cert.ExpertIdeal.main_arg0)
      ∧ m' ((c.tc : Thread Cert.ExpertRefIdeal.nD Cert.ExpertRefIdeal.τ).loc Cert.ExpertRefIdeal.main_arg1) = m ((c.tc : Thread Cert.ExpertIdeal.nD Cert.ExpertIdeal.τ).loc Cert.ExpertIdeal.main_arg1)) →
    ∃ (v0 : (c : Dev Cert.ExpertIdeal.nD) → Buf (Elt Ideal) ((c.tc : Thread Cert.ExpertIdeal.nD Cert.ExpertIdeal.τ).loc Cert.ExpertIdeal.main_v0)),
      θ_run (Cert.ExpertIdeal.defs (F := Ideal)) (onTc (τ := Cert.ExpertIdeal.τ) (Cert.ExpertIdeal.main (F := Ideal))) ⟨m, fun _ => 0, g⟩ (fun r => ∀ c : Dev Cert.ExpertIdeal.nD,
          r.2.mem ((c.tc : Thread Cert.ExpertIdeal.nD Cert.ExpertIdeal.τ).loc Cert.ExpertIdeal.main_v0) = v0 c
          ∧ r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
          ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1))
      ∧ θ_run (Cert.ExpertRefIdeal.defs (F := Ideal)) (onTc (τ := Cert.ExpertRefIdeal.τ) (Cert.ExpertRefIdeal.main (F := Ideal))) ⟨m', fun _ => 0, g'⟩ (fun r => ∀ c : Dev Cert.ExpertRefIdeal.nD,
          r.2.mem ((c.tc : Thread Cert.ExpertRefIdeal.nD Cert.ExpertRefIdeal.τ).loc Cert.ExpertRefIdeal.main_v2) = v0 c
          ∧ r.2.mem ((c.tc : Thread Cert.ExpertRefIdeal.nD Cert.ExpertRefIdeal.τ).loc Cert.ExpertRefIdeal.main_arg0) = m' ((c.tc : Thread Cert.ExpertRefIdeal.nD Cert.ExpertRefIdeal.τ).loc Cert.ExpertRefIdeal.main_arg0)
          ∧ r.2.mem ((c.tc : Thread Cert.ExpertRefIdeal.nD Cert.ExpertRefIdeal.τ).loc Cert.ExpertRefIdeal.main_arg1) = m' ((c.tc : Thread Cert.ExpertRefIdeal.nD Cert.ExpertRefIdeal.τ).loc Cert.ExpertRefIdeal.main_arg1))

def preserves_Weights_WeightsIdeal : Prop :=
  True

def algebraic_WeightsIdeal_WeightsRefIdeal [hWeightsIdeal : Cert.WeightsIdeal.Facts] [hWeightsRefIdeal : Cert.WeightsRefIdeal.Facts] : Prop :=
  ∀ (m : (ℓ : Loc Cert.WeightsIdeal.nD Cert.WeightsIdeal.τ Cert.WeightsIdeal.sig) → Buf (Elt Ideal) ℓ) (g : Dev Cert.WeightsIdeal.nD → PrngReg)
    (m' : (ℓ : Loc Cert.WeightsRefIdeal.nD Cert.WeightsRefIdeal.τ Cert.WeightsRefIdeal.sig) → Buf (Elt Ideal) ℓ) (g' : Dev Cert.WeightsRefIdeal.nD → PrngReg), Pre_WeightsIdeal m →
    (∀ c : Dev Cert.WeightsIdeal.nD,
      m' ((c.tc : Thread Cert.WeightsRefIdeal.nD Cert.WeightsRefIdeal.τ).loc Cert.WeightsRefIdeal.main_arg0) = m ((c.tc : Thread Cert.WeightsIdeal.nD Cert.WeightsIdeal.τ).loc Cert.WeightsIdeal.main_arg0)
      ∧ m' ((c.tc : Thread Cert.WeightsRefIdeal.nD Cert.WeightsRefIdeal.τ).loc Cert.WeightsRefIdeal.main_arg1) = m ((c.tc : Thread Cert.WeightsIdeal.nD Cert.WeightsIdeal.τ).loc Cert.WeightsIdeal.main_arg1)
      ∧ m' ((c.tc : Thread Cert.WeightsRefIdeal.nD Cert.WeightsRefIdeal.τ).loc Cert.WeightsRefIdeal.main_arg2) = m ((c.tc : Thread Cert.WeightsIdeal.nD Cert.WeightsIdeal.τ).loc Cert.WeightsIdeal.main_arg2)
      ∧ m' ((c.tc : Thread Cert.WeightsRefIdeal.nD Cert.WeightsRefIdeal.τ).loc Cert.WeightsRefIdeal.main_arg3) = m ((c.tc : Thread Cert.WeightsIdeal.nD Cert.WeightsIdeal.τ).loc Cert.WeightsIdeal.main_arg3)
      ∧ m' ((c.tc : Thread Cert.WeightsRefIdeal.nD Cert.WeightsRefIdeal.τ).loc Cert.WeightsRefIdeal.main_arg4) = m ((c.tc : Thread Cert.WeightsIdeal.nD Cert.WeightsIdeal.τ).loc Cert.WeightsIdeal.main_arg4)
      ∧ m' ((c.tc : Thread Cert.WeightsRefIdeal.nD Cert.WeightsRefIdeal.τ).loc Cert.WeightsRefIdeal.main_arg5) = m ((c.tc : Thread Cert.WeightsIdeal.nD Cert.WeightsIdeal.τ).loc Cert.WeightsIdeal.main_arg5)) →
    ∃ (v0 : (c : Dev Cert.WeightsIdeal.nD) → Buf (Elt Ideal) ((c.tc : Thread Cert.WeightsIdeal.nD Cert.WeightsIdeal.τ).loc Cert.WeightsIdeal.main_v0)),
      θ_run (Cert.WeightsIdeal.defs (F := Ideal)) (onTc (τ := Cert.WeightsIdeal.τ) (Cert.WeightsIdeal.main (F := Ideal))) ⟨m, fun _ => 0, g⟩ (fun r => ∀ c : Dev Cert.WeightsIdeal.nD,
          r.2.mem ((c.tc : Thread Cert.WeightsIdeal.nD Cert.WeightsIdeal.τ).loc Cert.WeightsIdeal.main_v0) = v0 c
          ∧ r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
          ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
          ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
          ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3)
          ∧ r.2.mem ((c.tc : Thread Cert.WeightsIdeal.nD Cert.WeightsIdeal.τ).loc Cert.WeightsIdeal.main_arg4) = m ((c.tc : Thread Cert.WeightsIdeal.nD Cert.WeightsIdeal.τ).loc Cert.WeightsIdeal.main_arg4)
          ∧ r.2.mem ((c.tc : Thread Cert.WeightsIdeal.nD Cert.WeightsIdeal.τ).loc Cert.WeightsIdeal.main_arg5) = m ((c.tc : Thread Cert.WeightsIdeal.nD Cert.WeightsIdeal.τ).loc Cert.WeightsIdeal.main_arg5))
      ∧ θ_run (Cert.WeightsRefIdeal.defs (F := Ideal)) (onTc (τ := Cert.WeightsRefIdeal.τ) (Cert.WeightsRefIdeal.main (F := Ideal))) ⟨m', fun _ => 0, g'⟩ (fun r => ∀ c : Dev Cert.WeightsRefIdeal.nD,
          r.2.mem ((c.tc : Thread Cert.WeightsRefIdeal.nD Cert.WeightsRefIdeal.τ).loc Cert.WeightsRefIdeal.main_v26) = v0 c
          ∧ r.2.mem ((c.tc : Thread Cert.WeightsRefIdeal.nD Cert.WeightsRefIdeal.τ).loc Cert.WeightsRefIdeal.main_arg0) = m' ((c.tc : Thread Cert.WeightsRefIdeal.nD Cert.WeightsRefIdeal.τ).loc Cert.WeightsRefIdeal.main_arg0)
          ∧ r.2.mem ((c.tc : Thread Cert.WeightsRefIdeal.nD Cert.WeightsRefIdeal.τ).loc Cert.WeightsRefIdeal.main_arg1) = m' ((c.tc : Thread Cert.WeightsRefIdeal.nD Cert.WeightsRefIdeal.τ).loc Cert.WeightsRefIdeal.main_arg1)
          ∧ r.2.mem ((c.tc : Thread Cert.WeightsRefIdeal.nD Cert.WeightsRefIdeal.τ).loc Cert.WeightsRefIdeal.main_arg2) = m' ((c.tc : Thread Cert.WeightsRefIdeal.nD Cert.WeightsRefIdeal.τ).loc Cert.WeightsRefIdeal.main_arg2)
          ∧ r.2.mem ((c.tc : Thread Cert.WeightsRefIdeal.nD Cert.WeightsRefIdeal.τ).loc Cert.WeightsRefIdeal.main_arg3) = m' ((c.tc : Thread Cert.WeightsRefIdeal.nD Cert.WeightsRefIdeal.τ).loc Cert.WeightsRefIdeal.main_arg3)
          ∧ r.2.mem ((c.tc : Thread Cert.WeightsRefIdeal.nD Cert.WeightsRefIdeal.τ).loc Cert.WeightsRefIdeal.main_arg4) = m' ((c.tc : Thread Cert.WeightsRefIdeal.nD Cert.WeightsRefIdeal.τ).loc Cert.WeightsRefIdeal.main_arg4)
          ∧ r.2.mem ((c.tc : Thread Cert.WeightsRefIdeal.nD Cert.WeightsRefIdeal.τ).loc Cert.WeightsRefIdeal.main_arg5) = m' ((c.tc : Thread Cert.WeightsRefIdeal.nD Cert.WeightsRefIdeal.τ).loc Cert.WeightsRefIdeal.main_arg5))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v4) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v22) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3))

def preserves_Norm1_Norm1Ideal : Prop :=
  True

def algebraic_Norm1Ideal_Norm1RefIdeal [hNorm1Ideal : Cert.Norm1Ideal.Facts] [hNorm1RefIdeal : Cert.Norm1RefIdeal.Facts] : Prop :=
  ∀ (m : (ℓ : Loc Cert.Norm1Ideal.nD Cert.Norm1Ideal.τ Cert.Norm1Ideal.sig) → Buf (Elt Ideal) ℓ) (g : Dev Cert.Norm1Ideal.nD → PrngReg)
    (m' : (ℓ : Loc Cert.Norm1RefIdeal.nD Cert.Norm1RefIdeal.τ Cert.Norm1RefIdeal.sig) → Buf (Elt Ideal) ℓ) (g' : Dev Cert.Norm1RefIdeal.nD → PrngReg), Pre_Norm1Ideal m →
    (∀ c : Dev Cert.Norm1Ideal.nD,
      m' ((c.tc : Thread Cert.Norm1RefIdeal.nD Cert.Norm1RefIdeal.τ).loc Cert.Norm1RefIdeal.main_arg0) = m ((c.tc : Thread Cert.Norm1Ideal.nD Cert.Norm1Ideal.τ).loc Cert.Norm1Ideal.main_arg0)
      ∧ m' ((c.tc : Thread Cert.Norm1RefIdeal.nD Cert.Norm1RefIdeal.τ).loc Cert.Norm1RefIdeal.main_arg1) = m ((c.tc : Thread Cert.Norm1Ideal.nD Cert.Norm1Ideal.τ).loc Cert.Norm1Ideal.main_arg1)
      ∧ m' ((c.tc : Thread Cert.Norm1RefIdeal.nD Cert.Norm1RefIdeal.τ).loc Cert.Norm1RefIdeal.main_arg2) = m ((c.tc : Thread Cert.Norm1Ideal.nD Cert.Norm1Ideal.τ).loc Cert.Norm1Ideal.main_arg2)
      ∧ m' ((c.tc : Thread Cert.Norm1RefIdeal.nD Cert.Norm1RefIdeal.τ).loc Cert.Norm1RefIdeal.main_arg3) = m ((c.tc : Thread Cert.Norm1Ideal.nD Cert.Norm1Ideal.τ).loc Cert.Norm1Ideal.main_arg3)) →
    ∃ (v0 : (c : Dev Cert.Norm1Ideal.nD) → Buf (Elt Ideal) ((c.tc : Thread Cert.Norm1Ideal.nD Cert.Norm1Ideal.τ).loc Cert.Norm1Ideal.main_v1)),
      θ_run (Cert.Norm1Ideal.defs (F := Ideal)) (onTc (τ := Cert.Norm1Ideal.τ) (Cert.Norm1Ideal.main (F := Ideal))) ⟨m, fun _ => 0, g⟩ (fun r => ∀ c : Dev Cert.Norm1Ideal.nD,
          r.2.mem ((c.tc : Thread Cert.Norm1Ideal.nD Cert.Norm1Ideal.τ).loc Cert.Norm1Ideal.main_v1) = v0 c
          ∧ r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
          ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
          ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
          ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3))
      ∧ θ_run (Cert.Norm1RefIdeal.defs (F := Ideal)) (onTc (τ := Cert.Norm1RefIdeal.τ) (Cert.Norm1RefIdeal.main (F := Ideal))) ⟨m', fun _ => 0, g'⟩ (fun r => ∀ c : Dev Cert.Norm1RefIdeal.nD,
          r.2.mem ((c.tc : Thread Cert.Norm1RefIdeal.nD Cert.Norm1RefIdeal.τ).loc Cert.Norm1RefIdeal.main_v56) = v0 c
          ∧ r.2.mem ((c.tc : Thread Cert.Norm1RefIdeal.nD Cert.Norm1RefIdeal.τ).loc Cert.Norm1RefIdeal.main_arg0) = m' ((c.tc : Thread Cert.Norm1RefIdeal.nD Cert.Norm1RefIdeal.τ).loc Cert.Norm1RefIdeal.main_arg0)
          ∧ r.2.mem ((c.tc : Thread Cert.Norm1RefIdeal.nD Cert.Norm1RefIdeal.τ).loc Cert.Norm1RefIdeal.main_arg1) = m' ((c.tc : Thread Cert.Norm1RefIdeal.nD Cert.Norm1RefIdeal.τ).loc Cert.Norm1RefIdeal.main_arg1)
          ∧ r.2.mem ((c.tc : Thread Cert.Norm1RefIdeal.nD Cert.Norm1RefIdeal.τ).loc Cert.Norm1RefIdeal.main_arg2) = m' ((c.tc : Thread Cert.Norm1RefIdeal.nD Cert.Norm1RefIdeal.τ).loc Cert.Norm1RefIdeal.main_arg2)
          ∧ r.2.mem ((c.tc : Thread Cert.Norm1RefIdeal.nD Cert.Norm1RefIdeal.τ).loc Cert.Norm1RefIdeal.main_arg3) = m' ((c.tc : Thread Cert.Norm1RefIdeal.nD Cert.Norm1RefIdeal.τ).loc Cert.Norm1RefIdeal.main_arg3))

def preserves_Norm2_Norm2Ideal : Prop :=
  True

def algebraic_Norm2Ideal_Norm2RefIdeal [hNorm2Ideal : Cert.Norm2Ideal.Facts] [hNorm2RefIdeal : Cert.Norm2RefIdeal.Facts] : Prop :=
  ∀ (m : (ℓ : Loc Cert.Norm2Ideal.nD Cert.Norm2Ideal.τ Cert.Norm2Ideal.sig) → Buf (Elt Ideal) ℓ) (g : Dev Cert.Norm2Ideal.nD → PrngReg)
    (m' : (ℓ : Loc Cert.Norm2RefIdeal.nD Cert.Norm2RefIdeal.τ Cert.Norm2RefIdeal.sig) → Buf (Elt Ideal) ℓ) (g' : Dev Cert.Norm2RefIdeal.nD → PrngReg), Pre_Norm2Ideal m →
    (∀ c : Dev Cert.Norm2Ideal.nD,
      m' ((c.tc : Thread Cert.Norm2RefIdeal.nD Cert.Norm2RefIdeal.τ).loc Cert.Norm2RefIdeal.main_arg0) = m ((c.tc : Thread Cert.Norm2Ideal.nD Cert.Norm2Ideal.τ).loc Cert.Norm2Ideal.main_arg0)
      ∧ m' ((c.tc : Thread Cert.Norm2RefIdeal.nD Cert.Norm2RefIdeal.τ).loc Cert.Norm2RefIdeal.main_arg1) = m ((c.tc : Thread Cert.Norm2Ideal.nD Cert.Norm2Ideal.τ).loc Cert.Norm2Ideal.main_arg1)
      ∧ m' ((c.tc : Thread Cert.Norm2RefIdeal.nD Cert.Norm2RefIdeal.τ).loc Cert.Norm2RefIdeal.main_arg2) = m ((c.tc : Thread Cert.Norm2Ideal.nD Cert.Norm2Ideal.τ).loc Cert.Norm2Ideal.main_arg2)) →
    ∃ (v0 : (c : Dev Cert.Norm2Ideal.nD) → Buf (Elt Ideal) ((c.tc : Thread Cert.Norm2Ideal.nD Cert.Norm2Ideal.τ).loc Cert.Norm2Ideal.main_v1)),
      θ_run (Cert.Norm2Ideal.defs (F := Ideal)) (onTc (τ := Cert.Norm2Ideal.τ) (Cert.Norm2Ideal.main (F := Ideal))) ⟨m, fun _ => 0, g⟩ (fun r => ∀ c : Dev Cert.Norm2Ideal.nD,
          r.2.mem ((c.tc : Thread Cert.Norm2Ideal.nD Cert.Norm2Ideal.τ).loc Cert.Norm2Ideal.main_v1) = v0 c
          ∧ r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
          ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
          ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2))
      ∧ θ_run (Cert.Norm2RefIdeal.defs (F := Ideal)) (onTc (τ := Cert.Norm2RefIdeal.τ) (Cert.Norm2RefIdeal.main (F := Ideal))) ⟨m', fun _ => 0, g'⟩ (fun r => ∀ c : Dev Cert.Norm2RefIdeal.nD,
          r.2.mem ((c.tc : Thread Cert.Norm2RefIdeal.nD Cert.Norm2RefIdeal.τ).loc Cert.Norm2RefIdeal.main_v28) = v0 c
          ∧ r.2.mem ((c.tc : Thread Cert.Norm2RefIdeal.nD Cert.Norm2RefIdeal.τ).loc Cert.Norm2RefIdeal.main_arg0) = m' ((c.tc : Thread Cert.Norm2RefIdeal.nD Cert.Norm2RefIdeal.τ).loc Cert.Norm2RefIdeal.main_arg0)
          ∧ r.2.mem ((c.tc : Thread Cert.Norm2RefIdeal.nD Cert.Norm2RefIdeal.τ).loc Cert.Norm2RefIdeal.main_arg1) = m' ((c.tc : Thread Cert.Norm2RefIdeal.nD Cert.Norm2RefIdeal.τ).loc Cert.Norm2RefIdeal.main_arg1)
          ∧ r.2.mem ((c.tc : Thread Cert.Norm2RefIdeal.nD Cert.Norm2RefIdeal.τ).loc Cert.Norm2RefIdeal.main_arg2) = m' ((c.tc : Thread Cert.Norm2RefIdeal.nD Cert.Norm2RefIdeal.τ).loc Cert.Norm2RefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v55) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Finish_FinishIdeal : Prop :=
  True

def algebraic_FinishIdeal_FinishRefIdeal_pre_finite_heads [hFinishIdeal : Cert.FinishIdeal.Facts] [hFinishRefIdeal : Cert.FinishRefIdeal.Facts] [hPre_finite_heads : Cert.Pre_finite_heads.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.FinishRefIdeal.nD Cert.FinishRefIdeal.τ Cert.FinishRefIdeal.sig) → Buf (Elt Ideal) ℓ) (g' : Dev Cert.FinishRefIdeal.nD → PrngReg), Pre_FinishIdeal_finite_heads m →
    (∀ c : Dev Cert.FinishIdeal.nD,
      m' ((c.tc : Thread Cert.FinishRefIdeal.nD Cert.FinishRefIdeal.τ).loc Cert.FinishRefIdeal.main_arg0) = m ((c.tc : Thread Cert.FinishIdeal.nD Cert.FinishIdeal.τ).loc Cert.FinishIdeal.main_arg0)
      ∧ m' ((c.tc : Thread Cert.FinishRefIdeal.nD Cert.FinishRefIdeal.τ).loc Cert.FinishRefIdeal.main_arg1) = m ((c.tc : Thread Cert.FinishIdeal.nD Cert.FinishIdeal.τ).loc Cert.FinishIdeal.main_arg1)
      ∧ m' ((c.tc : Thread Cert.FinishRefIdeal.nD Cert.FinishRefIdeal.τ).loc Cert.FinishRefIdeal.main_arg2) = m ((c.tc : Thread Cert.FinishIdeal.nD Cert.FinishIdeal.τ).loc Cert.FinishIdeal.main_arg2)
      ∧ m' ((c.tc : Thread Cert.FinishRefIdeal.nD Cert.FinishRefIdeal.τ).loc Cert.FinishRefIdeal.main_arg3) = m ((c.tc : Thread Cert.FinishIdeal.nD Cert.FinishIdeal.τ).loc Cert.FinishIdeal.main_arg3)
      ∧ m' ((c.tc : Thread Cert.FinishRefIdeal.nD Cert.FinishRefIdeal.τ).loc Cert.FinishRefIdeal.main_arg4) = m ((c.tc : Thread Cert.FinishIdeal.nD Cert.FinishIdeal.τ).loc Cert.FinishIdeal.main_arg4)
      ∧ m' ((c.tc : Thread Cert.FinishRefIdeal.nD Cert.FinishRefIdeal.τ).loc Cert.FinishRefIdeal.main_arg5) = m ((c.tc : Thread Cert.FinishIdeal.nD Cert.FinishIdeal.τ).loc Cert.FinishIdeal.main_arg5)
      ∧ m' ((c.tc : Thread Cert.FinishRefIdeal.nD Cert.FinishRefIdeal.τ).loc Cert.FinishRefIdeal.main_arg6) = m ((c.tc : Thread Cert.FinishIdeal.nD Cert.FinishIdeal.τ).loc Cert.FinishIdeal.main_arg6)
      ∧ m' ((c.tc : Thread Cert.FinishRefIdeal.nD Cert.FinishRefIdeal.τ).loc Cert.FinishRefIdeal.main_arg7) = m ((c.tc : Thread Cert.FinishIdeal.nD Cert.FinishIdeal.τ).loc Cert.FinishIdeal.main_arg7)
      ∧ m' ((c.tc : Thread Cert.FinishRefIdeal.nD Cert.FinishRefIdeal.τ).loc Cert.FinishRefIdeal.main_arg8) = m ((c.tc : Thread Cert.FinishIdeal.nD Cert.FinishIdeal.τ).loc Cert.FinishIdeal.main_arg8)
      ∧ m' ((c.tc : Thread Cert.FinishRefIdeal.nD Cert.FinishRefIdeal.τ).loc Cert.FinishRefIdeal.main_arg9) = m ((c.tc : Thread Cert.FinishIdeal.nD Cert.FinishIdeal.τ).loc Cert.FinishIdeal.main_arg9)) →
    ∃ (v0 : (c : Dev Cert.FinishIdeal.nD) → Buf (Elt Ideal) ((c.tc : Thread Cert.FinishIdeal.nD Cert.FinishIdeal.τ).loc Cert.FinishIdeal.main_v6_0)) (v1 : (c : Dev Cert.FinishIdeal.nD) → Buf (Elt Ideal) ((c.tc : Thread Cert.FinishIdeal.nD Cert.FinishIdeal.τ).loc Cert.FinishIdeal.main_v6_1)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v6_0) = v0 c
          ∧ r.2.mem ((c.tc : Thread Cert.FinishIdeal.nD Cert.FinishIdeal.τ).loc Cert.FinishIdeal.main_v6_1) = v1 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
          ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
          ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
          ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
          ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
          ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8)
          ∧ r.2.mem ((c.tc : Thread Cert.FinishIdeal.nD Cert.FinishIdeal.τ).loc Cert.FinishIdeal.main_arg9) = m ((c.tc : Thread Cert.FinishIdeal.nD Cert.FinishIdeal.τ).loc Cert.FinishIdeal.main_arg9))
      ∧ θ_run (Cert.FinishRefIdeal.defs (F := Ideal)) (onTc (τ := Cert.FinishRefIdeal.τ) (Cert.FinishRefIdeal.main (F := Ideal))) ⟨m', fun _ => 0, g'⟩ (fun r => ∀ c : Dev Cert.FinishRefIdeal.nD,
          r.2.mem ((c.tc : Thread Cert.FinishRefIdeal.nD Cert.FinishRefIdeal.τ).loc Cert.FinishRefIdeal.main_v69) = v0 c
          ∧ r.2.mem ((c.tc : Thread Cert.FinishRefIdeal.nD Cert.FinishRefIdeal.τ).loc Cert.FinishRefIdeal.main_v71) = v1 c
          ∧ r.2.mem ((c.tc : Thread Cert.FinishRefIdeal.nD Cert.FinishRefIdeal.τ).loc Cert.FinishRefIdeal.main_arg0) = m' ((c.tc : Thread Cert.FinishRefIdeal.nD Cert.FinishRefIdeal.τ).loc Cert.FinishRefIdeal.main_arg0)
          ∧ r.2.mem ((c.tc : Thread Cert.FinishRefIdeal.nD Cert.FinishRefIdeal.τ).loc Cert.FinishRefIdeal.main_arg1) = m' ((c.tc : Thread Cert.FinishRefIdeal.nD Cert.FinishRefIdeal.τ).loc Cert.FinishRefIdeal.main_arg1)
          ∧ r.2.mem ((c.tc : Thread Cert.FinishRefIdeal.nD Cert.FinishRefIdeal.τ).loc Cert.FinishRefIdeal.main_arg2) = m' ((c.tc : Thread Cert.FinishRefIdeal.nD Cert.FinishRefIdeal.τ).loc Cert.FinishRefIdeal.main_arg2)
          ∧ r.2.mem ((c.tc : Thread Cert.FinishRefIdeal.nD Cert.FinishRefIdeal.τ).loc Cert.FinishRefIdeal.main_arg3) = m' ((c.tc : Thread Cert.FinishRefIdeal.nD Cert.FinishRefIdeal.τ).loc Cert.FinishRefIdeal.main_arg3)
          ∧ r.2.mem ((c.tc : Thread Cert.FinishRefIdeal.nD Cert.FinishRefIdeal.τ).loc Cert.FinishRefIdeal.main_arg4) = m' ((c.tc : Thread Cert.FinishRefIdeal.nD Cert.FinishRefIdeal.τ).loc Cert.FinishRefIdeal.main_arg4)
          ∧ r.2.mem ((c.tc : Thread Cert.FinishRefIdeal.nD Cert.FinishRefIdeal.τ).loc Cert.FinishRefIdeal.main_arg5) = m' ((c.tc : Thread Cert.FinishRefIdeal.nD Cert.FinishRefIdeal.τ).loc Cert.FinishRefIdeal.main_arg5)
          ∧ r.2.mem ((c.tc : Thread Cert.FinishRefIdeal.nD Cert.FinishRefIdeal.τ).loc Cert.FinishRefIdeal.main_arg6) = m' ((c.tc : Thread Cert.FinishRefIdeal.nD Cert.FinishRefIdeal.τ).loc Cert.FinishRefIdeal.main_arg6)
          ∧ r.2.mem ((c.tc : Thread Cert.FinishRefIdeal.nD Cert.FinishRefIdeal.τ).loc Cert.FinishRefIdeal.main_arg7) = m' ((c.tc : Thread Cert.FinishRefIdeal.nD Cert.FinishRefIdeal.τ).loc Cert.FinishRefIdeal.main_arg7)
          ∧ r.2.mem ((c.tc : Thread Cert.FinishRefIdeal.nD Cert.FinishRefIdeal.τ).loc Cert.FinishRefIdeal.main_arg8) = m' ((c.tc : Thread Cert.FinishRefIdeal.nD Cert.FinishRefIdeal.τ).loc Cert.FinishRefIdeal.main_arg8)
          ∧ r.2.mem ((c.tc : Thread Cert.FinishRefIdeal.nD Cert.FinishRefIdeal.τ).loc Cert.FinishRefIdeal.main_arg9) = m' ((c.tc : Thread Cert.FinishRefIdeal.nD Cert.FinishRefIdeal.τ).loc Cert.FinishRefIdeal.main_arg9))

def Claim : Prop :=
  ∃ (hSsd : Cert.Ssd.Facts) (hSsdIdeal : Cert.SsdIdeal.Facts) (hSsdRefIdeal : Cert.SsdRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hQuery : Cert.Query.Facts) (hQueryIdeal : Cert.QueryIdeal.Facts) (hQueryRefIdeal : Cert.QueryRefIdeal.Facts) (hExpert : Cert.Expert.Facts) (hExpertIdeal : Cert.ExpertIdeal.Facts) (hExpertRefIdeal : Cert.ExpertRefIdeal.Facts) (hWeights : Cert.Weights.Facts) (hWeightsIdeal : Cert.WeightsIdeal.Facts) (hWeightsRefIdeal : Cert.WeightsRefIdeal.Facts) (hMod : Cert.Mod.Facts) (hModIdeal : Cert.ModIdeal.Facts) (hModRefIdeal : Cert.ModRefIdeal.Facts) (hFinal : Cert.Final.Facts) (hFinalIdeal : Cert.FinalIdeal.Facts) (hFinalRefIdeal : Cert.FinalRefIdeal.Facts) (hNorm1 : Cert.Norm1.Facts) (hNorm1Ideal : Cert.Norm1Ideal.Facts) (hNorm1RefIdeal : Cert.Norm1RefIdeal.Facts) (hNorm2 : Cert.Norm2.Facts) (hNorm2Ideal : Cert.Norm2Ideal.Facts) (hNorm2RefIdeal : Cert.Norm2RefIdeal.Facts) (hConv : Cert.Conv.Facts) (hConvIdeal : Cert.ConvIdeal.Facts) (hConvRefIdeal : Cert.ConvRefIdeal.Facts) (hFinish : Cert.Finish.Facts) (hFinishIdeal : Cert.FinishIdeal.Facts) (hFinishRefIdeal : Cert.FinishRefIdeal.Facts) (hPre_finite : Cert.Pre_finite.Facts) (hPre_finite_heads : Cert.Pre_finite_heads.Facts),
    quiescent_Ssd (hSsd := hSsd)
    ∧ quiescent_SsdIdeal (hSsdIdeal := hSsdIdeal)
    ∧ quiescent_SsdIdeal_pre_finite (hSsdIdeal := hSsdIdeal) (hPre_finite := hPre_finite)
    ∧ quiescent_SsdRefIdeal (hSsdRefIdeal := hSsdRefIdeal)
    ∧ quiescent_SsdRefIdeal_pre_finite (hSsdRefIdeal := hSsdRefIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Query (hQuery := hQuery)
    ∧ quiescent_QueryIdeal (hQueryIdeal := hQueryIdeal)
    ∧ quiescent_QueryRefIdeal (hQueryRefIdeal := hQueryRefIdeal)
    ∧ quiescent_Expert (hExpert := hExpert)
    ∧ quiescent_ExpertIdeal (hExpertIdeal := hExpertIdeal)
    ∧ quiescent_ExpertRefIdeal (hExpertRefIdeal := hExpertRefIdeal)
    ∧ quiescent_Weights (hWeights := hWeights)
    ∧ quiescent_WeightsIdeal (hWeightsIdeal := hWeightsIdeal)
    ∧ quiescent_WeightsRefIdeal (hWeightsRefIdeal := hWeightsRefIdeal)
    ∧ quiescent_Mod (hMod := hMod)
    ∧ quiescent_ModIdeal (hModIdeal := hModIdeal)
    ∧ quiescent_ModRefIdeal (hModRefIdeal := hModRefIdeal)
    ∧ quiescent_Final (hFinal := hFinal)
    ∧ quiescent_FinalIdeal (hFinalIdeal := hFinalIdeal)
    ∧ quiescent_FinalRefIdeal (hFinalRefIdeal := hFinalRefIdeal)
    ∧ quiescent_Norm1 (hNorm1 := hNorm1)
    ∧ quiescent_Norm1Ideal (hNorm1Ideal := hNorm1Ideal)
    ∧ quiescent_Norm1RefIdeal (hNorm1RefIdeal := hNorm1RefIdeal)
    ∧ quiescent_Norm2 (hNorm2 := hNorm2)
    ∧ quiescent_Norm2Ideal (hNorm2Ideal := hNorm2Ideal)
    ∧ quiescent_Norm2RefIdeal (hNorm2RefIdeal := hNorm2RefIdeal)
    ∧ quiescent_Conv (hConv := hConv)
    ∧ quiescent_ConvIdeal (hConvIdeal := hConvIdeal)
    ∧ quiescent_ConvRefIdeal (hConvRefIdeal := hConvRefIdeal)
    ∧ quiescent_Finish (hFinish := hFinish)
    ∧ quiescent_FinishIdeal (hFinishIdeal := hFinishIdeal)
    ∧ quiescent_FinishIdeal_pre_finite_heads (hFinishIdeal := hFinishIdeal) (hPre_finite_heads := hPre_finite_heads)
    ∧ quiescent_FinishRefIdeal (hFinishRefIdeal := hFinishRefIdeal)
    ∧ quiescent_FinishRefIdeal_pre_finite_heads (hFinishRefIdeal := hFinishRefIdeal) (hPre_finite_heads := hPre_finite_heads)
    ∧ preserves_Ssd_SsdIdeal
    ∧ algebraic_SsdIdeal_SsdRefIdeal_pre_finite (hSsdIdeal := hSsdIdeal) (hSsdRefIdeal := hSsdRefIdeal) (hPre_finite := hPre_finite)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Query_QueryIdeal
    ∧ algebraic_QueryIdeal_QueryRefIdeal (hQueryIdeal := hQueryIdeal) (hQueryRefIdeal := hQueryRefIdeal)
    ∧ preserves_Expert_ExpertIdeal
    ∧ algebraic_ExpertIdeal_ExpertRefIdeal (hExpertIdeal := hExpertIdeal) (hExpertRefIdeal := hExpertRefIdeal)
    ∧ preserves_Weights_WeightsIdeal
    ∧ algebraic_WeightsIdeal_WeightsRefIdeal (hWeightsIdeal := hWeightsIdeal) (hWeightsRefIdeal := hWeightsRefIdeal)
    ∧ preserves_Mod_ModIdeal
    ∧ algebraic_ModIdeal_ModRefIdeal (hModIdeal := hModIdeal) (hModRefIdeal := hModRefIdeal)
    ∧ preserves_Final_FinalIdeal
    ∧ algebraic_FinalIdeal_FinalRefIdeal (hFinalIdeal := hFinalIdeal) (hFinalRefIdeal := hFinalRefIdeal)
    ∧ preserves_Norm1_Norm1Ideal
    ∧ algebraic_Norm1Ideal_Norm1RefIdeal (hNorm1Ideal := hNorm1Ideal) (hNorm1RefIdeal := hNorm1RefIdeal)
    ∧ preserves_Norm2_Norm2Ideal
    ∧ algebraic_Norm2Ideal_Norm2RefIdeal (hNorm2Ideal := hNorm2Ideal) (hNorm2RefIdeal := hNorm2RefIdeal)
    ∧ preserves_Conv_ConvIdeal
    ∧ algebraic_ConvIdeal_ConvRefIdeal (hConvIdeal := hConvIdeal) (hConvRefIdeal := hConvRefIdeal)
    ∧ preserves_Finish_FinishIdeal
    ∧ algebraic_FinishIdeal_FinishRefIdeal_pre_finite_heads (hFinishIdeal := hFinishIdeal) (hFinishRefIdeal := hFinishRefIdeal) (hPre_finite_heads := hPre_finite_heads)
-- ==== Pre_finite.lean ====
abbrev S4x4352x4096 : Shape := ⟨3, ![4, 4352, 4096]⟩
abbrev S4x4352x2x32 : Shape := ⟨4, ![4, 4352, 2, 32]⟩
abbrev S_ : Shape := ⟨0, ![]⟩

class Facts : Prop where
  bcast_S_S4x4352x4096 : S_.BroadcastsInDim S4x4352x4096 (![] : Fin 0 → Fin S4x4352x4096.rank)
  reducesTo_S4x4352x4096_S_d0_1_2 : S4x4352x4096.ReducesTo [0, 1, 2] S_
  h_S_ : 0 < S_.numel
  bcast_S_S4x4352x2x32 : S_.BroadcastsInDim S4x4352x2x32 (![] : Fin 0 → Fin S4x4352x2x32.rank)
  reducesTo_S4x4352x2x32_S_d0_1_2_3 : S4x4352x2x32.ReducesTo [0, 1, 2, 3] S_

variable [Facts]

def fn {F : FTy → Type} [FloatOps F] (main_arg0 : FVec F S4x4352x4096 .f32) (main_arg1 : FVec F S4x4352x2x32 .f32) (main_arg2 : FVec F S4x4352x2x32 .f32) : IVec S_ 1 :=
  let main_v0 : FVec F S4x4352x4096 .f32 := Host.absf main_arg0
  let main_cst : FVec F S_ .f32 := constant S_ .f32 0x7F800000#32
  let main_v1 : FVec F S4x4352x4096 .f32 := broadcastInDim S4x4352x4096 ![] bcast_S_S4x4352x4096 main_cst
  let main_v2 : IVec S4x4352x4096 1 := cmpf .olt main_v0 main_v1
  let main_c : IVec S_ 1 := constantI S_ 1 1#1
  let main_v3 : IVec S_ 1 := (fun x v => Host.reduce IntOp.andi x v reducesTo_S4x4352x4096_S_d0_1_2 h_S_) main_v2 main_c
  let main_v4 : FVec F S4x4352x2x32 .f32 := Host.absf main_arg1
  let main_cst_0 : FVec F S_ .f32 := constant S_ .f32 0x7F800000#32
  let main_v5 : FVec F S4x4352x2x32 .f32 := broadcastInDim S4x4352x2x32 ![] bcast_S_S4x4352x2x32 main_cst_0
  let main_v6 : IVec S4x4352x2x32 1 := cmpf .olt main_v4 main_v5
  let main_c_1 : IVec S_ 1 := constantI S_ 1 1#1
  let main_v7 : IVec S_ 1 := (fun x v => Host.reduce IntOp.andi x v reducesTo_S4x4352x2x32_S_d0_1_2_3 h_S_) main_v6 main_c_1
  let main_v8 : IVec S_ 1 := andi main_v3 main_v7
  let main_v9 : FVec F S4x4352x2x32 .f32 := Host.absf main_arg2
  let main_cst_2 : FVec F S_ .f32 := constant S_ .f32 0x7F800000#32
  let main_v10 : FVec F S4x4352x2x32 .f32 := broadcastInDim S4x4352x2x32 ![] bcast_S_S4x4352x2x32 main_cst_2
  let main_v11 : IVec S4x4352x2x32 1 := cmpf .olt main_v9 main_v10
  let main_c_3 : IVec S_ 1 := constantI S_ 1 1#1
  let main_v12 : IVec S_ 1 := (fun x v => Host.reduce IntOp.andi x v reducesTo_S4x4352x2x32_S_d0_1_2_3 h_S_) main_v11 main_c_3
  let main_v13 : IVec S_ 1 := andi main_v8 main_v12
  main_v13
-- ==== Pre_finite_heads.lean ====
abbrev S2x4x4096x2048 : Shape := ⟨4, ![2, 4, 4096, 2048]⟩
abbrev S4x4352x2048 : Shape := ⟨3, ![4, 4352, 2048]⟩
abbrev S2048 : Shape := ⟨1, ![2048]⟩
abbrev S4x4352x4096 : Shape := ⟨3, ![4, 4352, 4096]⟩
abbrev S17408x13824 : Shape := ⟨2, ![17408, 13824]⟩
abbrev S32 : Shape := ⟨1, ![32]⟩
abbrev S_ : Shape := ⟨0, ![]⟩
abbrev S4x4096x2048 : Shape := ⟨3, ![4, 4096, 2048]⟩
abbrev S16384x2048 : Shape := ⟨2, ![16384, 2048]⟩

class Facts : Prop where
  bcast_S_S2x4x4096x2048 : S_.BroadcastsInDim S2x4x4096x2048 (![] : Fin 0 → Fin S2x4x4096x2048.rank)
  reducesTo_S2x4x4096x2048_S_d0_1_2_3 : S2x4x4096x2048.ReducesTo [0, 1, 2, 3] S_
  h_S_ : 0 < S_.numel
  slices_S4x4352x4096_S4x4096x2048_0_256_0 : S4x4352x4096.Slices ![0, 256, 0] S4x4096x2048
  bcast_S_S4x4096x2048 : S_.BroadcastsInDim S4x4096x2048 (![] : Fin 0 → Fin S4x4096x2048.rank)
  reducesTo_S4x4096x2048_S_d0_1_2 : S4x4096x2048.ReducesTo [0, 1, 2] S_
  slices_S17408x13824_S16384x2048_1024_7168 : S17408x13824.Slices ![1024, 7168] S16384x2048
  bcast_S_S16384x2048 : S_.BroadcastsInDim S16384x2048 (![] : Fin 0 → Fin S16384x2048.rank)
  reducesTo_S16384x2048_S_d0_1 : S16384x2048.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg8 : FVec F S32 .f32) (main_v14 : IVec S_ 1) (main_v16 : FVec F S16384x2048 .f32) (main_cst_4 : FVec F S_ .f32) : IVec S_ 1 :=
  let main_v17 : FVec F S16384x2048 .f32 := broadcastInDim S16384x2048 ![] bcast_S_S16384x2048 main_cst_4
  let main_v18 : IVec S16384x2048 1 := cmpf .olt main_v16 main_v17
  let main_c_5 : IVec S_ 1 := constantI S_ 1 1#1
  let main_v19 : IVec S_ 1 := (fun x v => Host.reduce IntOp.andi x v reducesTo_S16384x2048_S_d0_1 h_S_) main_v18 main_c_5
  let main_v20 : IVec S_ 1 := andi main_v14 main_v19
  let main_v21 : FVec F S32 .f32 := Host.absf main_arg8
  let main_cst_6 : FVec F S_ .f32 := constant S_ .f32 0x7F800000#32
  let main_v22 : FVec F S32 .f32 := broadcastInDim S32 ![] bcast_S_S32 main_cst_6
  let main_v23 : IVec S32 1 := cmpf .olt main_v21 main_v22
  let main_c_7 : IVec S_ 1 := constantI S_ 1 1#1
  let main_v24 : IVec S_ 1 := (fun x v => Host.reduce IntOp.andi x v reducesTo_S32_S_d0 h_S_) main_v23 main_c_7
  let main_v25 : IVec S_ 1 := andi main_v20 main_v24
  main_v25

def fn {F : FTy → Type} [FloatOps F] (main_arg0 : FVec F S2x4x4096x2048 .f32) (main_arg1 : FVec F S4x4352x2048 .f32) (main_arg2 : FVec F S4x4352x2048 .f32) (main_arg3 : FVec F S2048 .f32) (main_arg4 : FVec F S2048 .f32) (main_arg5 : FVec F S2x4x4096x2048 .f32) (main_arg6 : FVec F S4x4352x4096 .f32) (main_arg7 : FVec F S17408x13824 .f32) (main_arg8 : FVec F S32 .f32) (main_arg9 : FVec F S2048 .f32) : IVec S_ 1 :=
  let main_v0 : FVec F S2x4x4096x2048 .f32 := Host.absf main_arg0
  let main_cst : FVec F S_ .f32 := constant S_ .f32 0x7F800000#32
  let main_v1 : FVec F S2x4x4096x2048 .f32 := broadcastInDim S2x4x4096x2048 ![] bcast_S_S2x4x4096x2048 main_cst
  let main_v2 : IVec S2x4x4096x2048 1 := cmpf .olt main_v0 main_v1
  let main_c : IVec S_ 1 := constantI S_ 1 1#1
  let main_v3 : IVec S_ 1 := (fun x v => Host.reduce IntOp.andi x v reducesTo_S2x4x4096x2048_S_d0_1_2_3 h_S_) main_v2 main_c
  let main_v4 : FVec F S2x4x4096x2048 .f32 := Host.absf main_arg5
  let main_cst_0 : FVec F S_ .f32 := constant S_ .f32 0x7F800000#32
  let main_v5 : FVec F S2x4x4096x2048 .f32 := broadcastInDim S2x4x4096x2048 ![] bcast_S_S2x4x4096x2048 main_cst_0
  let main_v6 : IVec S2x4x4096x2048 1 := cmpf .olt main_v4 main_v5
  let main_c_1 : IVec S_ 1 := constantI S_ 1 1#1
  let main_v7 : IVec S_ 1 := (fun x v => Host.reduce IntOp.andi x v reducesTo_S2x4x4096x2048_S_d0_1_2_3 h_S_) main_v6 main_c_1
  let main_v8 : IVec S_ 1 := andi main_v3 main_v7
  let main_v9 : FVec F S4x4096x2048 .f32 := (extractStridedSlice S4x4096x2048 ![0, 256, 0] · slices_S4x4352x4096_S4x4096x2048_0_256_0) main_arg6
  let main_v10 : FVec F S4x4096x2048 .f32 := Host.absf main_v9
  let main_cst_2 : FVec F S_ .f32 := constant S_ .f32 0x7F800000#32
  let main_v11 : FVec F S4x4096x2048 .f32 := broadcastInDim S4x4096x2048 ![] bcast_S_S4x4096x2048 main_cst_2
  let main_v12 : IVec S4x4096x2048 1 := cmpf .olt main_v10 main_v11
  let main_c_3 : IVec S_ 1 := constantI S_ 1 1#1
  let main_v13 : IVec S_ 1 := (fun x v => Host.reduce IntOp.andi x v reducesTo_S4x4096x2048_S_d0_1_2 h_S_) main_v12 main_c_3
  let main_v14 : IVec S_ 1 := andi main_v8 main_v13
  let main_v15 : FVec F S16384x2048 .f32 := (extractStridedSlice S16384x2048 ![1024, 7168] · slices_S17408x13824_S16384x2048_1024_7168) main_arg7
  let main_v16 : FVec F S16384x2048 .f32 := Host.absf main_v15
  let main_cst_4 : FVec F S_ .f32 := constant S_ .f32 0x7F800000#32
  fn_part1 (F := F) main_arg8 main_v14 main_v16 main_cst_4
-- ==== Ssd.lean ====
abbrev S4x4352x4096 : Shape := ⟨3, ![4, 4352, 4096]⟩
abbrev S4x4352x2x32 : Shape := ⟨4, ![4, 4352, 2, 32]⟩
abbrev S4x4352x2x8x4 : Shape := ⟨5, ![4, 4352, 2, 8, 4]⟩
abbrev S2x4x8x4352x4 : Shape := ⟨5, ![2, 4, 8, 4352, 4]⟩
abbrev S2x4x8x4x4352 : Shape := ⟨5, ![2, 4, 8, 4, 4352]⟩
abbrev S2x4x4096x2048 : Shape := ⟨4, ![2, 4, 4096, 2048]⟩
abbrev S1x256x1024 : Shape := ⟨3, ![1, 256, 1024]⟩
abbrev S1x256x512 : Shape := ⟨3, ![1, 256, 512]⟩
abbrev S1x1x4x256x4 : Shape := ⟨5, ![1, 1, 4, 256, 4]⟩
abbrev S1x1x4x4x256 : Shape := ⟨5, ![1, 1, 4, 4, 256]⟩
abbrev S1x1x256x1024 : Shape := ⟨4, ![1, 1, 256, 1024]⟩
abbrev S128x1024 : Shape := ⟨2, ![128, 1024]⟩
abbrev S256x256 : Shape := ⟨2, ![256, 256]⟩
abbrev S256x128 : Shape := ⟨2, ![256, 128]⟩
abbrev S1x128 : Shape := ⟨2, ![1, 128]⟩
abbrev S1x256x128 : Shape := ⟨3, ![1, 256, 128]⟩
abbrev S1x1x1x256x4 : Shape := ⟨5, ![1, 1, 1, 256, 4]⟩
abbrev S256x4 : Shape := ⟨2, ![256, 4]⟩
abbrev S1x1x1x4x256 : Shape := ⟨5, ![1, 1, 1, 4, 256]⟩
abbrev S4x256 : Shape := ⟨2, ![4, 256]⟩
abbrev S128x256 : Shape := ⟨2, ![128, 256]⟩
abbrev S4 : Shape := ⟨1, ![4]⟩
abbrev S1x4 : Shape := ⟨2, ![1, 4]⟩
abbrev S128x128 : Shape := ⟨2, ![128, 128]⟩
abbrev S256x1 : Shape := ⟨2, ![256, 1]⟩
abbrev S1x256 : Shape := ⟨2, ![1, 256]⟩
abbrev S1x1 : Shape := ⟨2, ![1, 1]⟩
abbrev S1x1x256x128 : Shape := ⟨4, ![1, 1, 256, 128]⟩

abbrev nBuf : Space → Nat
  | .hbm => 12
  | .vmem => 17
  | .smem => 0
  | _ => 0

abbrev bufTy : (tb : Table) → Fin (tcTables nBuf tb) → BufTy
  | .hbm, ⟨0, _⟩ => ⟨S4x4352x4096, .f32⟩
  | .hbm, ⟨1, _⟩ => ⟨S4x4352x2x32, .f32⟩
  | .hbm, ⟨2, _⟩ => ⟨S4x4352x2x32, .f32⟩
  | .hbm, ⟨3, _⟩ => ⟨S4x4352x2x8x4, .f32⟩
  | .hbm, ⟨4, _⟩ => ⟨S2x4x8x4352x4, .f32⟩
  | .hbm, ⟨5, _⟩ => ⟨S4x4352x2x8x4, .f32⟩
  | .hbm, ⟨6, _⟩ => ⟨S2x4x8x4352x4, .f32⟩
  | .hbm, ⟨7, _⟩ => ⟨S4x4352x2x8x4, .f32⟩
  | .hbm, ⟨8, _⟩ => ⟨S2x4x8x4x4352, .f32⟩
  | .hbm, ⟨9, _⟩ => ⟨S4x4352x2x8x4, .f32⟩
  | .hbm, ⟨10, _⟩ => ⟨S2x4x8x4x4352, .f32⟩
  | .hbm, ⟨11, _⟩ => ⟨S2x4x4096x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x1x4x256x4, .f32⟩
  | .local _ .vmem, ⟨7, _⟩ => ⟨S1x1x4x256x4, .f32⟩
  | .local _ .vmem, ⟨8, _⟩ => ⟨S1x1x4x256x4, .f32⟩
  | .local _ .vmem, ⟨9, _⟩ => ⟨S1x1x4x256x4, .f32⟩
  | .local _ .vmem, ⟨10, _⟩ => ⟨S1x1x4x4x256, .f32⟩
  | .local _ .vmem, ⟨11, _⟩ => ⟨S1x1x4x4x256, .f32⟩
  | .local _ .vmem, ⟨12, _⟩ => ⟨S1x1x4x4x256, .f32⟩
  | .local _ .vmem, ⟨13, _⟩ => ⟨S1x1x4x4x256, .f32⟩
  | .local _ .vmem, ⟨14, _⟩ => ⟨S1x1x256x1024, .f32⟩
  | .local _ .vmem, ⟨15, _⟩ => ⟨S1x1x256x1024, .f32⟩
  | .local _ .vmem, ⟨16, _⟩ => ⟨S128x1024, .f32⟩
  | _, _ => ⟨S4x4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨4, ![2, 4, 2, 17], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 1 := Scalar.cmpi .slt arg3 c1_i32
  let c0_i32 : BitVec 32 := 0#32
  let v1 : BitVec 32 := Scalar.subi c0_i32 arg3
  let c1_i32_0 : BitVec 32 := 1#32
  let v2 : BitVec 32 := Scalar.subi arg3 c1_i32_0
  let c16_i32 : BitVec 32 := 16#32
  let v3 : BitVec 32 := Scalar.subi c16_i32 v2
  let v4 : BitVec 32 := Scalar.select v0 v1 v3
  let c1_i32_1 : BitVec 32 := 1#32
  let v5 : BitVec 1 := Scalar.cmpi .eq arg0 c1_i32_1
  let v6 : BitVec 32 := Scalar.select v5 v4 arg3
  let c0_i32_2 : BitVec 32 := 0#32
  ![arg1.toNat, v6.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 1 := Scalar.cmpi .slt arg3 c1_i32
  let c0_i32 : BitVec 32 := 0#32
  let v1 : BitVec 32 := Scalar.subi c0_i32 arg3
  let c1_i32_0 : BitVec 32 := 1#32
  let v2 : BitVec 32 := Scalar.subi arg3 c1_i32_0
  let c16_i32 : BitVec 32 := 16#32
  let v3 : BitVec 32 := Scalar.subi c16_i32 v2
  let v4 : BitVec 32 := Scalar.select v0 v1 v3
  let c1_i32_1 : BitVec 32 := 1#32
  let v5 : BitVec 1 := Scalar.cmpi .eq arg0 c1_i32_1
  let v6 : BitVec 32 := Scalar.select v5 v4 arg3
  let c4_i32 : BitVec 32 := 4#32
  let v7 : BitVec 32 := Scalar.addi c4_i32 arg2
  let c0_i32_2 : BitVec 32 := 0#32
  ![arg1.toNat, v6.toNat, v7.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 1 := Scalar.cmpi .slt arg3 c1_i32
  let c0_i32 : BitVec 32 := 0#32
  let v1 : BitVec 32 := Scalar.subi c0_i32 arg3
  let c1_i32_0 : BitVec 32 := 1#32
  let v2 : BitVec 32 := Scalar.subi arg3 c1_i32_0
  let c16_i32 : BitVec 32 := 16#32
  let v3 : BitVec 32 := Scalar.subi c16_i32 v2
  let v4 : BitVec 32 := Scalar.select v0 v1 v3
  let c1_i32_1 : BitVec 32 := 1#32
  let v5 : BitVec 1 := Scalar.cmpi .eq arg0 c1_i32_1
  let v6 : BitVec 32 := Scalar.select v5 v4 arg3
  let c6_i32 : BitVec 32 := 6#32
  let v7 : BitVec 32 := Scalar.addi c6_i32 arg2
  let c0_i32_2 : BitVec 32 := 0#32
  ![arg1.toNat, v6.toNat, v7.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 1 := Scalar.cmpi .slt arg3 c1_i32
  let c0_i32 : BitVec 32 := 0#32
  let v1 : BitVec 32 := Scalar.subi c0_i32 arg3
  let c1_i32_0 : BitVec 32 := 1#32
  let v2 : BitVec 32 := Scalar.subi arg3 c1_i32_0
  let c16_i32 : BitVec 32 := 16#32
  let v3 : BitVec 32 := Scalar.subi c16_i32 v2
  let v4 : BitVec 32 := Scalar.select v0 v1 v3
  let c1_i32_1 : BitVec 32 := 1#32
  let v5 : BitVec 1 := Scalar.cmpi .eq arg0 c1_i32_1
  let v6 : BitVec 32 := Scalar.select v5 v4 arg3
  let c0_i32_2 : BitVec 32 := 0#32
  let c0_i32_3 : BitVec 32 := 0#32
  ![arg0.toNat, arg1.toNat, arg2.toNat, v6.toNat, c0_i32_2.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 1 := Scalar.cmpi .slt arg3 c1_i32
  let c0_i32 : BitVec 32 := 0#32
  let v1 : BitVec 32 := Scalar.subi c0_i32 arg3
  let c1_i32_0 : BitVec 32 := 1#32
  let v2 : BitVec 32 := Scalar.subi arg3 c1_i32_0
  let c16_i32 : BitVec 32 := 16#32
  let v3 : BitVec 32 := Scalar.subi c16_i32 v2
  let v4 : BitVec 32 := Scalar.select v0 v1 v3
  let c1_i32_1 : BitVec 32 := 1#32
  let v5 : BitVec 1 := Scalar.cmpi .eq arg0 c1_i32_1
  let v6 : BitVec 32 := Scalar.select v5 v4 arg3
  let c0_i32_2 : BitVec 32 := 0#32
  let c0_i32_3 : BitVec 32 := 0#32
  ![arg0.toNat, arg1.toNat, arg2.toNat, v6.toNat, c0_i32_2.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 1 := Scalar.cmpi .slt arg3 c1_i32
  let c0_i32 : BitVec 32 := 0#32
  let v1 : BitVec 32 := Scalar.subi c0_i32 arg3
  let c1_i32_0 : BitVec 32 := 1#32
  let v2 : BitVec 32 := Scalar.subi arg3 c1_i32_0
  let c16_i32 : BitVec 32 := 16#32
  let v3 : BitVec 32 := Scalar.subi c16_i32 v2
  let v4 : BitVec 32 := Scalar.select v0 v1 v3
  let c1_i32_1 : BitVec 32 := 1#32
  let v5 : BitVec 1 := Scalar.cmpi .eq arg0 c1_i32_1
  let v6 : BitVec 32 := Scalar.select v5 v4 arg3
  let c0_i32_2 : BitVec 32 := 0#32
  let c0_i32_3 : BitVec 32 := 0#32
  ![arg0.toNat, arg1.toNat, arg2.toNat, c0_i32_2.toNat, v6.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 1 := Scalar.cmpi .slt arg3 c1_i32
  let c0_i32 : BitVec 32 := 0#32
  let v1 : BitVec 32 := Scalar.subi c0_i32 arg3
  let c1_i32_0 : BitVec 32 := 1#32
  let v2 : BitVec 32 := Scalar.subi arg3 c1_i32_0
  let c16_i32 : BitVec 32 := 16#32
  let v3 : BitVec 32 := Scalar.subi c16_i32 v2
  let v4 : BitVec 32 := Scalar.select v0 v1 v3
  let c1_i32_1 : BitVec 32 := 1#32
  let v5 : BitVec 1 := Scalar.cmpi .eq arg0 c1_i32_1
  let v6 : BitVec 32 := Scalar.select v5 v4 arg3
  let c0_i32_2 : BitVec 32 := 0#32
  let c0_i32_3 : BitVec 32 := 0#32
  ![arg0.toNat, arg1.toNat, arg2.toNat, c0_i32_2.toNat, v6.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.maxsi arg3 c1_i32
  let c1_i32_0 : BitVec 32 := 1#32
  let v1 : BitVec 1 := Scalar.cmpi .slt v0 c1_i32_0
  let c0_i32 : BitVec 32 := 0#32
  let v2 : BitVec 32 := Scalar.subi c0_i32 v0
  let c1_i32_1 : BitVec 32 := 1#32
  let v3 : BitVec 32 := Scalar.subi v0 c1_i32_1
  let c16_i32 : BitVec 32 := 16#32
  let v4 : BitVec 32 := Scalar.subi c16_i32 v3
  let v5 : BitVec 32 := Scalar.select v1 v2 v4
  let c1_i32_2 : BitVec 32 := 1#32
  let v6 : BitVec 1 := Scalar.cmpi .eq arg0 c1_i32_2
  let v7 : BitVec 32 := Scalar.select v6 v5 v0
  let c1_i32_3 : BitVec 32 := 1#32
  let v8 : BitVec 32 := Scalar.subi v7 c1_i32_3
  let c0_i32_4 : BitVec 32 := 0#32
  ![arg0.toNat, arg1.toNat, v8.toNat, arg2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x1x4x256x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1x1x4x256x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]

abbrev stage0_5 : Fin 2 → Memref sig .tc .vmem S1x1x4x4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, true]

abbrev stage0_6 : Fin 2 → Memref sig .tc .vmem S1x1x4x4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, true]

abbrev stage0_7 : Fin 2 → Memref sig .tc .vmem S1x1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true, true]
-- ==== SsdRefIdeal.lean ====
abbrev S4x4352x4096 : Shape := ⟨3, ![4, 4352, 4096]⟩
abbrev S4x4352x2x32 : Shape := ⟨4, ![4, 4352, 2, 32]⟩
abbrev S4x4352x2048 : Shape := ⟨3, ![4, 4352, 2048]⟩
abbrev S4x4352x1024 : Shape := ⟨3, ![4, 4352, 1024]⟩
abbrev S4x4352x32x64 : Shape := ⟨4, ![4, 4352, 32, 64]⟩
abbrev S4x4352x8x128 : Shape := ⟨4, ![4, 4352, 8, 128]⟩
abbrev S4x4352x1x32x64 : Shape := ⟨5, ![4, 4352, 1, 32, 64]⟩
abbrev S4x4352x2x32x1 : Shape := ⟨5, ![4, 4352, 2, 32, 1]⟩
abbrev S4x4352x2x32x64 : Shape := ⟨5, ![4, 4352, 2, 32, 64]⟩
abbrev S_ : Shape := ⟨0, ![]⟩
abbrev S8x32x64x128 : Shape := ⟨4, ![8, 32, 64, 128]⟩
abbrev S4x256x32x64 : Shape := ⟨4, ![4, 256, 32, 64]⟩
abbrev S8x256x32x64 : Shape := ⟨4, ![8, 256, 32, 64]⟩
abbrev S4x4096x32x64 : Shape := ⟨4, ![4, 4096, 32, 64]⟩
abbrev S8x4096x32x64 : Shape := ⟨4, ![8, 4096, 32, 64]⟩
abbrev S8x4352x32x64 : Shape := ⟨4, ![8, 4352, 32, 64]⟩
abbrev S4x4352x1x32 : Shape := ⟨4, ![4, 4352, 1, 32]⟩
abbrev S4x4352x32 : Shape := ⟨3, ![4, 4352, 32]⟩
abbrev S4x256x32 : Shape := ⟨3, ![4, 256, 32]⟩
abbrev S8x256x32 : Shape := ⟨3, ![8, 256, 32]⟩
abbrev S4x4096x32 : Shape := ⟨3, ![4, 4096, 32]⟩
abbrev S8x4096x32 : Shape := ⟨3, ![8, 4096, 32]⟩
abbrev S8x4352x32 : Shape := ⟨3, ![8, 4352, 32]⟩
abbrev S4x256x8x128 : Shape := ⟨4, ![4, 256, 8, 128]⟩
abbrev S8x256x8x128 : Shape := ⟨4, ![8, 256, 8, 128]⟩
abbrev S4x4096x8x128 : Shape := ⟨4, ![4, 4096, 8, 128]⟩
abbrev S8x4096x8x128 : Shape := ⟨4, ![8, 4096, 8, 128]⟩
abbrev S8x4352x8x128 : Shape := ⟨4, ![8, 4352, 8, 128]⟩
abbrev S8x34x128x8x4x64 : Shape := ⟨6, ![8, 34, 128, 8, 4, 64]⟩
abbrev S8x34x128x8x4 : Shape := ⟨5, ![8, 34, 128, 8, 4]⟩
abbrev S8x34x128x8x128 : Shape := ⟨5, ![8, 34, 128, 8, 128]⟩
abbrev S8x8x4x64x128 : Shape := ⟨5, ![8, 8, 4, 64, 128]⟩
abbrev S34x8x128x8x4x64 : Shape := ⟨6, ![34, 8, 128, 8, 4, 64]⟩
abbrev S34x8x128x8x4 : Shape := ⟨5, ![34, 8, 128, 8, 4]⟩
abbrev S34x8x128x8x128 : Shape := ⟨5, ![34, 8, 128, 8, 128]⟩
abbrev S1x8x128x8x4x64 : Shape := ⟨6, ![1, 8, 128, 8, 4, 64]⟩
abbrev S8x128x8x4x64 : Shape := ⟨5, ![8, 128, 8, 4, 64]⟩
abbrev S1x8x128x8x4 : Shape := ⟨5, ![1, 8, 128, 8, 4]⟩
abbrev S8x128x8x4 : Shape := ⟨4, ![8, 128, 8, 4]⟩
abbrev S1x8x128x8x128 : Shape := ⟨5, ![1, 8, 128, 8, 128]⟩
abbrev S8x128x8x128 : Shape := ⟨4, ![8, 128, 8, 128]⟩
abbrev S128x128 : Shape := ⟨2, ![128, 128]⟩
abbrev S1x128x128x1x1 : Shape := ⟨5, ![1, 128, 128, 1, 1]⟩
abbrev S8x128x1x8x4 : Shape := ⟨5, ![8, 128, 1, 8, 4]⟩
abbrev S8x1x128x8x4 : Shape := ⟨5, ![8, 1, 128, 8, 4]⟩
abbrev S8x128x128x8x4 : Shape := ⟨5, ![8, 128, 128, 8, 4]⟩
abbrev S8x8x128x128 : Shape := ⟨4, ![8, 8, 128, 128]⟩
abbrev S8x128x128x8 : Shape := ⟨4, ![8, 128, 128, 8]⟩
abbrev S8x128x128x8x1 : Shape := ⟨5, ![8, 128, 128, 8, 1]⟩
abbrev S8x1x8x4 : Shape := ⟨4, ![8, 1, 8, 4]⟩
abbrev S8x128x8x4x1 : Shape := ⟨5, ![8, 128, 8, 4, 1]⟩
abbrev S8x8x4 : Shape := ⟨3, ![8, 8, 4]⟩
abbrev S8x8x4x1x1 : Shape := ⟨5, ![8, 8, 4, 1, 1]⟩
abbrev S1x4x4096x32x64 : Shape := ⟨5, ![1, 4, 4096, 32, 64]⟩
abbrev S2x4x4096x32x64 : Shape := ⟨5, ![2, 4, 4096, 32, 64]⟩
abbrev S2x4x4096x2048 : Shape := ⟨4, ![2, 4, 4096, 2048]⟩

abbrev nBuf : Space → Nat
  | .hbm => 180
  | .vmem => 0
  | .smem => 0
  | _ => 0

abbrev hbmTy0_0 (i : Nat) : BufTy := match i % 128 with
  | 0 => ⟨S4x4352x4096, .f32⟩
  | 1 => ⟨S4x4352x2x32, .f32⟩
  | 2 => ⟨S4x4352x2x32, .f32⟩
  | 3 => ⟨S4x4352x2048, .f32⟩
  | 4 => ⟨S4x4352x1024, .f32⟩
  | 5 => ⟨S4x4352x1024, .f32⟩
  | 6 => ⟨S4x4352x32x64, .f32⟩
  | 7 => ⟨S4x4352x8x128, .f32⟩
  | 8 => ⟨S4x4352x8x128, .f32⟩
  | 9 => ⟨S4x4352x1x32x64, .f32⟩
  | 10 => ⟨S4x4352x2x32x1, .f32⟩
  | 11 => ⟨S4x4352x2x32x64, .f32⟩
  | 12 => ⟨S4x4352x2x32x64, .f32⟩
  | 13 => ⟨S4x4352x2x32x64, .f32⟩
  | 14 => ⟨S_, .f32⟩
  | 15 => ⟨S8x32x64x128, .f32⟩
  | 16 => ⟨S4x4352x1x32x64, .f32⟩
  | 17 => ⟨S4x4352x32x64, .f32⟩
  | 18 => ⟨S4x4352x1x32x64, .f32⟩
  | 19 => ⟨S4x4352x32x64, .f32⟩
  | 20 => ⟨S4x256x32x64, .f32⟩
  | 21 => ⟨S4x256x32x64, .f32⟩
  | 22 => ⟨S4x256x32x64, .f32⟩
  | 23 => ⟨S8x256x32x64, .f32⟩
  | 24 => ⟨S4x4096x32x64, .f32⟩
  | 25 => ⟨S4x4096x32x64, .f32⟩
  | 26 => ⟨S4x4096x32x64, .f32⟩
  | 27 => ⟨S8x4096x32x64, .f32⟩
  | 28 => ⟨S8x4352x32x64, .f32⟩
  | 29 => ⟨S4x4352x1x32, .f32⟩
  | 30 => ⟨S4x4352x32, .f32⟩
  | 31 => ⟨S4x4352x1x32, .f32⟩
  | 32 => ⟨S4x4352x32, .f32⟩
  | 33 => ⟨S4x256x32, .f32⟩
  | 34 => ⟨S4x256x32, .f32⟩
  | 35 => ⟨S4x256x32, .f32⟩
  | 36 => ⟨S8x256x32, .f32⟩
  | 37 => ⟨S4x4096x32, .f32⟩
  | 38 => ⟨S4x4096x32, .f32⟩
  | 39 => ⟨S4x4096x32, .f32⟩
  | 40 => ⟨S8x4096x32, .f32⟩
  | 41 => ⟨S8x4352x32, .f32⟩
  | 42 => ⟨S4x256x8x128, .f32⟩
  | 43 => ⟨S4x256x8x128, .f32⟩
  | 44 => ⟨S4x256x8x128, .f32⟩
  | 45 => ⟨S8x256x8x128, .f32⟩
  | 46 => ⟨S4x4096x8x128, .f32⟩
  | 47 => ⟨S4x4096x8x128, .f32⟩
  | 48 => ⟨S4x4096x8x128, .f32⟩
  | 49 => ⟨S8x4096x8x128, .f32⟩
  | 50 => ⟨S8x4352x8x128, .f32⟩
  | 51 => ⟨S4x256x8x128, .f32⟩
  | 52 => ⟨S4x256x8x128, .f32⟩
  | 53 => ⟨S4x256x8x128, .f32⟩
  | 54 => ⟨S8x256x8x128, .f32⟩
  | 55 => ⟨S4x4096x8x128, .f32⟩
  | 56 => ⟨S4x4096x8x128, .f32⟩
  | 57 => ⟨S4x4096x8x128, .f32⟩
  | 58 => ⟨S8x4096x8x128, .f32⟩
  | 59 => ⟨S8x4352x8x128, .f32⟩
  | 60 => ⟨S8x34x128x8x4x64, .f32⟩
  | 61 => ⟨S8x34x128x8x4, .f32⟩
  | 62 => ⟨S8x34x128x8x128, .f32⟩
  | 63 => ⟨S8x34x128x8x128, .f32⟩
  | 64 => ⟨S8x8x4x64x128, .f32⟩
  | 65 => ⟨S34x8x128x8x4x64, .f32⟩
  | 66 => ⟨S34x8x128x8x4, .f32⟩
  | 67 => ⟨S34x8x128x8x128, .f32⟩
  | 68 => ⟨S34x8x128x8x128, .f32⟩
  | 69 => ⟨S_, .f32⟩
  | 70 => ⟨S34x8x128x8x4x64, .f32⟩
  | 71 => ⟨S_, .i32⟩
  | 72 => ⟨S34x8x128x8x4x64, .f32⟩
  | 73 => ⟨S34x8x128x8x4, .f32⟩
  | 74 => ⟨S34x8x128x8x128, .f32⟩
  | 75 => ⟨S34x8x128x8x128, .f32⟩
  | 76 => ⟨S_, .i32⟩
  | 77 => ⟨S8x8x4x64x128, .f32⟩
  | 78 => ⟨S34x8x128x8x4x64, .f32⟩
  | 79 => ⟨S_, .i32⟩
  | 80 => ⟨S_, .i1⟩
  | 81 => ⟨S_, .i32⟩
  | 82 => ⟨S_, .i32⟩
  | 83 => ⟨S_, .i32⟩
  | 84 => ⟨S_, .i32⟩
  | 85 => ⟨S_, .i32⟩
  | 86 => ⟨S1x8x128x8x4x64, .f32⟩
  | 87 => ⟨S8x128x8x4x64, .f32⟩
  | 88 => ⟨S_, .i32⟩
  | 89 => ⟨S_, .i32⟩
  | 90 => ⟨S_, .i32⟩
  | 91 => ⟨S_, .i32⟩
  | 92 => ⟨S1x8x128x8x4, .f32⟩
  | 93 => ⟨S8x128x8x4, .f32⟩
  | 94 => ⟨S_, .i32⟩
  | 95 => ⟨S_, .i32⟩
  | 96 => ⟨S_, .i32⟩
  | 97 => ⟨S_, .i32⟩
  | 98 => ⟨S1x8x128x8x128, .f32⟩
  | 99 => ⟨S8x128x8x128, .f32⟩
  | 100 => ⟨S_, .i32⟩
  | 101 => ⟨S_, .i32⟩
  | 102 => ⟨S_, .i32⟩
  | 103 => ⟨S_, .i32⟩
  | 104 => ⟨S1x8x128x8x128, .f32⟩
  | 105 => ⟨S8x128x8x128, .f32⟩
  | 106 => ⟨S_, .f32⟩
  | 107 => ⟨S_, .f32⟩
  | 108 => ⟨S8x128x8x4, .f32⟩
  | 109 => ⟨S_, .i1⟩
  | 110 => ⟨S128x128, .i1⟩
  | 111 => ⟨S128x128, .i32⟩
  | 112 => ⟨S_, .i32⟩
  | 113 => ⟨S128x128, .i32⟩
  | 114 => ⟨S128x128, .i32⟩
  | 115 => ⟨S128x128, .i32⟩
  | 116 => ⟨S128x128, .i1⟩
  | 117 => ⟨S_, .i1⟩
  | 118 => ⟨S128x128, .i1⟩
  | 119 => ⟨S128x128, .i1⟩
  | 120 => ⟨S1x128x128x1x1, .i1⟩
  | 121 => ⟨S8x128x1x8x4, .f32⟩
  | 122 => ⟨S8x1x128x8x4, .f32⟩
  | 123 => ⟨S8x128x128x8x4, .f32⟩
  | 124 => ⟨S8x128x128x8x4, .f32⟩
  | 125 => ⟨S8x128x128x8x4, .f32⟩
  | 126 => ⟨S_, .f32⟩
  | 127 => ⟨S_, .f32⟩
  | _ => ⟨S4x4352x4096, .f32⟩

abbrev hbmTy0_1 (i : Nat) : BufTy := match i % 128 with
  | 0 => ⟨S8x128x128x8x4, .i1⟩
  | 1 => ⟨S8x128x128x8x4, .f32⟩
  | 2 => ⟨S8x128x128x8x4, .f32⟩
  | 3 => ⟨S8x128x128x8x4, .f32⟩
  | 4 => ⟨S8x8x128x128, .f32⟩
  | 5 => ⟨S8x128x128x8, .f32⟩
  | 6 => ⟨S8x128x128x8x1, .f32⟩
  | 7 => ⟨S8x128x128x8x4, .f32⟩
  | 8 => ⟨S8x128x128x8x4, .f32⟩
  | 9 => ⟨S8x8x4x64x128, .f32⟩
  | 10 => ⟨S8x128x8x4x64, .f32⟩
  | 11 => ⟨S8x1x8x4, .f32⟩
  | 12 => ⟨S8x128x8x4, .f32⟩
  | 13 => ⟨S8x128x8x4, .f32⟩
  | 14 => ⟨S8x128x8x4, .f32⟩
  | 15 => ⟨S8x128x8x4x1, .f32⟩
  | 16 => ⟨S8x128x8x4x64, .f32⟩
  | 17 => ⟨S8x128x8x4x64, .f32⟩
  | 18 => ⟨S8x8x4x64x128, .f32⟩
  | 19 => ⟨S8x1x8x4, .f32⟩
  | 20 => ⟨S8x8x4, .f32⟩
  | 21 => ⟨S8x8x4, .f32⟩
  | 22 => ⟨S8x8x4x64x128, .f32⟩
  | 23 => ⟨S8x128x8x4x64, .f32⟩
  | 24 => ⟨S8x128x8x4, .f32⟩
  | 25 => ⟨S8x128x8x4x1, .f32⟩
  | 26 => ⟨S8x128x8x4x64, .f32⟩
  | 27 => ⟨S8x128x8x4x64, .f32⟩
  | 28 => ⟨S8x8x4x1x1, .f32⟩
  | 29 => ⟨S8x8x4x64x128, .f32⟩
  | 30 => ⟨S8x8x4x64x128, .f32⟩
  | 31 => ⟨S8x8x4x64x128, .f32⟩
  | 32 => ⟨S8x128x8x4x64, .f32⟩
  | 33 => ⟨S1x8x128x8x4x64, .f32⟩
  | 34 => ⟨S_, .i32⟩
  | 35 => ⟨S_, .i32⟩
  | 36 => ⟨S_, .i32⟩
  | 37 => ⟨S_, .i32⟩
  | 38 => ⟨S_, .i32⟩
  | 39 => ⟨S34x8x128x8x4x64, .f32⟩
  | 40 => ⟨S_, .i32⟩
  | 41 => ⟨S_, .i32⟩
  | 42 => ⟨S8x34x128x8x4x64, .f32⟩
  | 43 => ⟨S8x4352x32x64, .f32⟩
  | 44 => ⟨S8x4096x32x64, .f32⟩
  | 45 => ⟨S4x4096x32x64, .f32⟩
  | 46 => ⟨S4x4096x32x64, .f32⟩
  | 47 => ⟨S4x4096x32x64, .f32⟩
  | 48 => ⟨S1x4x4096x32x64, .f32⟩
  | 49 => ⟨S1x4x4096x32x64, .f32⟩
  | 50 => ⟨S2x4x4096x32x64, .f32⟩
  | 51 => ⟨S2x4x4096x2048, .f32⟩
  | _ => ⟨S4x4352x4096, .f32⟩

abbrev hbmTy (i : Nat) : BufTy := match i / 128 with
  | 0 => hbmTy0_0 i
  | 1 => hbmTy0_1 i
  | _ => ⟨S4x4352x4096, .f32⟩

abbrev bufTy : (tb : Table) → Fin (tcTables nBuf tb) → BufTy
  | .hbm, ⟨i, _⟩ => hbmTy i
  | _, _ => ⟨S4x4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_cst_0 : Ref sig .tc := ⟨.hbm, 69, rfl⟩
abbrev main_v65 : Ref sig .tc := ⟨.hbm, 70, rfl⟩
abbrev main_c : Ref sig .tc := ⟨.hbm, 71, rfl⟩
abbrev main_v66_0 : Ref sig .tc := ⟨.hbm, 72, rfl⟩
abbrev main_v66_1 : Ref sig .tc := ⟨.hbm, 73, rfl⟩
abbrev main_v66_2 : Ref sig .tc := ⟨.hbm, 74, rfl⟩
abbrev main_v66_3 : Ref sig .tc := ⟨.hbm, 75, rfl⟩
abbrev main_v66_4 : Ref sig .tc := ⟨.hbm, 76, rfl⟩
abbrev main_v66_5 : Ref sig .tc := ⟨.hbm, 77, rfl⟩
abbrev main_v66_6 : Ref sig .tc := ⟨.hbm, 78, rfl⟩
abbrev main_while0c_c_7 : Ref sig .tc := ⟨.hbm, 79, rfl⟩
abbrev main_while0c_v77 : Ref sig .tc := ⟨.hbm, 80, rfl⟩
abbrev main_while0b_call8_c : Ref sig .tc := ⟨.hbm, 81, rfl⟩
abbrev main_while0b_call8_c_0 : Ref sig .tc := ⟨.hbm, 82, rfl⟩
abbrev main_while0b_call8_c_1 : Ref sig .tc := ⟨.hbm, 83, rfl⟩
abbrev main_while0b_call8_c_2 : Ref sig .tc := ⟨.hbm, 84, rfl⟩
abbrev main_while0b_call8_c_3 : Ref sig .tc := ⟨.hbm, 85, rfl⟩
abbrev main_while0b_call8_v0 : Ref sig .tc := ⟨.hbm, 86, rfl⟩
abbrev main_while0b_v77 : Ref sig .tc := ⟨.hbm, 87, rfl⟩
abbrev main_while0b_call9_c : Ref sig .tc := ⟨.hbm, 88, rfl⟩
abbrev main_while0b_call9_c_0 : Ref sig .tc := ⟨.hbm, 89, rfl⟩
abbrev main_while0b_call9_c_1 : Ref sig .tc := ⟨.hbm, 90, rfl⟩
abbrev main_while0b_call9_c_2 : Ref sig .tc := ⟨.hbm, 91, rfl⟩
abbrev main_while0b_call9_v0 : Ref sig .tc := ⟨.hbm, 92, rfl⟩
abbrev main_while0b_v78 : Ref sig .tc := ⟨.hbm, 93, rfl⟩
abbrev main_while0b_call10_c : Ref sig .tc := ⟨.hbm, 94, rfl⟩
abbrev main_while0b_call10_c_0 : Ref sig .tc := ⟨.hbm, 95, rfl⟩
abbrev main_while0b_call10_c_1 : Ref sig .tc := ⟨.hbm, 96, rfl⟩
abbrev main_while0b_call10_c_2 : Ref sig .tc := ⟨.hbm, 97, rfl⟩
abbrev main_while0b_call10_v0 : Ref sig .tc := ⟨.hbm, 98, rfl⟩
abbrev main_while0b_v79 : Ref sig .tc := ⟨.hbm, 99, rfl⟩
abbrev main_while0b_call11_c : Ref sig .tc := ⟨.hbm, 100, rfl⟩
abbrev main_while0b_call11_c_0 : Ref sig .tc := ⟨.hbm, 101, rfl⟩
abbrev main_while0b_call11_c_1 : Ref sig .tc := ⟨.hbm, 102, rfl⟩
abbrev main_while0b_call11_c_2 : Ref sig .tc := ⟨.hbm, 103, rfl⟩
abbrev main_while0b_call11_v0 : Ref sig .tc := ⟨.hbm, 104, rfl⟩
abbrev main_while0b_v80 : Ref sig .tc := ⟨.hbm, 105, rfl⟩
abbrev main_while0b_call12_call0_cst : Ref sig .tc := ⟨.hbm, 106, rfl⟩
abbrev main_while0b_call12_call0_v0 : Ref sig .tc := ⟨.hbm, 107, rfl⟩
abbrev main_while0b_v81 : Ref sig .tc := ⟨.hbm, 108, rfl⟩
abbrev main_while0b_c_7 : Ref sig .tc := ⟨.hbm, 109, rfl⟩
abbrev main_while0b_v82 : Ref sig .tc := ⟨.hbm, 110, rfl⟩
abbrev main_while0b_call13_v0 : Ref sig .tc := ⟨.hbm, 111, rfl⟩
abbrev main_while0b_call13_c : Ref sig .tc := ⟨.hbm, 112, rfl⟩
abbrev main_while0b_call13_v1 : Ref sig .tc := ⟨.hbm, 113, rfl⟩
abbrev main_while0b_call13_v2 : Ref sig .tc := ⟨.hbm, 114, rfl⟩
abbrev main_while0b_call13_v3 : Ref sig .tc := ⟨.hbm, 115, rfl⟩
abbrev main_while0b_call13_v4 : Ref sig .tc := ⟨.hbm, 116, rfl⟩
abbrev main_while0b_call13_c_0 : Ref sig .tc := ⟨.hbm, 117, rfl⟩
abbrev main_while0b_call13_v5 : Ref sig .tc := ⟨.hbm, 118, rfl⟩
abbrev main_while0b_v83 : Ref sig .tc := ⟨.hbm, 119, rfl⟩
abbrev main_while0b_v84 : Ref sig .tc := ⟨.hbm, 120, rfl⟩
abbrev main_while0b_v85 : Ref sig .tc := ⟨.hbm, 121, rfl⟩
abbrev main_while0b_v86 : Ref sig .tc := ⟨.hbm, 122, rfl⟩
abbrev main_while0b_v87 : Ref sig .tc := ⟨.hbm, 123, rfl⟩
abbrev main_while0b_v88 : Ref sig .tc := ⟨.hbm, 124, rfl⟩
abbrev main_while0b_v89 : Ref sig .tc := ⟨.hbm, 125, rfl⟩
abbrev main_while0b_cst_8 : Ref sig .tc := ⟨.hbm, 126, rfl⟩
abbrev main_while0b_call14_v0 : Ref sig .tc := ⟨.hbm, 127, rfl⟩
abbrev main_while0b_call14_v1 : Ref sig .tc := ⟨.hbm, 128, rfl⟩
abbrev main_while0b_call14_v2 : Ref sig .tc := ⟨.hbm, 129, rfl⟩
abbrev main_while0b_v90 : Ref sig .tc := ⟨.hbm, 130, rfl⟩
abbrev main_while0b_v91 : Ref sig .tc := ⟨.hbm, 131, rfl⟩
abbrev main_while0b_v92 : Ref sig .tc := ⟨.hbm, 132, rfl⟩
abbrev main_while0b_v93 : Ref sig .tc := ⟨.hbm, 133, rfl⟩
abbrev main_while0b_v94 : Ref sig .tc := ⟨.hbm, 134, rfl⟩
abbrev main_while0b_v95 : Ref sig .tc := ⟨.hbm, 135, rfl⟩
abbrev main_while0b_v96 : Ref sig .tc := ⟨.hbm, 136, rfl⟩
abbrev main_while0b_v97 : Ref sig .tc := ⟨.hbm, 137, rfl⟩
abbrev main_while0b_v98 : Ref sig .tc := ⟨.hbm, 138, rfl⟩
abbrev main_while0b_v99 : Ref sig .tc := ⟨.hbm, 139, rfl⟩
abbrev main_while0b_v100 : Ref sig .tc := ⟨.hbm, 140, rfl⟩
abbrev main_while0b_v101 : Ref sig .tc := ⟨.hbm, 141, rfl⟩
abbrev main_while0b_v102 : Ref sig .tc := ⟨.hbm, 142, rfl⟩
abbrev main_while0b_v103 : Ref sig .tc := ⟨.hbm, 143, rfl⟩
abbrev main_while0b_v104 : Ref sig .tc := ⟨.hbm, 144, rfl⟩
abbrev main_while0b_v105 : Ref sig .tc := ⟨.hbm, 145, rfl⟩
abbrev main_while0b_v106 : Ref sig .tc := ⟨.hbm, 146, rfl⟩
abbrev main_while0b_v107 : Ref sig .tc := ⟨.hbm, 147, rfl⟩
abbrev main_while0b_v108 : Ref sig .tc := ⟨.hbm, 148, rfl⟩
abbrev main_while0b_v109 : Ref sig .tc := ⟨.hbm, 149, rfl⟩
abbrev main_while0b_v110 : Ref sig .tc := ⟨.hbm, 150, rfl⟩
abbrev main_while0b_v111 : Ref sig .tc := ⟨.hbm, 151, rfl⟩
abbrev main_while0b_v112 : Ref sig .tc := ⟨.hbm, 152, rfl⟩
abbrev main_while0b_v113 : Ref sig .tc := ⟨.hbm, 153, rfl⟩
abbrev main_while0b_v114 : Ref sig .tc := ⟨.hbm, 154, rfl⟩
abbrev main_while0b_v115 : Ref sig .tc := ⟨.hbm, 155, rfl⟩
abbrev main_while0b_v116 : Ref sig .tc := ⟨.hbm, 156, rfl⟩
abbrev main_while0b_v117 : Ref sig .tc := ⟨.hbm, 157, rfl⟩
abbrev main_while0b_v118 : Ref sig .tc := ⟨.hbm, 158, rfl⟩
abbrev main_while0b_v119 : Ref sig .tc := ⟨.hbm, 159, rfl⟩
abbrev main_while0b_v120 : Ref sig .tc := ⟨.hbm, 160, rfl⟩
abbrev main_while0b_call15_v0 : Ref sig .tc := ⟨.hbm, 161, rfl⟩
abbrev main_while0b_call15_c : Ref sig .tc := ⟨.hbm, 162, rfl⟩
abbrev main_while0b_call15_c_0 : Ref sig .tc := ⟨.hbm, 163, rfl⟩
abbrev main_while0b_call15_c_1 : Ref sig .tc := ⟨.hbm, 164, rfl⟩
abbrev main_while0b_call15_c_2 : Ref sig .tc := ⟨.hbm, 165, rfl⟩
abbrev main_while0b_call15_c_3 : Ref sig .tc := ⟨.hbm, 166, rfl⟩
abbrev main_while0b_v121 : Ref sig .tc := ⟨.hbm, 167, rfl⟩
abbrev main_while0b_c_9 : Ref sig .tc := ⟨.hbm, 168, rfl⟩
abbrev main_while0b_v122 : Ref sig .tc := ⟨.hbm, 169, rfl⟩
abbrev main_v67 : Ref sig .tc := ⟨.hbm, 170, rfl⟩
abbrev main_v68 : Ref sig .tc := ⟨.hbm, 171, rfl⟩
abbrev main_v69 : Ref sig .tc := ⟨.hbm, 172, rfl⟩
abbrev main_v70 : Ref sig .tc := ⟨.hbm, 173, rfl⟩
abbrev main_v71 : Ref sig .tc := ⟨.hbm, 174, rfl⟩
abbrev main_v72 : Ref sig .tc := ⟨.hbm, 175, rfl⟩
abbrev main_v73 : Ref sig .tc := ⟨.hbm, 176, rfl⟩
abbrev main_v74 : Ref sig .tc := ⟨.hbm, 177, rfl⟩
abbrev main_v75 : Ref sig .tc := ⟨.hbm, 178, rfl⟩
abbrev main_v76 : Ref sig .tc := ⟨.hbm, 179, rfl⟩

abbrev nD : Nat := 1
abbrev τ : Topo := Topo.v7x

variable {F : FTy → Type} [FloatOps F]

abbrev main_while0_count : Scf.Loop 32 := ⟨0#32, 34#32, 1#32⟩
-- ==== InProj.lean ====
abbrev S17408x4096 : Shape := ⟨2, ![17408, 4096]⟩
abbrev S4096x13824 : Shape := ⟨2, ![4096, 13824]⟩
abbrev S17408x13824 : Shape := ⟨2, ![17408, 13824]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S17408x4096, .bf16⟩
  | .hbm, ⟨1, _⟩ => ⟨S4096x13824, .bf16⟩
  | .hbm, ⟨2, _⟩ => ⟨S17408x13824, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 27], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S17408x4096 : Shape := ⟨2, ![17408, 4096]⟩
abbrev S4096x13824 : Shape := ⟨2, ![4096, 13824]⟩
abbrev S17408x13824 : Shape := ⟨2, ![17408, 13824]⟩

abbrev nBuf : Space → Nat
  | .hbm => 5
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S4096x13824, .bf16⟩
  | .hbm, ⟨2, _⟩ => ⟨S17408x4096, .f32⟩
  | .hbm, ⟨3, _⟩ => ⟨S4096x13824, .f32⟩
  | .hbm, ⟨4, _⟩ => ⟨S17408x13824, .f32⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutProj.lean ====
abbrev S16384x2048 : Shape := ⟨2, ![16384, 2048]⟩
abbrev S4096x4096 : Shape := ⟨2, ![4096, 4096]⟩
abbrev S16384x4096 : Shape := ⟨2, ![16384, 4096]⟩
abbrev S48x1x4096 : Shape := ⟨3, ![48, 1, 4096]⟩
abbrev S512x2048 : Shape := ⟨2, ![512, 2048]⟩
abbrev S4096x1024 : Shape := ⟨2, ![4096, 1024]⟩
abbrev S512x1024 : Shape := ⟨2, ![512, 1024]⟩
abbrev S1x1x1024 : Shape := ⟨3, ![1, 1, 1024]⟩
abbrev S2048x1024 : Shape := ⟨2, ![2048, 1024]⟩
abbrev S1x1024 : Shape := ⟨2, ![1, 1024]⟩

abbrev nBuf : Space → Nat
  | .hbm => 6
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .bf16⟩
  | .hbm, ⟨3, _⟩ => ⟨S16384x4096, .f32⟩
  | .hbm, ⟨4, _⟩ => ⟨S48x1x4096, .f32⟩
  | .hbm, ⟨5, _⟩ => ⟨S16384x4096, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S4096x1024, .bf16⟩
  | .local _ .vmem, ⟨5, _⟩ => ⟨S4096x1024, .bf16⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c2_i32 : BitVec 32 := 2#32
  let v18 : BitVec 32 := Scalar.addi v17 c2_i32
  let c0_i32_4 : BitVec 32 := 0#32
  let c0_i32_5 : BitVec 32 := 0#32
  ![v18.toNat, c0_i32_4.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutProjRefIdeal.lean ====
abbrev S16384x2048 : Shape := ⟨2, ![16384, 2048]⟩
abbrev S4096x4096 : Shape := ⟨2, ![4096, 4096]⟩
abbrev S16384x4096 : Shape := ⟨2, ![16384, 4096]⟩
abbrev S48x1x4096 : Shape := ⟨3, ![48, 1, 4096]⟩
abbrev S8x6x4096 : Shape := ⟨3, ![8, 6, 4096]⟩
abbrev S4x1x4096 : Shape := ⟨3, ![4, 1, 4096]⟩
abbrev S4x4096 : Shape := ⟨2, ![4, 4096]⟩
abbrev S4x4096x4096 : Shape := ⟨3, ![4, 4096, 4096]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .bf16⟩
  | .hbm, ⟨3, _⟩ => ⟨S16384x4096, .f32⟩
  | .hbm, ⟨4, _⟩ => ⟨S48x1x4096, .f32⟩
  | .hbm, ⟨5, _⟩ => ⟨S8x6x4096, .f32⟩
  | .hbm, ⟨6, _⟩ => ⟨S4x1x4096, .f32⟩
  | .hbm, ⟨7, _⟩ => ⟨S4x4096, .f32⟩
  | .hbm, ⟨8, _⟩ => ⟨S4x1x4096, .f32⟩
  | .hbm, ⟨9, _⟩ => ⟨S16384x2048, .f32⟩
  | .hbm, ⟨10, _⟩ => ⟨S16384x2048, .f32⟩
  | .hbm, ⟨11, _⟩ => ⟨S16384x4096, .f32⟩
  | .hbm, ⟨12, _⟩ => ⟨S4096x4096, .f32⟩
  | .hbm, ⟨13, _⟩ => ⟨S16384x4096, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S4x4096x4096, .f32⟩
  | .hbm, ⟨19, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Query.lean ====
abbrev S16384x4096 : Shape := ⟨2, ![16384, 4096]⟩
abbrev S4096x2048 : Shape := ⟨2, ![4096, 2048]⟩
abbrev S16384x2048 : Shape := ⟨2, ![16384, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .bf16⟩
  | .hbm, ⟨2, _⟩ => ⟨S16384x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QueryRefIdeal.lean ====
abbrev S16384x4096 : Shape := ⟨2, ![16384, 4096]⟩
abbrev S4096x2048 : Shape := ⟨2, ![4096, 2048]⟩
abbrev S16384x2048 : Shape := ⟨2, ![16384, 2048]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .bf16⟩
  | .hbm, ⟨2, _⟩ => ⟨S16384x4096, .f32⟩
  | .hbm, ⟨3, _⟩ => ⟨S4096x2048, .f32⟩
  | .hbm, ⟨4, _⟩ => ⟨S16384x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Expert.lean ====
abbrev S16384x16384 : Shape := ⟨2, ![16384, 16384]⟩
abbrev S16384x4096 : Shape := ⟨2, ![16384, 4096]⟩
abbrev S1024x512 : Shape := ⟨2, ![1024, 512]⟩
abbrev S1024x4096 : Shape := ⟨2, ![1024, 4096]⟩
abbrev S512x4096 : Shape := ⟨2, ![512, 4096]⟩

abbrev nBuf : Space → Nat
  | .hbm => 3
  | .vmem => 6
  | .smem => 0
  | _ => 0

abbrev bufTy : (tb : Table) → Fin (tcTables nBuf tb) → BufTy
  | .hbm, ⟨0, _⟩ => ⟨S16384x16384, .bf16⟩
  | .hbm, ⟨1, _⟩ => ⟨S16384x4096, .bf16⟩
  | .hbm, ⟨2, _⟩ => ⟨S16384x4096, .f32⟩
  | .local _ .vmem, ⟨0, _⟩ => ⟨S1024x512, .bf16⟩
  | .local _ .vmem, ⟨1, _⟩ => ⟨S1024x512, .bf16⟩
  | .local _ .vmem, ⟨2, _⟩ => ⟨S1024x4096, .bf16⟩
  | .local _ .vmem, ⟨3, _⟩ => ⟨S1024x4096, .bf16⟩
  | .local _ .vmem, ⟨4, _⟩ => ⟨S512x4096, .f32⟩
  | .local _ .vmem, ⟨5, _⟩ => ⟨S512x4096, .f32⟩
  | _, _ => ⟨S16384x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ExpertRefIdeal.lean ====
abbrev S16384x16384 : Shape := ⟨2, ![16384, 16384]⟩
abbrev S16384x4096 : Shape := ⟨2, ![16384, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16384x16384, .bf16⟩
  | .hbm, ⟨1, _⟩ => ⟨S16384x4096, .bf16⟩
  | .hbm, ⟨2, _⟩ => ⟨S16384x16384, .f32⟩
  | .hbm, ⟨3, _⟩ => ⟨S16384x4096, .f32⟩
  | .hbm, ⟨4, _⟩ => ⟨S16384x4096, .f32⟩
  | _, _ => ⟨S16384x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Weights.lean ====
abbrev S16384x4096 : Shape := ⟨2, ![16384, 4096]⟩
abbrev S8x128x16384 : Shape := ⟨3, ![8, 128, 16384]⟩
abbrev S16384x16384 : Shape := ⟨2, ![16384, 16384]⟩
abbrev S1024x4096 : Shape := ⟨2, ![1024, 4096]⟩
abbrev S512x4096 : Shape := ⟨2, ![512, 4096]⟩
abbrev S8x8x512 : Shape := ⟨3, ![8, 8, 512]⟩
abbrev S8x128x512 : Shape := ⟨3, ![8, 128, 512]⟩
abbrev S1024x512 : Shape := ⟨2, ![1024, 512]⟩
abbrev S128x512 : Shape := ⟨2, ![128, 512]⟩
abbrev S1x128x512 : Shape := ⟨3, ![1, 128, 512]⟩
abbrev S1x1x512 : Shape := ⟨3, ![1, 1, 512]⟩
abbrev S1x512 : Shape := ⟨2, ![1, 512]⟩
abbrev S16x512 : Shape := ⟨2, ![16, 512]⟩

abbrev nBuf : Space → Nat
  | .hbm => 7
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S8x128x16384, .f32⟩
  | .hbm, ⟨3, _⟩ => ⟨S8x128x16384, .bf16⟩
  | .hbm, ⟨4, _⟩ => ⟨S8x128x16384, .f32⟩
  | .hbm, ⟨5, _⟩ => ⟨S8x128x16384, .bf16⟩
  | .hbm, ⟨6, _⟩ => ⟨S16384x16384, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S8x8x512, .f32⟩
  | .local _ .vmem, ⟨5, _⟩ => ⟨S8x8x512, .f32⟩
  | .local _ .vmem, ⟨6, _⟩ => ⟨S8x128x512, .bf16⟩
  | .local _ .vmem, ⟨7, _⟩ => ⟨S8x128x512, .bf16⟩
  | .local _ .vmem, ⟨8, _⟩ => ⟨S8x8x512, .f32⟩
  | .local _ .vmem, ⟨9, _⟩ => ⟨S8x8x512, .f32⟩
  | .local _ .vmem, ⟨10, _⟩ => ⟨S8x128x512, .bf16⟩
  | .local _ .vmem, ⟨11, _⟩ => ⟨S8x128x512, .bf16⟩
  | .local _ .vmem, ⟨12, _⟩ => ⟨S1024x512, .bf16⟩
  | .local _ .vmem, ⟨13, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== WeightsRefIdeal.lean ====
abbrev S16384x4096 : Shape := ⟨2, ![16384, 4096]⟩
abbrev S8x128x16384 : Shape := ⟨3, ![8, 128, 16384]⟩
abbrev S16384x16384 : Shape := ⟨2, ![16384, 16384]⟩
abbrev S_ : Shape := ⟨0, ![]⟩
abbrev S8x1x128x16384 : Shape := ⟨4, ![8, 1, 128, 16384]⟩
abbrev S8x128x1x16384 : Shape := ⟨4, ![8, 128, 1, 16384]⟩
abbrev S8x128x128x16384 : Shape := ⟨4, ![8, 128, 128, 16384]⟩
abbrev S128x128x16384 : Shape := ⟨3, ![128, 128, 16384]⟩

abbrev nBuf : Space → Nat
  | .hbm => 39
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S8x128x16384, .f32⟩
  | .hbm, ⟨3, _⟩ => ⟨S8x128x16384, .bf16⟩
  | .hbm, ⟨4, _⟩ => ⟨S8x128x16384, .f32⟩
  | .hbm, ⟨5, _⟩ => ⟨S8x128x16384, .bf16⟩
  | .hbm, ⟨6, _⟩ => ⟨S16384x4096, .f32⟩
  | .hbm, ⟨7, _⟩ => ⟨S16384x4096, .f32⟩
  | .hbm, ⟨8, _⟩ => ⟨S16384x16384, .f32⟩
  | .hbm, ⟨9, _⟩ => ⟨S_, .f32⟩
  | .hbm, ⟨10, _⟩ => ⟨S16384x16384, .f32⟩
  | .hbm, ⟨11, _⟩ => ⟨S16384x16384, .f32⟩
  | .hbm, ⟨12, _⟩ => ⟨S16384x16384, .f32⟩
  | .hbm, ⟨13, _⟩ => ⟨S_, .f32⟩
  | .hbm, ⟨14, _⟩ => ⟨S16384x16384, .f32⟩
  | .hbm, ⟨15, _⟩ => ⟨S16384x16384, .f32⟩
  | .hbm, ⟨16, _⟩ => ⟨S16384x16384, .f32⟩
  | .hbm, ⟨17, _⟩ => ⟨S16384x16384, .f32⟩
  | .hbm, ⟨18, _⟩ => ⟨S8x1x128x16384, .bf16⟩
  | .hbm, ⟨19, _⟩ => ⟨S8x1x128x16384, .f32⟩
  | .hbm, ⟨20, _⟩ => ⟨S8x128x1x16384, .f32⟩
  | .hbm, ⟨21, _⟩ => ⟨S8x128x128x16384, .f32⟩
  | .hbm, ⟨22, _⟩ => ⟨S8x128x128x16384, .f32⟩
  | .hbm, ⟨23, _⟩ => ⟨S8x128x128x16384, .i1⟩
  | .hbm, ⟨24, _⟩ => ⟨S8x128x1x16384, .f32⟩
  | .hbm, ⟨25, _⟩ => ⟨S8x1x128x16384, .bf16⟩
  | .hbm, ⟨26, _⟩ => ⟨S8x1x128x16384, .f32⟩
  | .hbm, ⟨27, _⟩ => ⟨S8x128x128x16384, .f32⟩
  | .hbm, ⟨28, _⟩ => ⟨S8x128x128x16384, .f32⟩
  | .hbm, ⟨29, _⟩ => ⟨S8x128x128x16384, .f32⟩
  | .hbm, ⟨30, _⟩ => ⟨S_, .f32⟩
  | .hbm, ⟨31, _⟩ => ⟨S_, .f32⟩
  | .hbm, ⟨32, _⟩ => ⟨S8x128x128x16384, .f32⟩
  | .hbm, ⟨33, _⟩ => ⟨S8x128x128x16384, .f32⟩
  | .hbm, ⟨34, _⟩ => ⟨S_, .f32⟩
  | .hbm, ⟨35, _⟩ => ⟨S128x128x16384, .f32⟩
  | .hbm, ⟨36, _⟩ => ⟨S16384x16384, .f32⟩
  | .hbm, ⟨37, _⟩ => ⟨S16384x16384, .f32⟩
  | .hbm, ⟨38, _⟩ => ⟨S16384x16384, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Mod.lean ====
abbrev S8x4096 : Shape := ⟨2, ![8, 4096]⟩
abbrev S4096x24576 : Shape := ⟨2, ![4096, 24576]⟩
abbrev S24576 : Shape := ⟨1, ![24576]⟩
abbrev S1x24576 : Shape := ⟨2, ![1, 24576]⟩
abbrev S8x24576 : Shape := ⟨2, ![8, 24576]⟩
abbrev S4096x512 : Shape := ⟨2, ![4096, 512]⟩
abbrev S1x512 : Shape := ⟨2, ![1, 512]⟩
abbrev S8x512 : Shape := ⟨2, ![8, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S4096x24576, .f32⟩
  | .hbm, ⟨2, _⟩ => ⟨S24576, .f32⟩
  | .hbm, ⟨3, _⟩ => ⟨S1x24576, .f32⟩
  | .hbm, ⟨4, _⟩ => ⟨S8x24576, .f32⟩
  | .local _ .vmem, ⟨0, _⟩ => ⟨S8x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S8x4096 : Shape := ⟨2, ![8, 4096]⟩
abbrev S4096x24576 : Shape := ⟨2, ![4096, 24576]⟩
abbrev S24576 : Shape := ⟨1, ![24576]⟩
abbrev S_ : Shape := ⟨0, ![]⟩
abbrev S8x24576 : Shape := ⟨2, ![8, 24576]⟩
abbrev S1x24576 : Shape := ⟨2, ![1, 24576]⟩

abbrev nBuf : Space → Nat
  | .hbm => 16
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S4096x24576, .f32⟩
  | .hbm, ⟨2, _⟩ => ⟨S24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S8x24576, .f32⟩
  | .hbm, ⟨13, _⟩ => ⟨S1x24576, .f32⟩
  | .hbm, ⟨14, _⟩ => ⟨S8x24576, .f32⟩
  | .hbm, ⟨15, _⟩ => ⟨S8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Final.lean ====
abbrev S16384x4096 : Shape := ⟨2, ![16384, 4096]⟩
abbrev S48x1x4096 : Shape := ⟨3, ![48, 1, 4096]⟩
abbrev S4096 : Shape := ⟨1, ![4096]⟩
abbrev S1x4096 : Shape := ⟨2, ![1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S48x1x4096, .f32⟩
  | .hbm, ⟨3, _⟩ => ⟨S4096, .f32⟩
  | .hbm, ⟨4, _⟩ => ⟨S1x4096, .f32⟩
  | .hbm, ⟨5, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c5_i32 : BitVec 32 := 5#32
  let v18 : BitVec 32 := Scalar.addi v17 c5_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FinalRefIdeal.lean ====
abbrev S16384x4096 : Shape := ⟨2, ![16384, 4096]⟩
abbrev S48x1x4096 : Shape := ⟨3, ![48, 1, 4096]⟩
abbrev S4096 : Shape := ⟨1, ![4096]⟩
abbrev S8x6x4096 : Shape := ⟨3, ![8, 6, 4096]⟩
abbrev S4x1x4096 : Shape := ⟨3, ![4, 1, 4096]⟩
abbrev S4x4096 : Shape := ⟨2, ![4, 4096]⟩
abbrev S4x4096x4096 : Shape := ⟨3, ![4, 4096, 4096]⟩
abbrev S_ : Shape := ⟨0, ![]⟩
abbrev S4x4096x1 : Shape := ⟨3, ![4, 4096, 1]⟩
abbrev S1x1x4096 : Shape := ⟨3, ![1, 1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S48x1x4096, .f32⟩
  | .hbm, ⟨3, _⟩ => ⟨S4096, .f32⟩
  | .hbm, ⟨4, _⟩ => ⟨S8x6x4096, .f32⟩
  | .hbm, ⟨5, _⟩ => ⟨S4x1x4096, .f32⟩
  | .hbm, ⟨6, _⟩ => ⟨S4x4096, .f32⟩
  | .hbm, ⟨7, _⟩ => ⟨S4x1x4096, .f32⟩
  | .hbm, ⟨8, _⟩ => ⟨S4x4096x4096, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x4096, .f32⟩
  | .hbm, ⟨25, _⟩ => ⟨S4x4096x4096, .f32⟩
  | .hbm, ⟨26, _⟩ => ⟨S1x1x4096, .f32⟩
  | .hbm, ⟨27, _⟩ => ⟨S4x4096x4096, .f32⟩
  | .hbm, ⟨28, _⟩ => ⟨S4x4096x4096, .f32⟩
  | .hbm, ⟨29, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Norm1.lean ====
abbrev S1024x4096 : Shape := ⟨2, ![1024, 4096]⟩
abbrev S16384x4096 : Shape := ⟨2, ![16384, 4096]⟩
abbrev S4096 : Shape := ⟨1, ![4096]⟩
abbrev S48x1x4096 : Shape := ⟨3, ![48, 1, 4096]⟩
abbrev S1x4096 : Shape := ⟨2, ![1, 4096]⟩
abbrev S17408x4096 : Shape := ⟨2, ![17408, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 6
  | .vmem => 11
  | .smem => 0
  | _ => 0

abbrev bufTy : (tb : Table) → Fin (tcTables nBuf tb) → BufTy
  | .hbm, ⟨0, _⟩ => ⟨S1024x4096, .f32⟩
  | .hbm, ⟨1, _⟩ => ⟨S16384x4096, .f32⟩
  | .hbm, ⟨2, _⟩ => ⟨S4096, .f32⟩
  | .hbm, ⟨3, _⟩ => ⟨S48x1x4096, .f32⟩
  | .hbm, ⟨4, _⟩ => ⟨S1x4096, .f32⟩
  | .hbm, ⟨5, _⟩ => ⟨S17408x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x1x4096, .f32⟩
  | .local _ .vmem, ⟨9, _⟩ => ⟨S256x4096, .bf16⟩
  | .local _ .vmem, ⟨10, _⟩ => ⟨S256x4096, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![68], ![false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c4_i32 : BitVec 32 := 4#32
  let v0 : BitVec 1 := Scalar.cmpi .slt arg0 c4_i32
  let v_true : BitVec 1 := 1#1
  let v3 : BitVec 1 := Scalar.xori v0 v_true
  let v4 : BitVec 32 := Scalar.extui v3
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let v19 : BitVec 32 := Scalar.select v0 c4_i32_5 v18
  let c6_i32 : BitVec 32 := 6#32
  let v20 : BitVec 32 := Scalar.muli v19 c6_i32
  let c0_i32_6 : BitVec 32 := 0#32
  let v21 : BitVec 32 := Scalar.addi v20 c0_i32_6
  let c0_i32_7 : BitVec 32 := 0#32
  let c0_i32_8 : BitVec 32 := 0#32
  let c0_i32_9 : BitVec 32 := 0#32
  ![v21.toNat, c0_i32_7.toNat, c0_i32_8.toNat]

def cc0_transform_4 (i : grid0.Coords) : Fin 3 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let v19 : BitVec 32 := Scalar.select v0 c4_i32_5 v18
  let c6_i32 : BitVec 32 := 6#32
  let v20 : BitVec 32 := Scalar.muli v19 c6_i32
  let c1_i32_6 : BitVec 32 := 1#32
  let v21 : BitVec 32 := Scalar.addi v20 c1_i32_6
  let c0_i32_7 : BitVec 32 := 0#32
  let c0_i32_8 : BitVec 32 := 0#32
  let c0_i32_9 : BitVec 32 := 0#32
  ![v21.toNat, c0_i32_7.toNat, c0_i32_8.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Norm1RefIdeal.lean ====
abbrev S1024x4096 : Shape := ⟨2, ![1024, 4096]⟩
abbrev S16384x4096 : Shape := ⟨2, ![16384, 4096]⟩
abbrev S4096 : Shape := ⟨1, ![4096]⟩
abbrev S48x1x4096 : Shape := ⟨3, ![48, 1, 4096]⟩
abbrev S8x6x4096 : Shape := ⟨3, ![8, 6, 4096]⟩
abbrev S4x1x4096 : Shape := ⟨3, ![4, 1, 4096]⟩
abbrev S4x4096 : Shape := ⟨2, ![4, 4096]⟩
abbrev S1x1x4096 : Shape := ⟨3, ![1, 1, 4096]⟩
abbrev S4x4096x4096 : Shape := ⟨3, ![4, 4096, 4096]⟩
abbrev S_ : Shape := ⟨0, ![]⟩
abbrev S4x4096x1 : Shape := ⟨3, ![4, 4096, 1]⟩
abbrev S4x256x4096 : Shape := ⟨3, ![4, 256, 4096]⟩
abbrev S4x256 : Shape := ⟨2, ![4, 256]⟩
abbrev S4x256x1 : Shape := ⟨3, ![4, 256, 1]⟩
abbrev S17408x4096 : Shape := ⟨2, ![17408, 4096]⟩

abbrev nBuf : Space → Nat
  | .hbm => 69
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S16384x4096, .f32⟩
  | .hbm, ⟨2, _⟩ => ⟨S4096, .f32⟩
  | .hbm, ⟨3, _⟩ => ⟨S48x1x4096, .f32⟩
  | .hbm, ⟨4, _⟩ => ⟨S8x6x4096, .f32⟩
  | .hbm, ⟨5, _⟩ => ⟨S4x1x4096, .f32⟩
  | .hbm, ⟨6, _⟩ => ⟨S4x4096, .f32⟩
  | .hbm, ⟨7, _⟩ => ⟨S4x1x4096, .f32⟩
  | .hbm, ⟨8, _⟩ => ⟨S4x1x4096, .f32⟩
  | .hbm, ⟨9, _⟩ => ⟨S4x4096, .f32⟩
  | .hbm, ⟨10, _⟩ => ⟨S4x1x4096, .f32⟩
  | .hbm, ⟨11, _⟩ => ⟨S1x1x4096, .f32⟩
  | .hbm, ⟨12, _⟩ => ⟨S4096, .f32⟩
  | .hbm, ⟨13, _⟩ => ⟨S1x1x4096, .f32⟩
  | .hbm, ⟨14, _⟩ => ⟨S1x1x4096, .f32⟩
  | .hbm, ⟨15, _⟩ => ⟨S4096, .f32⟩
  | .hbm, ⟨16, _⟩ => ⟨S1x1x4096, .f32⟩
  | .hbm, ⟨17, _⟩ => ⟨S4x4096x4096, .f32⟩
  | .hbm, ⟨18, _⟩ => ⟨S4x4096x4096, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x1, .f32⟩
  | .hbm, ⟨29, _⟩ => ⟨S4x4096x4096, .f32⟩
  | .hbm, ⟨30, _⟩ => ⟨S4x4096x4096, .f32⟩
  | .hbm, ⟨31, _⟩ => ⟨S1x1x4096, .f32⟩
  | .hbm, ⟨32, _⟩ => ⟨S4x4096x4096, .f32⟩
  | .hbm, ⟨33, _⟩ => ⟨S4x4096x4096, .f32⟩
  | .hbm, ⟨34, _⟩ => ⟨S_, .f32⟩
  | .hbm, ⟨35, _⟩ => ⟨S4x1x4096, .f32⟩
  | .hbm, ⟨36, _⟩ => ⟨S4x1x4096, .f32⟩
  | .hbm, ⟨37, _⟩ => ⟨S4x4096x4096, .f32⟩
  | .hbm, ⟨38, _⟩ => ⟨S4x4096x4096, .f32⟩
  | .hbm, ⟨39, _⟩ => ⟨S4x4096x4096, .f32⟩
  | .hbm, ⟨40, _⟩ => ⟨S4x4096x4096, .f32⟩
  | .hbm, ⟨41, _⟩ => ⟨S4x256x4096, .f32⟩
  | .hbm, ⟨42, _⟩ => ⟨S4x256x4096, .f32⟩
  | .hbm, ⟨43, _⟩ => ⟨S_, .f32⟩
  | .hbm, ⟨44, _⟩ => ⟨S4x256, .f32⟩
  | .hbm, ⟨45, _⟩ => ⟨S4x256x1, .f32⟩
  | .hbm, ⟨46, _⟩ => ⟨S_, .f32⟩
  | .hbm, ⟨47, _⟩ => ⟨S4x256x1, .f32⟩
  | .hbm, ⟨48, _⟩ => ⟨S4x256x1, .f32⟩
  | .hbm, ⟨49, _⟩ => ⟨S_, .f32⟩
  | .hbm, ⟨50, _⟩ => ⟨S4x256x1, .f32⟩
  | .hbm, ⟨51, _⟩ => ⟨S4x256x1, .f32⟩
  | .hbm, ⟨52, _⟩ => ⟨S4x256x1, .f32⟩
  | .hbm, ⟨53, _⟩ => ⟨S4x256x4096, .f32⟩
  | .hbm, ⟨54, _⟩ => ⟨S4x256x4096, .f32⟩
  | .hbm, ⟨55, _⟩ => ⟨S1x1x4096, .f32⟩
  | .hbm, ⟨56, _⟩ => ⟨S4x256x4096, .f32⟩
  | .hbm, ⟨57, _⟩ => ⟨S4x256x4096, .f32⟩
  | .hbm, ⟨58, _⟩ => ⟨S_, .f32⟩
  | .hbm, ⟨59, _⟩ => ⟨S1x1x4096, .f32⟩
  | .hbm, ⟨60, _⟩ => ⟨S1x1x4096, .f32⟩
  | .hbm, ⟨61, _⟩ => ⟨S4x256x4096, .f32⟩
  | .hbm, ⟨62, _⟩ => ⟨S4x256x4096, .f32⟩
  | .hbm, ⟨63, _⟩ => ⟨S4x256x4096, .f32⟩
  | .hbm, ⟨64, _⟩ => ⟨S4x256x4096, .f32⟩
  | .hbm, ⟨65, _⟩ => ⟨S1024x4096, .f32⟩
  | .hbm, ⟨66, _⟩ => ⟨S16384x4096, .f32⟩
  | .hbm, ⟨67, _⟩ => ⟨S17408x4096, .f32⟩
  | .hbm, ⟨68, _⟩ => ⟨S17408x4096, .bf16⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩

abbrev nD : Nat := 1
abbrev τ : Topo := Topo.v7x

variable {F : FTy → Type} [FloatOps F]
-- ==== Norm2.lean ====
abbrev S16384x4096 : Shape := ⟨2, ![16384, 4096]⟩
abbrev S4096 : Shape := ⟨1, ![4096]⟩
abbrev S48x1x4096 : Shape := ⟨3, ![48, 1, 4096]⟩
abbrev S1x4096 : Shape := ⟨2, ![1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 5
  | .vmem => 11
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S48x1x4096, .f32⟩
  | .hbm, ⟨3, _⟩ => ⟨S1x4096, .f32⟩
  | .hbm, ⟨4, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x1x4096, .f32⟩
  | .local _ .vmem, ⟨9, _⟩ => ⟨S256x4096, .bf16⟩
  | .local _ .vmem, ⟨10, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .slt arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32 : BitVec 32 := 0#32
  let v0 : BitVec 1 := Scalar.cmpi .slt arg0 c0_i32
  let v_true : BitVec 1 := 1#1
  let v3 : BitVec 1 := Scalar.xori v0 v_true
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c3_i32 : BitVec 32 := 3#32
  let v18 : BitVec 32 := Scalar.addi v17 c3_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c4_i32 : BitVec 32 := 4#32
  let v18 : BitVec 32 := Scalar.addi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Norm2RefIdeal.lean ====
abbrev S16384x4096 : Shape := ⟨2, ![16384, 4096]⟩
abbrev S4096 : Shape := ⟨1, ![4096]⟩
abbrev S48x1x4096 : Shape := ⟨3, ![48, 1, 4096]⟩
abbrev S8x6x4096 : Shape := ⟨3, ![8, 6, 4096]⟩
abbrev S4x1x4096 : Shape := ⟨3, ![4, 1, 4096]⟩
abbrev S4x4096 : Shape := ⟨2, ![4, 4096]⟩
abbrev S4x4096x4096 : Shape := ⟨3, ![4, 4096, 4096]⟩
abbrev S_ : Shape := ⟨0, ![]⟩
abbrev S4x4096x1 : Shape := ⟨3, ![4, 4096, 1]⟩
abbrev S1x1x4096 : Shape := ⟨3, ![1, 1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S48x1x4096, .f32⟩
  | .hbm, ⟨3, _⟩ => ⟨S8x6x4096, .f32⟩
  | .hbm, ⟨4, _⟩ => ⟨S4x1x4096, .f32⟩
  | .hbm, ⟨5, _⟩ => ⟨S4x4096, .f32⟩
  | .hbm, ⟨6, _⟩ => ⟨S4x1x4096, .f32⟩
  | .hbm, ⟨7, _⟩ => ⟨S4x1x4096, .f32⟩
  | .hbm, ⟨8, _⟩ => ⟨S4x4096, .f32⟩
  | .hbm, ⟨9, _⟩ => ⟨S4x1x4096, .f32⟩
  | .hbm, ⟨10, _⟩ => ⟨S4x4096x4096, .f32⟩
  | .hbm, ⟨11, _⟩ => ⟨S4x4096x4096, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1, .f32⟩
  | .hbm, ⟨22, _⟩ => ⟨S4x4096x4096, .f32⟩
  | .hbm, ⟨23, _⟩ => ⟨S4x4096x4096, .f32⟩
  | .hbm, ⟨24, _⟩ => ⟨S1x1x4096, .f32⟩
  | .hbm, ⟨25, _⟩ => ⟨S4x4096x4096, .f32⟩
  | .hbm, ⟨26, _⟩ => ⟨S4x4096x4096, .f32⟩
  | .hbm, ⟨27, _⟩ => ⟨S_, .f32⟩
  | .hbm, ⟨28, _⟩ => ⟨S4x1x4096, .f32⟩
  | .hbm, ⟨29, _⟩ => ⟨S4x1x4096, .f32⟩
  | .hbm, ⟨30, _⟩ => ⟨S4x4096x4096, .f32⟩
  | .hbm, ⟨31, _⟩ => ⟨S4x4096x4096, .f32⟩
  | .hbm, ⟨32, _⟩ => ⟨S4x4096x4096, .f32⟩
  | .hbm, ⟨33, _⟩ => ⟨S4x4096x4096, .f32⟩
  | .hbm, ⟨34, _⟩ => ⟨S16384x4096, .f32⟩
  | .hbm, ⟨35, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Conv.lean ====
abbrev S17408x13824 : Shape := ⟨2, ![17408, 13824]⟩
abbrev S3x4096 : Shape := ⟨2, ![3, 4096]⟩
abbrev S4096 : Shape := ⟨1, ![4096]⟩
abbrev S1x4096 : Shape := ⟨2, ![1, 4096]⟩
abbrev S4x4352x4096 : Shape := ⟨3, ![4, 4352, 4096]⟩
abbrev S256x1024 : Shape := ⟨2, ![256, 1024]⟩
abbrev S8x1024 : Shape := ⟨2, ![8, 1024]⟩
abbrev S3x1024 : Shape := ⟨2, ![3, 1024]⟩
abbrev S1x1024 : Shape := ⟨2, ![1, 1024]⟩
abbrev S1x256x1024 : Shape := ⟨3, ![1, 256, 1024]⟩

abbrev nBuf : Space → Nat
  | .hbm => 5
  | .vmem => 12
  | .smem => 0
  | _ => 0

abbrev bufTy : (tb : Table) → Fin (tcTables nBuf tb) → BufTy
  | .hbm, ⟨0, _⟩ => ⟨S17408x13824, .f32⟩
  | .hbm, ⟨1, _⟩ => ⟨S3x4096, .f32⟩
  | .hbm, ⟨2, _⟩ => ⟨S4096, .f32⟩
  | .hbm, ⟨3, _⟩ => ⟨S1x4096, .f32⟩
  | .hbm, ⟨4, _⟩ => ⟨S4x4352x4096, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S3x1024, .f32⟩
  | .local _ .vmem, ⟨7, _⟩ => ⟨S3x1024, .f32⟩
  | .local _ .vmem, ⟨8, _⟩ => ⟨S1x1024, .f32⟩
  | .local _ .vmem, ⟨9, _⟩ => ⟨S1x1024, .f32⟩
  | .local _ .vmem, ⟨10, _⟩ => ⟨S1x256x1024, .f32⟩
  | .local _ .vmem, ⟨11, _⟩ => ⟨S1x256x1024, .f32⟩
  | _, _ => ⟨S17408x13824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![68, 4], ![false, false]⟩

def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let v3 : BitVec 32 := Scalar.addi c9_i32 arg1
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c2175_i32 : BitVec 32 := 2175#32
  let v2 : BitVec 32 := Scalar.minsi v1 c2175_i32
  let c9_i32 : BitVec 32 := 9#32
  let v3 : BitVec 32 := Scalar.addi c9_i32 arg1
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c4_i32_0 : BitVec 32 := 4#32
  let v1 : BitVec 32 := Scalar.subi arg0 c4_i32_0
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.select v0 arg0 v18
  let c4_i32_5 : BitVec 32 := 4#32
  let v20 : BitVec 1 := Scalar.cmpi .slt arg0 c4_i32_5
  let c4_i32_6 : BitVec 32 := 4#32
  let v21 : BitVec 32 := Scalar.subi arg0 c4_i32_6
  let c16_i32_7 : BitVec 32 := 16#32
  let c0_i32_8 : BitVec 32 := 0#32
  let v22 : BitVec 1 := Scalar.cmpi .eq c16_i32_7 c0_i32_8
  let c1_i32_9 : BitVec 32 := 1#32
  let v23 : BitVec 32 := Scalar.select v22 c1_i32_9 c16_i32_7
  let v24 : BitVec 32 := Scalar.remsi v21 v23
  let c0_i32_10 : BitVec 32 := 0#32
  let v25 : BitVec 1 := Scalar.cmpi .ne v24 c0_i32_10
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let v29 : BitVec 1 := Scalar.andi v28 v25
  let v30 : BitVec 32 := Scalar.addi v24 v23
  let v31 : BitVec 32 := Scalar.select v29 v30 v24
  let c1_i32_13 : BitVec 32 := 1#32
  let v32 : BitVec 32 := Scalar.addi c1_i32_13 v31
  let c0_i32_14 : BitVec 32 := 0#32
  let v33 : BitVec 32 := Scalar.select v20 c0_i32_14 v32
  let c0_i32_15 : BitVec 32 := 0#32
  ![v19.toNat, v33.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvRefIdeal.lean ====
abbrev S17408x13824 : Shape := ⟨2, ![17408, 13824]⟩
abbrev S3x4096 : Shape := ⟨2, ![3, 4096]⟩
abbrev S4096 : Shape := ⟨1, ![4096]⟩
abbrev S17408x4096 : Shape := ⟨2, ![17408, 4096]⟩
abbrev S1024x4096 : Shape := ⟨2, ![1024, 4096]⟩
abbrev S4x256x4096 : Shape := ⟨3, ![4, 256, 4096]⟩
abbrev S16384x4096 : Shape := ⟨2, ![16384, 4096]⟩
abbrev S4x4096x4096 : Shape := ⟨3, ![4, 4096, 4096]⟩
abbrev S4x255x4096 : Shape := ⟨3, ![4, 255, 4096]⟩
abbrev S_ : Shape := ⟨0, ![]⟩
abbrev S1x4096 : Shape := ⟨2, ![1, 4096]⟩
abbrev S1x1x4096 : Shape := ⟨3, ![1, 1, 4096]⟩
abbrev S4x4095x4096 : Shape := ⟨3, ![4, 4095, 4096]⟩
abbrev S4x4352x4096 : Shape := ⟨3, ![4, 4352, 4096]⟩

abbrev nBuf : Space → Nat
  | .hbm => 83
  | .vmem => 0
  | .smem => 0
  | _ => 0

abbrev bufTy : (tb : Table) → Fin (tcTables nBuf tb) → BufTy
  | .hbm, ⟨0, _⟩ => ⟨S17408x13824, .f32⟩
  | .hbm, ⟨1, _⟩ => ⟨S3x4096, .f32⟩
  | .hbm, ⟨2, _⟩ => ⟨S4096, .f32⟩
  | .hbm, ⟨3, _⟩ => ⟨S17408x4096, .f32⟩
  | .hbm, ⟨4, _⟩ => ⟨S1024x4096, .f32⟩
  | .hbm, ⟨5, _⟩ => ⟨S4x256x4096, .f32⟩
  | .hbm, ⟨6, _⟩ => ⟨S16384x4096, .f32⟩
  | .hbm, ⟨7, _⟩ => ⟨S4x4096x4096, .f32⟩
  | .hbm, ⟨8, _⟩ => ⟨S4x255x4096, .f32⟩
  | .hbm, ⟨9, _⟩ => ⟨S_, .i32⟩
  | .hbm, ⟨10, _⟩ => ⟨S_, .f32⟩
  | .hbm, ⟨11, _⟩ => ⟨S4x256x4096, .f32⟩
  | .hbm, ⟨12, _⟩ => ⟨S4x255x4096, .f32⟩
  | .hbm, ⟨13, _⟩ => ⟨S_, .i32⟩
  | .hbm, ⟨14, _⟩ => ⟨S_, .f32⟩
  | .hbm, ⟨15, _⟩ => ⟨S4x256x4096, .f32⟩
  | .hbm, ⟨16, _⟩ => ⟨S1x4096, .f32⟩
  | .hbm, ⟨17, _⟩ => ⟨S4096, .f32⟩
  | .hbm, ⟨18, _⟩ => ⟨S1x1x4096, .f32⟩
  | .hbm, ⟨19, _⟩ => ⟨S4x256x4096, .f32⟩
  | .hbm, ⟨20, _⟩ => ⟨S4x256x4096, .f32⟩
  | .hbm, ⟨21, _⟩ => ⟨S1x4096, .f32⟩
  | .hbm, ⟨22, _⟩ => ⟨S4096, .f32⟩
  | .hbm, ⟨23, _⟩ => ⟨S1x1x4096, .f32⟩
  | .hbm, ⟨24, _⟩ => ⟨S4x256x4096, .f32⟩
  | .hbm, ⟨25, _⟩ => ⟨S4x256x4096, .f32⟩
  | .hbm, ⟨26, _⟩ => ⟨S4x256x4096, .f32⟩
  | .hbm, ⟨27, _⟩ => ⟨S1x4096, .f32⟩
  | .hbm, ⟨28, _⟩ => ⟨S4096, .f32⟩
  | .hbm, ⟨29, _⟩ => ⟨S1x1x4096, .f32⟩
  | .hbm, ⟨30, _⟩ => ⟨S4x256x4096, .f32⟩
  | .hbm, ⟨31, _⟩ => ⟨S4x256x4096, .f32⟩
  | .hbm, ⟨32, _⟩ => ⟨S4x256x4096, .f32⟩
  | .hbm, ⟨33, _⟩ => ⟨S1x1x4096, .f32⟩
  | .hbm, ⟨34, _⟩ => ⟨S4x256x4096, .f32⟩
  | .hbm, ⟨35, _⟩ => ⟨S4x256x4096, .f32⟩
  | .hbm, ⟨36, _⟩ => ⟨S4x256x4096, .f32⟩
  | .hbm, ⟨37, _⟩ => ⟨S4x256x4096, .f32⟩
  | .hbm, ⟨38, _⟩ => ⟨S_, .f32⟩
  | .hbm, ⟨39, _⟩ => ⟨S4x256x4096, .f32⟩
  | .hbm, ⟨40, _⟩ => ⟨S4x256x4096, .f32⟩
  | .hbm, ⟨41, _⟩ => ⟨S_, .f32⟩
  | .hbm, ⟨42, _⟩ => ⟨S4x256x4096, .f32⟩
  | .hbm, ⟨43, _⟩ => ⟨S4x256x4096, .f32⟩
  | .hbm, ⟨44, _⟩ => ⟨S4x256x4096, .f32⟩
  | .hbm, ⟨45, _⟩ => ⟨S4x4095x4096, .f32⟩
  | .hbm, ⟨46, _⟩ => ⟨S_, .i32⟩
  | .hbm, ⟨47, _⟩ => ⟨S_, .f32⟩
  | .hbm, ⟨48, _⟩ => ⟨S4x4096x4096, .f32⟩
  | .hbm, ⟨49, _⟩ => ⟨S4x4095x4096, .f32⟩
  | .hbm, ⟨50, _⟩ => ⟨S_, .i32⟩
  | .hbm, ⟨51, _⟩ => ⟨S_, .f32⟩
  | .hbm, ⟨52, _⟩ => ⟨S4x4096x4096, .f32⟩
  | .hbm, ⟨53, _⟩ => ⟨S1x4096, .f32⟩
  | .hbm, ⟨54, _⟩ => ⟨S4096, .f32⟩
  | .hbm, ⟨55, _⟩ => ⟨S1x1x4096, .f32⟩
  | .hbm, ⟨56, _⟩ => ⟨S4x4096x4096, .f32⟩
  | .hbm, ⟨57, _⟩ => ⟨S4x4096x4096, .f32⟩
  | .hbm, ⟨58, _⟩ => ⟨S1x4096, .f32⟩
  | .hbm, ⟨59, _⟩ => ⟨S4096, .f32⟩
  | .hbm, ⟨60, _⟩ => ⟨S1x1x4096, .f32⟩
  | .hbm, ⟨61, _⟩ => ⟨S4x4096x4096, .f32⟩
  | .hbm, ⟨62, _⟩ => ⟨S4x4096x4096, .f32⟩
  | .hbm, ⟨63, _⟩ => ⟨S4x4096x4096, .f32⟩
  | .hbm, ⟨64, _⟩ => ⟨S1x4096, .f32⟩
  | .hbm, ⟨65, _⟩ => ⟨S4096, .f32⟩
  | .hbm, ⟨66, _⟩ => ⟨S1x1x4096, .f32⟩
  | .hbm, ⟨67, _⟩ => ⟨S4x4096x4096, .f32⟩
  | .hbm, ⟨68, _⟩ => ⟨S4x4096x4096, .f32⟩
  | .hbm, ⟨69, _⟩ => ⟨S4x4096x4096, .f32⟩
  | .hbm, ⟨70, _⟩ => ⟨S1x1x4096, .f32⟩
  | .hbm, ⟨71, _⟩ => ⟨S4x4096x4096, .f32⟩
  | .hbm, ⟨72, _⟩ => ⟨S4x4096x4096, .f32⟩
  | .hbm, ⟨73, _⟩ => ⟨S4x4096x4096, .f32⟩
  | .hbm, ⟨74, _⟩ => ⟨S4x4096x4096, .f32⟩
  | .hbm, ⟨75, _⟩ => ⟨S_, .f32⟩
  | .hbm, ⟨76, _⟩ => ⟨S4x4096x4096, .f32⟩
  | .hbm, ⟨77, _⟩ => ⟨S4x4096x4096, .f32⟩
  | .hbm, ⟨78, _⟩ => ⟨S_, .f32⟩
  | .hbm, ⟨79, _⟩ => ⟨S4x4096x4096, .f32⟩
  | .hbm, ⟨80, _⟩ => ⟨S4x4096x4096, .f32⟩
  | .hbm, ⟨81, _⟩ => ⟨S4x4096x4096, .f32⟩
  | .hbm, ⟨82, _⟩ => ⟨S4x4352x4096, .f32⟩
  | _, _ => ⟨S17408x13824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call2_v0 : Ref sig .tc := ⟨.hbm, 36, rfl⟩
abbrev main_call2_v1 : Ref sig .tc := ⟨.hbm, 37, rfl⟩
abbrev main_call2_cst : Ref sig .tc := ⟨.hbm, 38, rfl⟩
abbrev main_call2_v2 : Ref sig .tc := ⟨.hbm, 39, rfl⟩
abbrev main_call2_v3 : Ref sig .tc := ⟨.hbm, 40, rfl⟩
abbrev main_call2_cst_0 : Ref sig .tc := ⟨.hbm, 41, rfl⟩
abbrev main_call2_v4 : Ref sig .tc := ⟨.hbm, 42, rfl⟩
abbrev main_call2_v5 : Ref sig .tc := ⟨.hbm, 43, rfl⟩
abbrev main_v29 : Ref sig .tc := ⟨.hbm, 44, rfl⟩
abbrev main_v30 : Ref sig .tc := ⟨.hbm, 45, rfl⟩
abbrev main_c_1 : Ref sig .tc := ⟨.hbm, 46, rfl⟩
abbrev main_call3_v0 : Ref sig .tc := ⟨.hbm, 47, rfl⟩
abbrev main_v31 : Ref sig .tc := ⟨.hbm, 48, rfl⟩
abbrev main_v32 : Ref sig .tc := ⟨.hbm, 49, rfl⟩
abbrev main_c_2 : Ref sig .tc := ⟨.hbm, 50, rfl⟩
abbrev main_call4_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_call5_v0 : Ref sig .tc := ⟨.hbm, 73, rfl⟩
abbrev main_call5_v1 : Ref sig .tc := ⟨.hbm, 74, rfl⟩
abbrev main_call5_cst : Ref sig .tc := ⟨.hbm, 75, rfl⟩
abbrev main_call5_v2 : Ref sig .tc := ⟨.hbm, 76, rfl⟩
abbrev main_call5_v3 : Ref sig .tc := ⟨.hbm, 77, rfl⟩
abbrev main_call5_cst_0 : Ref sig .tc := ⟨.hbm, 78, rfl⟩
abbrev main_call5_v4 : Ref sig .tc := ⟨.hbm, 79, rfl⟩
abbrev main_call5_v5 : Ref sig .tc := ⟨.hbm, 80, rfl⟩
abbrev main_v54 : Ref sig .tc := ⟨.hbm, 81, rfl⟩
abbrev main_v55 : Ref sig .tc := ⟨.hbm, 82, rfl⟩

abbrev nD : Nat := 1
abbrev τ : Topo := Topo.v7x

variable {F : FTy → Type} [FloatOps F]
-- ==== Finish.lean ====
abbrev S2x4x4096x2048 : Shape := ⟨4, ![2, 4, 4096, 2048]⟩
abbrev S4x4352x2048 : Shape := ⟨3, ![4, 4352, 2048]⟩
abbrev S2048 : Shape := ⟨1, ![2048]⟩
abbrev S4x4352x4096 : Shape := ⟨3, ![4, 4352, 4096]⟩
abbrev S17408x13824 : Shape := ⟨2, ![17408, 13824]⟩
abbrev S32 : Shape := ⟨1, ![32]⟩
abbrev S32x64 : Shape := ⟨2, ![32, 64]⟩
abbrev S1x2048 : Shape := ⟨2, ![1, 2048]⟩
abbrev S16384x2048 : Shape := ⟨2, ![16384, 2048]⟩
abbrev S2x1x256x512 : Shape := ⟨4, ![2, 1, 256, 512]⟩
abbrev S1x256x512 : Shape := ⟨3, ![1, 256, 512]⟩
abbrev S1x512 : Shape := ⟨2, ![1, 512]⟩
abbrev S256x512 : Shape := ⟨2, ![256, 512]⟩
abbrev S1x1x256x512 : Shape := ⟨4, ![1, 1, 256, 512]⟩
abbrev S128x128 : Shape := ⟨2, ![128, 128]⟩
abbrev S256x128 : Shape := ⟨2, ![256, 128]⟩

abbrev nBuf : Space → Nat
  | .hbm => 18
  | .vmem => 24
  | .smem => 0
  | _ => 0

abbrev bufTy : (tb : Table) → Fin (tcTables nBuf tb) → BufTy
  | .hbm, ⟨0, _⟩ => ⟨S2x4x4096x2048, .f32⟩
  | .hbm, ⟨1, _⟩ => ⟨S4x4352x2048, .f32⟩
  | .hbm, ⟨2, _⟩ => ⟨S4x4352x2048, .f32⟩
  | .hbm, ⟨3, _⟩ => ⟨S2048, .f32⟩
  | .hbm, ⟨4, _⟩ => ⟨S2048, .f32⟩
  | .hbm, ⟨5, _⟩ => ⟨S2x4x4096x2048, .f32⟩
  | .hbm, ⟨6, _⟩ => ⟨S4x4352x4096, .f32⟩
  | .hbm, ⟨7, _⟩ => ⟨S17408x13824, .f32⟩
  | .hbm, ⟨8, _⟩ => ⟨S32, .f32⟩
  | .hbm, ⟨9, _⟩ => ⟨S2048, .f32⟩
  | .hbm, ⟨10, _⟩ => ⟨S32x64, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S16384x2048, .bf16⟩
  | .hbm, ⟨17, _⟩ => ⟨S16384x2048, .bf16⟩
  | .local _ .vmem, ⟨0, _⟩ => ⟨S2x1x256x512, .f32⟩
  | .local _ .vmem, ⟨1, _⟩ => ⟨S2x1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S2x1x256x512, .f32⟩
  | .local _ .vmem, ⟨11, _⟩ => ⟨S2x1x256x512, .f32⟩
  | .local _ .vmem, ⟨12, _⟩ => ⟨S1x256x512, .f32⟩
  | .local _ .vmem, ⟨13, _⟩ => ⟨S1x256x512, .f32⟩
  | .local _ .vmem, ⟨14, _⟩ => ⟨S256x512, .f32⟩
  | .local _ .vmem, ⟨15, _⟩ => ⟨S256x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | _, _ => ⟨S2x4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![4, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![arg0.toNat, v0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![arg0.toNat, v0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![arg0.toNat, v0.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c4_i32 : BitVec 32 := 4#32
  let v1 : BitVec 32 := Scalar.addi c4_i32 v0
  let v2 : BitVec 32 := Scalar.addi v1 arg1
  let c14_i32 : BitVec 32 := 14#32
  let v3 : BitVec 32 := Scalar.addi c14_i32 arg2
  let c0_i32 : BitVec 32 := 0#32
  ![v2.toNat, v3.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  ![v1.toNat, arg2.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  ![v1.toNat, arg2.toNat]

abbrev stage0_0 : Fin 2 → Memref sig .tc .vmem S2x1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S2x1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== FinishRefIdeal.lean ====
abbrev S2x4x4096x2048 : Shape := ⟨4, ![2, 4, 4096, 2048]⟩
abbrev S4x4352x2048 : Shape := ⟨3, ![4, 4352, 2048]⟩
abbrev S2048 : Shape := ⟨1, ![2048]⟩
abbrev S4x4352x4096 : Shape := ⟨3, ![4, 4352, 4096]⟩
abbrev S17408x13824 : Shape := ⟨2, ![17408, 13824]⟩
abbrev S32 : Shape := ⟨1, ![32]⟩
abbrev S4x4096x2048 : Shape := ⟨3, ![4, 4096, 2048]⟩
abbrev S4x4096x32x64 : Shape := ⟨4, ![4, 4096, 32, 64]⟩
abbrev S16384x2048 : Shape := ⟨2, ![16384, 2048]⟩
abbrev S1x4x4096x2048 : Shape := ⟨4, ![1, 4, 4096, 2048]⟩
abbrev S_ : Shape := ⟨0, ![]⟩
abbrev S4x4096x32 : Shape := ⟨3, ![4, 4096, 32]⟩
abbrev S4x4096x32x1 : Shape := ⟨4, ![4, 4096, 32, 1]⟩
abbrev S1x1x2048 : Shape := ⟨3, ![1, 1, 2048]⟩
abbrev S32x1 : Shape := ⟨2, ![32, 1]⟩
abbrev S1x1x32x1 : Shape := ⟨4, ![1, 1, 32, 1]⟩
abbrev S4x4096x8x256 : Shape := ⟨4, ![4, 4096, 8, 256]⟩
abbrev S4x4096x8 : Shape := ⟨3, ![4, 4096, 8]⟩
abbrev S4x4096x8x1 : Shape := ⟨4, ![4, 4096, 8, 1]⟩

abbrev nBuf : Space → Nat
  | .hbm => 98
  | .vmem => 0
  | .smem => 0
  | _ => 0

abbrev bufTy : (tb : Table) → Fin (tcTables nBuf tb) → BufTy
  | .hbm, ⟨0, _⟩ => ⟨S2x4x4096x2048, .f32⟩
  | .hbm, ⟨1, _⟩ => ⟨S4x4352x2048, .f32⟩
  | .hbm, ⟨2, _⟩ => ⟨S4x4352x2048, .f32⟩
  | .hbm, ⟨3, _⟩ => ⟨S2048, .f32⟩
  | .hbm, ⟨4, _⟩ => ⟨S2048, .f32⟩
  | .hbm, ⟨5, _⟩ => ⟨S2x4x4096x2048, .f32⟩
  | .hbm, ⟨6, _⟩ => ⟨S4x4352x4096, .f32⟩
  | .hbm, ⟨7, _⟩ => ⟨S17408x13824, .f32⟩
  | .hbm, ⟨8, _⟩ => ⟨S32, .f32⟩
  | .hbm, ⟨9, _⟩ => ⟨S2048, .f32⟩
  | .hbm, ⟨10, _⟩ => ⟨S4x4096x2048, .f32⟩
  | .hbm, ⟨11, _⟩ => ⟨S4x4096x32x64, .f32⟩
  | .hbm, ⟨12, _⟩ => ⟨S16384x2048, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S1x4x4096x2048, .f32⟩
  | .hbm, ⟨17, _⟩ => ⟨S4x4096x2048, .f32⟩
  | .hbm, ⟨18, _⟩ => ⟨S1x4x4096x2048, .f32⟩
  | .hbm, ⟨19, _⟩ => ⟨S4x4096x2048, .f32⟩
  | .hbm, ⟨20, _⟩ => ⟨S4x4096x2048, .f32⟩
  | .hbm, ⟨21, _⟩ => ⟨S4x4096x32x64, .f32⟩
  | .hbm, ⟨22, _⟩ => ⟨S_, .f32⟩
  | .hbm, ⟨23, _⟩ => ⟨S4x4096x32, .f32⟩
  | .hbm, ⟨24, _⟩ => ⟨S4x4096x32x1, .f32⟩
  | .hbm, ⟨25, _⟩ => ⟨S_, .f32⟩
  | .hbm, ⟨26, _⟩ => ⟨S4x4096x32x1, .f32⟩
  | .hbm, ⟨27, _⟩ => ⟨S4x4096x32x1, .f32⟩
  | .hbm, ⟨28, _⟩ => ⟨S4x4096x32x64, .f32⟩
  | .hbm, ⟨29, _⟩ => ⟨S4x4096x32x64, .f32⟩
  | .hbm, ⟨30, _⟩ => ⟨S4x4096x32x64, .f32⟩
  | .hbm, ⟨31, _⟩ => ⟨S_, .f32⟩
  | .hbm, ⟨32, _⟩ => ⟨S4x4096x32, .f32⟩
  | .hbm, ⟨33, _⟩ => ⟨S4x4096x32x1, .f32⟩
  | .hbm, ⟨34, _⟩ => ⟨S_, .f32⟩
  | .hbm, ⟨35, _⟩ => ⟨S4x4096x32x1, .f32⟩
  | .hbm, ⟨36, _⟩ => ⟨S4x4096x32x1, .f32⟩
  | .hbm, ⟨37, _⟩ => ⟨S4x4096x32x64, .f32⟩
  | .hbm, ⟨38, _⟩ => ⟨S4x4096x32x64, .f32⟩
  | .hbm, ⟨39, _⟩ => ⟨S_, .f32⟩
  | .hbm, ⟨40, _⟩ => ⟨S4x4096x32x1, .f32⟩
  | .hbm, ⟨41, _⟩ => ⟨S4x4096x32x1, .f32⟩
  | .hbm, ⟨42, _⟩ => ⟨S4x4096x32x1, .f32⟩
  | .hbm, ⟨43, _⟩ => ⟨S4x4096x32x64, .f32⟩
  | .hbm, ⟨44, _⟩ => ⟨S4x4096x32x64, .f32⟩
  | .hbm, ⟨45, _⟩ => ⟨S4x4096x2048, .f32⟩
  | .hbm, ⟨46, _⟩ => ⟨S1x1x2048, .f32⟩
  | .hbm, ⟨47, _⟩ => ⟨S4x4096x2048, .f32⟩
  | .hbm, ⟨48, _⟩ => ⟨S4x4096x2048, .f32⟩
  | .hbm, ⟨49, _⟩ => ⟨S1x1x2048, .f32⟩
  | .hbm, ⟨50, _⟩ => ⟨S4x4096x2048, .f32⟩
  | .hbm, ⟨51, _⟩ => ⟨S4x4096x2048, .f32⟩
  | .hbm, ⟨52, _⟩ => ⟨S4x4096x2048, .f32⟩
  | .hbm, ⟨53, _⟩ => ⟨S4x4096x2048, .f32⟩
  | .hbm, ⟨54, _⟩ => ⟨S1x4x4096x2048, .f32⟩
  | .hbm, ⟨55, _⟩ => ⟨S4x4096x2048, .f32⟩
  | .hbm, ⟨56, _⟩ => ⟨S1x4x4096x2048, .f32⟩
  | .hbm, ⟨57, _⟩ => ⟨S4x4096x2048, .f32⟩
  | .hbm, ⟨58, _⟩ => ⟨S4x4096x2048, .f32⟩
  | .hbm, ⟨59, _⟩ => ⟨S4x4096x32x64, .f32⟩
  | .hbm, ⟨60, _⟩ => ⟨S32x1, .f32⟩
  | .hbm, ⟨61, _⟩ => ⟨S1x1x32x1, .f32⟩
  | .hbm, ⟨62, _⟩ => ⟨S4x4096x32x64, .f32⟩
  | .hbm, ⟨63, _⟩ => ⟨S4x4096x32x64, .f32⟩
  | .hbm, ⟨64, _⟩ => ⟨S4x4096x32x64, .f32⟩
  | .hbm, ⟨65, _⟩ => ⟨S4x4096x2048, .f32⟩
  | .hbm, ⟨66, _⟩ => ⟨S4x4096x2048, .f32⟩
  | .hbm, ⟨67, _⟩ => ⟨S4x4096x2048, .f32⟩
  | .hbm, ⟨68, _⟩ => ⟨S_, .f32⟩
  | .hbm, ⟨69, _⟩ => ⟨S4x4096x2048, .f32⟩
  | .hbm, ⟨70, _⟩ => ⟨S4x4096x2048, .f32⟩
  | .hbm, ⟨71, _⟩ => ⟨S_, .f32⟩
  | .hbm, ⟨72, _⟩ => ⟨S4x4096x2048, .f32⟩
  | .hbm, ⟨73, _⟩ => ⟨S4x4096x2048, .f32⟩
  | .hbm, ⟨74, _⟩ => ⟨S4x4096x2048, .f32⟩
  | .hbm, ⟨75, _⟩ => ⟨S4x4096x2048, .f32⟩
  | .hbm, ⟨76, _⟩ => ⟨S4x4096x8x256, .f32⟩
  | .hbm, ⟨77, _⟩ => ⟨S4x4096x8x256, .f32⟩
  | .hbm, ⟨78, _⟩ => ⟨S_, .f32⟩
  | .hbm, ⟨79, _⟩ => ⟨S4x4096x8, .f32⟩
  | .hbm, ⟨80, _⟩ => ⟨S4x4096x8x1, .f32⟩
  | .hbm, ⟨81, _⟩ => ⟨S_, .f32⟩
  | .hbm, ⟨82, _⟩ => ⟨S4x4096x8x1, .f32⟩
  | .hbm, ⟨83, _⟩ => ⟨S4x4096x8x1, .f32⟩
  | .hbm, ⟨84, _⟩ => ⟨S_, .f32⟩
  | .hbm, ⟨85, _⟩ => ⟨S4x4096x8x1, .f32⟩
  | .hbm, ⟨86, _⟩ => ⟨S4x4096x8x1, .f32⟩
  | .hbm, ⟨87, _⟩ => ⟨S4x4096x8x1, .f32⟩
  | .hbm, ⟨88, _⟩ => ⟨S4x4096x8x256, .f32⟩
  | .hbm, ⟨89, _⟩ => ⟨S4x4096x8x256, .f32⟩
  | .hbm, ⟨90, _⟩ => ⟨S4x4096x2048, .f32⟩
  | .hbm, ⟨91, _⟩ => ⟨S1x1x2048, .f32⟩
  | .hbm, ⟨92, _⟩ => ⟨S4x4096x2048, .f32⟩
  | .hbm, ⟨93, _⟩ => ⟨S4x4096x2048, .f32⟩
  | .hbm, ⟨94, _⟩ => ⟨S16384x2048, .f32⟩
  | .hbm, ⟨95, _⟩ => ⟨S16384x2048, .bf16⟩
  | .hbm, ⟨96, _⟩ => ⟨S16384x2048, .f32⟩
  | .hbm, ⟨97, _⟩ => ⟨S16384x2048, .bf16⟩
  | _, _ => ⟨S2x4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_call0_v0 : Ref sig .tc := ⟨.hbm, 66, rfl⟩
abbrev main_call0_v1 : Ref sig .tc := ⟨.hbm, 67, rfl⟩
abbrev main_call0_cst : Ref sig .tc := ⟨.hbm, 68, rfl⟩
abbrev main_call0_v2 : Ref sig .tc := ⟨.hbm, 69, rfl⟩
abbrev main_call0_v3 : Ref sig .tc := ⟨.hbm, 70, rfl⟩
abbrev main_call0_cst_0 : Ref sig .tc := ⟨.hbm, 71, rfl⟩
abbrev main_call0_v4 : Ref sig .tc := ⟨.hbm, 72, rfl⟩
abbrev main_call0_v5 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_4 : Ref sig .tc := ⟨.hbm, 78, rfl⟩
abbrev main_v55 : Ref sig .tc := ⟨.hbm, 79, rfl⟩
abbrev main_v56 : Ref sig .tc := ⟨.hbm, 80, rfl⟩
abbrev main_cst_5 : Ref sig .tc := ⟨.hbm, 81, rfl⟩
abbrev main_v57 : Ref sig .tc := ⟨.hbm, 82, rfl⟩
abbrev main_v58 : Ref sig .tc := ⟨.hbm, 83, rfl⟩
abbrev main_cst_6 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]
-- ==== Proof.SsdRefLoop.lean ====
/-
  The reference's loop: what its buffers hold before each trip is the trip's step iterated from what the arguments give.
-/
module

public import proofs.«01_k».proof.Proof.Gen.SsdRefIdeal.Run
public import proofs.«01_k».proof.Proof.Gen.SsdRefIdeal.Step

@[expose] public section

noncomputable section

namespace Cert.SsdRefIdeal.Loop

open Idealize.ShloMosaic Idealize.ShloMosaic.TcCoe Idealize.SL.Sem Idealize.ShloMosaic.StableHlo
open Cert.SsdRefIdeal Cert.SsdRefIdeal.Gen Cert.SsdRefIdeal.Value Cert.SsdRefIdeal.Step

variable {F : FTy → Type} [FloatOps F]

/-- The buffers hold the state and the number of trips done. -/
structure At (V : Valuation τ sig (Elt F)) (s : State F) (j : ℕ) : Prop where
  x : V (Proc.devRef .tc main_v66_0) = s.main_v66_0
  la : V (Proc.devRef .tc main_v66_1) = s.main_v66_1
  b : V (Proc.devRef .tc main_v66_2) = s.main_v66_2
  c : V (Proc.devRef .tc main_v66_3) = s.main_v66_3
  trip : V (Proc.devRef .tc main_v66_4) = constantI S_ 32 (BitVec.ofNat 32 j)
  state : V (Proc.devRef .tc main_v66_5) = s.main_v66_5
  out : V (Proc.devRef .tc main_v66_6) = s.main_v66_6

/-! ## A trip -/

section Trip

variable {V : Valuation τ sig (Elt F)} {s : State F} {j : ℕ} (h : At V s j)
include h

theorem x_at : res_main_while0b_v77 V = b6 j s := by
  unfold res_main_while0b_v77
  rw [h.x, h.trip]
  rfl
theorem b_at : res_main_while0b_v79 V = b18 j s := by
  unfold res_main_while0b_v79
  rw [h.b, h.trip]
  rfl
theorem c_at : res_main_while0b_v80 V = b24 j s := by
  unfold res_main_while0b_v80
  rw [h.c, h.trip]
  rfl
theorem cum_at : res_main_while0b_v81 V = b27 j s := by
  unfold res_main_while0b_v81
  rw [h.la, h.trip]
  rfl

set_option maxRecDepth 8192 in
theorem state_at : Value.step_main_v66_5 V = (step j s).main_v66_5 := by
  unfold Value.step_main_v66_5
  rw [x_at h, b_at h, cum_at h, h.state]
  rfl

set_option maxRecDepth 8192 in
theorem out_at : Value.step_main_v66_6 V = (step j s).main_v66_6 := by
  unfold Value.step_main_v66_6
  rw [x_at h, b_at h, c_at h, cum_at h, h.state, h.out, h.trip]
  rfl

theorem trip_at : Value.step_main_v66_4 V = constantI S_ 32 (BitVec.ofNat 32 (j + 1)) := by
  unfold Value.step_main_v66_4
  rw [h.trip]
  funext i
  show BitVec.ofNat 32 j + 1#32 = BitVec.ofNat 32 (j + 1)
  simp only [BitVec.ofNat_add]

theorem step_at : At (STEP V) (step j s) (j + 1) where
  x := (STEP_main_v66_0 V).trans h.x
  la := (STEP_main_v66_1 V).trans h.la
  b := (STEP_main_v66_2 V).trans h.b
  c := (STEP_main_v66_3 V).trans h.c
  trip := (STEP_main_v66_4 V).trans (trip_at h)
  state := (STEP_main_v66_5 V).trans (state_at h)
  out := (STEP_main_v66_6 V).trans (out_at h)

set_option maxRecDepth 8192 in
theorem result_at : out_main_v76 V = R_main_v76 s := by
  unfold out_main_v76 R_main_v76
  rw [h.out]
  rfl

end Trip

/-- The state the first trip starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2))

variable (m : (ℓ : Loc nD τ sig) → Buf (Elt F) ℓ) (c : Dev nD)

/-! ## Before the first trip -/

set_option maxRecDepth 65536 in
set_option maxHeartbeats 4000000 in
theorem entry_x : entryContents preI m c (Proc.devRef .tc main_v66_0) = (initState m c).main_v66_0 := by
  simp only [entryContents, afterL_cons, afterL_nil]
  after_reads_simp
  rfl

set_option maxRecDepth 65536 in
set_option maxHeartbeats 4000000 in
theorem entry_la : entryContents preI m c (Proc.devRef .tc main_v66_1) = (initState m c).main_v66_1 := by
  simp only [entryContents, afterL_cons, afterL_nil]
  after_reads_simp
  rfl

set_option maxRecDepth 65536 in
set_option maxHeartbeats 4000000 in
theorem entry_b : entryContents preI m c (Proc.devRef .tc main_v66_2) = (initState m c).main_v66_2 := by
  simp only [entryContents, afterL_cons, afterL_nil]
  after_reads_simp
  rfl

set_option maxRecDepth 65536 in
set_option maxHeartbeats 4000000 in
theorem entry_c : entryContents preI m c (Proc.devRef .tc main_v66_3) = (initState m c).main_v66_3 := by
  simp only [entryContents, afterL_cons, afterL_nil]
  after_reads_simp
  rfl

set_option maxRecDepth 65536 in
set_option maxHeartbeats 4000000 in
theorem entry_trip : entryContents preI m c (Proc.devRef .tc main_v66_4) = constantI S_ 32 (BitVec.ofNat 32 0) := by
  simp only [entryContents, afterL_cons, afterL_nil]
  after_reads_simp
  rfl

set_option maxRecDepth 65536 in
set_option maxHeartbeats 4000000 in
theorem entry_state : entryContents preI m c (Proc.devRef .tc main_v66_5) = (initState m c).main_v66_5 := by
  simp only [entryContents, afterL_cons, afterL_nil]
  after_reads_simp
  rfl

set_option maxRecDepth 65536 in
set_option maxHeartbeats 4000000 in
theorem entry_out : entryContents preI m c (Proc.devRef .tc main_v66_6) = (initState m c).main_v66_6 := by
  simp only [entryContents, afterL_cons, afterL_nil]
  after_reads_simp
  rfl

/-- Before the first trip the buffers hold the first state. -/
theorem entry_at : At (entryContents preI m c) (initState m c) 0 :=
  ⟨entry_x m c, entry_la m c, entry_b m c, entry_c m c, entry_trip m c, entry_state m c, entry_out m c⟩

/-- The states in turn. -/
def states (m : (ℓ : Loc nD τ sig) → Buf (Elt F) ℓ) (c : Dev nD) : ℕ → State F
  | 0 => initState m c
  | n + 1 => step n (states m c n)

theorem states_at : ∀ n, At (STEP^[n] (entryContents preI m c)) (states m c n) n
  | 0 => entry_at m c
  | n + 1 => by
    rw [Function.iterate_succ_apply']
    exact step_at (states_at n)

/-- Every run ends with the result read off the last state, and the arguments as they were. -/
theorem run_states (ρ : Dev nD → PrngReg) :
    θ_run (defs (F := F)) (onTc (τ := τ) (main (F := F))) ⟨m, fun _ => 0, ρ⟩ fun r => ∀ c : Dev nD,
      r.2.mem ((c.tc : Thread nD τ).loc main_v76) = R_main_v76 (states m c 34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (result_at (states_at m c 34)), (h c).2⟩) (Value.run m ρ)

end Cert.SsdRefIdeal.Loop

end
-- ==== Proof.SsdMath.lean ====
/- The state-space recurrence over the reals: one head's state is decayed by `exp (a k)` and driven by `u k * B k`
   at every step. A run of `L` steps can be done at once: the state after it, and the outputs inside it, are closed
   forms in the running sums of `a`. Kernel and reference both use those closed forms, at different `L`. -/
module

public import Mathlib.Analysis.SpecialFunctions.Exp
public import Mathlib.Algebra.BigOperators.Fin

@[expose] public section

noncomputable section

namespace Cert.Scan

open Finset

/-- The state before step `k`. -/
def state (a u B : ℕ → ℝ) : ℕ → ℝ
  | 0 => 0
  | k + 1 => Real.exp (a k) * state a u B k + u k * B k

/-- The output of step `k`: the state after the step, read by `C`. -/
def out {N : ℕ} (a u : ℕ → ℝ) (B C : ℕ → Fin N → ℝ) (k : ℕ) : ℝ :=
  ∑ n, C k n * state a u (fun k => B k n) (k + 1)

/-- The sum of `l` decays from step `t` on. -/
def run (a : ℕ → ℝ) (t l : ℕ) : ℝ := ∑ i ∈ range l, a (t + i)

/-- The state after `L` steps from step `t`, in closed form. -/
theorem state_run (a u B : ℕ → ℝ) (t L : ℕ) :
    state a u B (t + L) = Real.exp (run a t L) * state a u B t
      + ∑ l ∈ range L, Real.exp (run a t L - run a t (l + 1)) * (u (t + l) * B (t + l)) := by
  induction L with
  | zero => simp [run]
  | succ L ih =>
    have hr : run a t (L + 1) = run a t L + a (t + L) := sum_range_succ _ _
    show Real.exp (a (t + L)) * state a u B (t + L) + u (t + L) * B (t + L) = _
    rw [ih, sum_range_succ, sub_self, Real.exp_zero, one_mul, hr, mul_add, ← mul_assoc, ← Real.exp_add,
      add_comm (a (t + L)), mul_sum, add_assoc]
    congr 2
    refine sum_congr rfl fun l _ => ?_
    rw [← mul_assoc, ← Real.exp_add]
    congr 2
    ring

/-- A sum over the places up to `l`, written with a mask. -/
theorem sum_masked (f : ℕ → ℝ) (L : ℕ) (l : Fin L) :
    (∑ s : Fin L, if s ≤ l then f s else 0) = ∑ s ∈ range (l + 1), f s := by
  have h : (∑ s : Fin L, if s ≤ l then f s else 0) = ∑ s : Fin L, (fun s : ℕ => if s ≤ (l : ℕ) then f s else 0) s :=
    sum_congr rfl fun s _ => if_congr Fin.le_def rfl rfl
  rw [h, Fin.sum_univ_eq_sum_range (fun s : ℕ => if s ≤ (l : ℕ) then f s else 0) L, ← sum_filter]
  refine sum_congr ?_ fun _ _ => rfl
  ext s
  have := l.isLt
  simp only [mem_filter, mem_range]
  omega

/-- A running sum written with a mask. -/
theorem run_eq_masked (a : ℕ → ℝ) (t L : ℕ) (l : Fin L) :
    (∑ s : Fin L, if s ≤ l then a (t + s) else 0) = run a t (l + 1) :=
  sum_masked (fun s => a (t + s)) L l

theorem run_eq_sum (a : ℕ → ℝ) (t L : ℕ) : (∑ s : Fin L, a (t + s)) = run a t L :=
  Fin.sum_univ_eq_sum_range (fun s => a (t + s)) L

/-- The state after `L` steps, over the indices of the run. -/
theorem state_chunk (a u B : ℕ → ℝ) (t L : ℕ) :
    state a u B (t + L) = Real.exp (run a t L) * state a u B t
      + ∑ l : Fin L, B (t + l) * (Real.exp (run a t L - run a t (l + 1)) * u (t + l)) := by
  rw [state_run, Fin.sum_univ_eq_sum_range (fun l => B (t + l) * (Real.exp (run a t L - run a t (l + 1)) * u (t + l))) L]
  congr 1
  exact sum_congr rfl fun l _ => by ring

/-- The output at place `l` of a run: what the run's own steps up to `l` contribute, and what the state before the run does. -/
theorem out_chunk {N : ℕ} (a u : ℕ → ℝ) (B C : ℕ → Fin N → ℝ) (t L : ℕ) (l : Fin L) :
    out a u B C (t + l)
      = (∑ s : Fin L, (∑ n, C (t + l) n * B (t + s) n) * (if s ≤ l then Real.exp (run a t (l + 1) - run a t (s + 1)) else 0) * u (t + s))
        + (∑ n, C (t + l) n * state a u (fun k => B k n) t) * Real.exp (run a t (l + 1)) := by
  have h1 : (∑ s : Fin L, (∑ n, C (t + l) n * B (t + s) n) * (if s ≤ l then Real.exp (run a t (l + 1) - run a t (s + 1)) else 0) * u (t + s))
      = ∑ s ∈ range (l + 1), (∑ n, C (t + l) n * B (t + s) n) * Real.exp (run a t (l + 1) - run a t (s + 1)) * u (t + s) := by
    rw [← sum_masked (fun s => (∑ n, C (t + l) n * B (t + s) n) * Real.exp (run a t (l + 1) - run a t (s + 1)) * u (t + s)) L l]
    refine sum_congr rfl fun s _ => ?_
    by_cases h : s ≤ l
    · rw [if_pos h, if_pos h]
    · rw [if_neg h, if_neg h, mul_zero, zero_mul]
  rw [h1, out, sum_mul]
  simp only [add_assoc t (l : ℕ) 1, state_run a u _ t, mul_add, mul_sum, sum_add_distrib]
  rw [add_comm, sum_comm]
  congr 1
  · refine sum_congr rfl fun s _ => ?_
    rw [sum_mul, sum_mul]
    exact sum_congr rfl fun n _ => by ring
  · exact sum_congr rfl fun n _ => by ring

end Cert.Scan

end
-- ==== Proof.SsdBlock.lean ====
/-
  One block of the scan kernel, as functions of what it loads. The kernel treats 16 heads by the same
  instructions at different offsets: here each is one function with the offsets as parameters, and its
  value at real inputs is read once.
-/
module

public import proofs.«01_k».proof.Proof.Gen.SsdIdeal.Value
public import Idealize.ShloMosaic.Lib.Pipeline.ValueKit
public import Idealize.ShloMosaic.Lib.Pointwise
public import proofs.«01_k».proof.Proof.SsdMath

@[expose] public section

set_option maxRecDepth 16384

noncomputable section

namespace Cert.SsdIdeal.Block

open Cert.SsdIdeal Cert.SsdIdeal.Gen Idealize.ShloMosaic

/-- A sum of reals is the same sum of extended reals. -/
theorem coe_sum {ι : Type} [Fintype ι] (f : ι → ℝ) : (∑ i, ((f i : ℝ) : EReal)) = ((∑ i, f i : ℝ) : EReal) := by
  classical
  induction (Finset.univ : Finset ι) using Finset.induction_on with
  | empty => simp
  | insert a s ha ih => rw [Finset.sum_insert ha, Finset.sum_insert ha, ih, EReal.coe_add]

/-- The place of a block's time `l` in the order the scan visits it: backwards in the second direction. -/
def place (d : Fin 2) (l : Fin 256) : Fin 256 := if d = 0 then l else Fin.rev l

theorem place_place (d : Fin 2) (l : Fin 256) : place d (place d l) = l := by
  unfold place; split <;> simp

/-- The mask of the times not after `l` in visiting order. -/
theorem incl_apply (i : grid0.Coords) (l s : Fin 256) :
    k0_pay4 i (ix2 l s) = if place (i 0) s ≤ place (i 0) l then 1#1 else 0#1 := by
  pointwise [k0_pay4]
  have hl := l.isLt
  have hs := s.isLt
  have e : IntOp.subi (BitVec.ofNat 32 l) (BitVec.ofNat 32 s) = BitVec.ofInt 32 ((l : ℤ) - s) := by
    show BitVec.ofNat 32 l - BitVec.ofNat 32 s = _
    apply BitVec.eq_of_toInt_eq
    have ht : ∀ n : ℕ, n < 256 → (BitVec.ofNat 32 n).toInt = n := by
      intro n hn
      have : (BitVec.ofNat 32 n).toNat = n := by rw [BitVec.toNat_ofNat]; omega
      rw [BitVec.toInt_eq_toNat_of_lt (by omega), this]
    rw [BitVec.toInt_sub, BitVec.toInt_ofInt, ht l hl, ht s hs]
  obtain ⟨d, hd⟩ : ∃ d : Fin 2, i 0 = d := ⟨_, rfl⟩
  rw [e, hd]
  have key : ∀ (z : ℤ), -256 < z → z < 256 → IntOp.cmpi .sge (BitVec.ofInt 32 z) 0#32 = if 0 ≤ z then 1#1 else 0#1 := by
    intro z h1 h2
    have hz : (BitVec.ofInt 32 z).toInt = z := by
      rw [BitVec.toInt_ofInt, Int.bmod_eq_of_le] <;> omega
    unfold IntOp.cmpi
    simp only [BitVec.sle, hz]
    by_cases h : 0 ≤ z <;> simp [h]
  fin_cases d
  · have e1 : IntOp.muli (BitVec.ofInt 32 ((l : ℤ) - s)) (Scalar.select (Scalar.cmpi CmpIPredicate.eq (BitVec.ofNat 32 ((0 : Fin 2) : ℕ)) 1#32) 4294967295#32 1#32)
        = BitVec.ofInt 32 ((l : ℤ) - s) := by
      show _ * 1#32 = _
      simp
    refine (congrArg (IntOp.cmpi .sge · 0#32) e1).trans ?_
    rw [key _ (by omega) (by omega)]
    refine if_congr ?_ rfl rfl
    show _ ↔ s ≤ l
    rw [Fin.le_def]; omega
  · have e1 : IntOp.muli (BitVec.ofInt 32 ((l : ℤ) - s)) (Scalar.select (Scalar.cmpi CmpIPredicate.eq (BitVec.ofNat 32 ((1 : Fin 2) : ℕ)) 1#32) 4294967295#32 1#32)
        = BitVec.ofInt 32 ((s : ℤ) - l) := by
      show BitVec.ofInt 32 ((l : ℤ) - s) * 4294967295#32 = _
      rw [show (4294967295#32 : BitVec 32) = BitVec.ofInt 32 (-1) from rfl, ← BitVec.ofInt_mul]
      congr 1; ring
    refine (congrArg (IntOp.cmpi .sge · 0#32) e1).trans ?_
    rw [key _ (by omega) (by omega)]
    refine if_congr ?_ rfl rfl
    show _ ↔ Fin.rev s ≤ Fin.rev l
    rw [Fin.rev_le_rev, Fin.le_def]; omega

/-- The running decay at time `l`, in visiting order. -/
def cum (d : Fin 2) (a : Fin 256 → ℝ) (l : Fin 256) : ℝ := ∑ s, if place d s ≤ place d l then a s else 0

/-- What time `s` adds to time `l`. -/
def wt (d : Fin 2) (a dt : Fin 256 → ℝ) (B C : Fin 256 → Fin 128 → ℝ) (l s : Fin 256) : ℝ :=
  (∑ n, C l n * B s n) * (if place d s ≤ place d l then Real.exp (cum d a l - cum d a s) else 0) * dt s

/-- The output of the block at time `l`, from the block's own times and from the state `st` before it. -/
def outR (d : Fin 2) (a dt x : Fin 256 → ℝ) (B C : Fin 256 → Fin 128 → ℝ) (st : Fin 128 → ℝ) (l : Fin 256) : ℝ :=
  ∑ s, wt d a dt B C l s * x s + (∑ n, C l n * st n) * Real.exp (cum d a l)

/-- The state after the block. -/
def stateR (d : Fin 2) (a dt x : Fin 256 → ℝ) (B : Fin 256 → Fin 128 → ℝ) (st : Fin 128 → ℝ) (n : Fin 128) : ℝ :=
  st n * Real.exp (∑ l, a l) + ∑ l, B l n * (x l * (Real.exp ((∑ l, a l) - cum d a l) * dt l))

/-- A choice between two reals. -/
theorem select_coe (p : Prop) [Decidable p] (a b : ℝ) :
    (Scalar.select (if p then 1#1 else 0#1) (a : EReal) (b : EReal)) = ((if p then a else b : ℝ) : EReal) := by
  by_cases h : p <;> simp [h, Scalar.select]

theorem select_if {α : Type} (p : Prop) [Decidable p] (a b : α) :
    (Scalar.select (if p then 1#1 else 0#1) a b) = if p then a else b := by
  by_cases h : p <;> simp [h, Scalar.select]

/-- A decay masked by minus infinity. -/
theorem exp_masked (p : Prop) [Decidable p] (a : ℝ) :
    Ideal.exp (Scalar.select (if p then 1#1 else 0#1) (a : EReal) (Ideal.ofBits FTy.f32 4286578688#32)) = ((if p then Real.exp a else 0 : ℝ) : EReal) := by
  have h0 : Ideal.ofBits FTy.f32 4286578688#32 = (⊥ : EReal) := by
    simp [Ideal.ofBits, Ideal.ieee]
  by_cases h : p
  · rw [if_pos h, if_pos h]; rfl
  · rw [if_neg h, if_neg h, h0]; rfl

section Values

variable (i : grid0.Coords) {la : FVec Ideal S256x4 .f32} {lar dr : FVec Ideal S4x256 .f32} {dc : FVec Ideal S256x4 .f32}
  {b : FVec Ideal S256x128 .f32} {c : FVec Ideal S256x128 .bf16} {x : FVec Ideal S256x128 .f32} {st : FVec Ideal S128x128 .f32}
  {A D : Fin 256 → Fin 4 → ℝ} {B C X : Fin 256 → Fin 128 → ℝ} {S : Fin 128 → Fin 128 → ℝ}

theorem cum_col (hla : ∀ l h, (la (ix2 l h) : EReal) = (A l h : ℝ)) (l : Fin 256) (h : Fin 4) :
    (k0_pay30 (k0_pay5 i) la (ix2 l h) : EReal) = (cum (i 0) (A · h) l : ℝ) := by
  pointwise [k0_pay30, k0_pay5]
  simp only [incl_apply, hla]
  unfold cum
  rw [← coe_sum]
  exact Finset.sum_congr rfl fun s _ => select_coe _ _ _

theorem cum_row (hla : ∀ l h, (lar (ix2 h l) : EReal) = (A l h : ℝ)) (l : Fin 256) (h : Fin 4) :
    (k0_pay34 (k0_pay5 i) lar (ix2 h l) : EReal) = (cum (i 0) (A · h) l : ℝ) := by
  pointwise [k0_pay34, k0_pay5]
  simp only [incl_apply, hla]
  unfold cum
  rw [← coe_sum]
  exact Finset.sum_congr rfl fun s _ => select_coe _ _ _

theorem tot_apply (hla : ∀ l h, (la (ix2 l h) : EReal) = (A l h : ℝ)) (h : Fin 4) :
    (k0_pay46 la (ix2 0 h) : EReal) = (∑ l, A l h : ℝ) := by
  pointwise [k0_pay46]
  simp only [hla]
  exact coe_sum _

theorem cb_apply (hb : ∀ l n, (b (ix2 l n) : EReal) = (B l n : ℝ)) (hc : ∀ l n, (c (ix2 l n) : EReal) = (C l n : ℝ)) (l s : Fin 256) :
    (k0_pay38 b c (ix2 l s) : EReal) = (∑ n, C l n * B s n : ℝ) := by
  pointwise [k0_pay38]
  simp only [hb, hc, ← EReal.coe_mul]
  exact coe_sum _

end Values

/-- The weights of head `h`: what each time of the block adds to each later one. -/
def weights (i : grid0.Coords) (dr : FVec Ideal S4x256 .f32) (cc : FVec Ideal S256x4 .f32) (cr : FVec Ideal S4x256 .f32)
    (cb : FVec Ideal S256x256 .f32) (h : ℕ) (hc : S256x4.Slices ![0, h] S256x1) (hr : S4x256.Slices ![h, 0] S1x256) : FVec Ideal S256x256 .bf16 :=
  truncf .bf16 (mulf (mulf cb (exp (select (k0_pay4 i)
    (subf (broadcastTo S256x256 (extractStridedSlice S256x1 ![0, h] cc hc) broadcasts_S256x1_S256x256)
      (broadcastTo S256x256 (extractStridedSlice S1x256 ![h, 0] cr hr) broadcasts_S1x256_S256x256))
    (broadcast S256x256 (Scalar.ofBits .f32 0xFF800000#32)))))
    (broadcastTo S256x256 (extractStridedSlice S1x256 ![h, 0] dr hr) broadcasts_S1x256_S256x256)) bitsLt_bf16_f32

/-- Column `h0` of a table in the first 64 lanes, column `h1` in the others. -/
def spread (z : FVec Ideal S256x4 .f32) (h0 h1 : ℕ) (hc0 : S256x4.Slices ![0, h0] S256x1) (hc1 : S256x4.Slices ![0, h1] S256x1) : FVec Ideal S256x128 .f32 :=
  select k0_pay6
    (broadcastTo S256x128 (shapeCast S256x1 (extractStridedSlice S256x1 ![0, h0] z hc0) shapeCasts_S256x1_S256x1) broadcasts_S256x1_S256x128)
    (broadcastTo S256x128 (shapeCast S256x1 (extractStridedSlice S256x1 ![0, h1] z hc1) shapeCasts_S256x1_S256x1) broadcasts_S256x1_S256x128)

/-- The same for a row. -/
def spreadRow (z : FVec Ideal S1x4 .f32) (h0 h1 : ℕ) (hc0 : S1x4.Slices ![0, h0] S1x1) (hc1 : S1x4.Slices ![0, h1] S1x1) : FVec Ideal S1x128 .f32 :=
  select k0_pay7
    (broadcastTo S1x128 (shapeCast S1x1 (extractStridedSlice S1x1 ![0, h0] z hc0) shapeCasts_S1x1_S1x1) broadcasts_S1x1_S1x128)
    (broadcastTo S1x128 (shapeCast S1x1 (extractStridedSlice S1x1 ![0, h1] z hc1) shapeCasts_S1x1_S1x1) broadcasts_S1x1_S1x128)

/-- The first 64 lanes. -/
theorem lane_apply (l : Fin 256) (j : Fin 128) : k0_pay6 (ix2 l j) = if j.val < 64 then 1#1 else 0#1 := by
  pointwise [k0_pay6]
  revert j
  decide

/-- The output of a pair of heads at the block's times, one head in each half of the lanes. -/
def outPiece (i : grid0.Coords) (x : FVec Ideal S256x128 .f32) (b : FVec Ideal S256x128 .f32) (c : FVec Ideal S256x128 .bf16)
    (la : FVec Ideal S256x4 .f32) (lar dr : FVec Ideal S4x256 .f32) (st : FVec Ideal S128x128 .f32) (h0 h1 : ℕ)
    (hc0 : S256x4.Slices ![0, h0] S256x1) (hc1 : S256x4.Slices ![0, h1] S256x1)
    (hr0 : S4x256.Slices ![h0, 0] S1x256) (hr1 : S4x256.Slices ![h1, 0] S1x256) : FVec Ideal S1x1x256x128 .f32 :=
  shapeCast S1x1x256x128
    (addf (select k0_pay6
        (k0_pay100 (truncf .bf16 x bitsLt_bf16_f32) (weights i dr (k0_pay30 (k0_pay5 i) la) (k0_pay34 (k0_pay5 i) lar) (k0_pay38 b c) h0 hc0 hr0))
        (k0_pay100 (truncf .bf16 x bitsLt_bf16_f32) (weights i dr (k0_pay30 (k0_pay5 i) la) (k0_pay34 (k0_pay5 i) lar) (k0_pay38 b c) h1 hc1 hr1)))
      (mulf (k0_pay116 c st) (spread (exp (k0_pay30 (k0_pay5 i) la)) h0 h1 hc0 hc1)))
    shapeCasts_S256x128_S1x1x256x128

/-- The states of a pair of heads after the block. -/
def statePiece (i : grid0.Coords) (x : FVec Ideal S256x128 .f32) (b : FVec Ideal S256x128 .f32)
    (la dc : FVec Ideal S256x4 .f32) (st : FVec Ideal S128x128 .f32) (h0 h1 : ℕ)
    (hc0 : S256x4.Slices ![0, h0] S256x1) (hc1 : S256x4.Slices ![0, h1] S256x1)
    (hr0 : S1x4.Slices ![0, h0] S1x1) (hr1 : S1x4.Slices ![0, h1] S1x1) : FVec Ideal S128x128 .f32 :=
  shapeCast S128x128
    (addf (mulf st (broadcastTo S128x128 (spreadRow (exp (k0_pay46 la)) h0 h1 hr0 hr1) broadcasts_S1x128_S128x128))
      (matmul dot_S128x256_S256x128_S128x128_1_0_0_1_n_n none (k0_pay42 b)
        (truncf .bf16 (mulf x (spread (k0_pay54 dc (k0_pay30 (k0_pay5 i) la) (k0_pay46 la)) h0 h1 hc0 hc1)) bitsLt_bf16_f32)
        (constant S128x128 .f32 0x00000000#32)))
    shapeCasts_S128x128_S128x128

section Values

variable (i : grid0.Coords) {la : FVec Ideal S256x4 .f32} {lar dr : FVec Ideal S4x256 .f32} {dc : FVec Ideal S256x4 .f32}
  {b : FVec Ideal S256x128 .f32} {c : FVec Ideal S256x128 .bf16} {x : FVec Ideal S256x128 .f32} {st : FVec Ideal S128x128 .f32}
  {A D : Fin 256 → Fin 4 → ℝ} {B C X : Fin 256 → Fin 128 → ℝ} {S : Fin 128 → Fin 128 → ℝ}

theorem weights_apply (hla : ∀ l h, (la (ix2 l h) : EReal) = (A l h : ℝ)) (hlr : ∀ l h, (lar (ix2 h l) : EReal) = (A l h : ℝ))
    (hdr : ∀ l h, (dr (ix2 h l) : EReal) = (D l h : ℝ))
    (hb : ∀ l n, (b (ix2 l n) : EReal) = (B l n : ℝ)) (hc : ∀ l n, (c (ix2 l n) : EReal) = (C l n : ℝ))
    (h : Fin 4) (hs hr) (l s : Fin 256) :
    (weights i dr (k0_pay30 (k0_pay5 i) la) (k0_pay34 (k0_pay5 i) lar) (k0_pay38 b c) h hs hr (ix2 l s) : EReal)
      = (wt (i 0) (A · h) (D · h) B C l s : ℝ) := by
  have h1 := cum_col i hla l h
  have h2 := cum_row i hlr s h
  have h3 := cb_apply hb hc l s
  revert h1 h2 h3
  generalize k0_pay30 (k0_pay5 i) la = cc
  generalize k0_pay34 (k0_pay5 i) lar = cr
  generalize k0_pay38 b c = cb
  intro h1 h2 h3
  pointwise [weights]
  rw [h1, h2, h3, hdr, incl_apply, ← EReal.coe_sub, exp_masked, ← EReal.coe_mul, ← EReal.coe_mul]
  rfl

theorem spread_apply {z : FVec Ideal S256x4 .f32} {Z : Fin 256 → Fin 4 → ℝ} (hz : ∀ l h, (z (ix2 l h) : EReal) = (Z l h : ℝ))
    (h0 h1 : Fin 4) (hc0 hc1) (l : Fin 256) (j : Fin 128) :
    (spread z h0 h1 hc0 hc1 (ix2 l j) : EReal) = (Z l (if j.val < 64 then h0 else h1) : ℝ) := by
  pointwise [spread]
  rw [lane_apply, hz, hz, select_coe, apply_ite (Z l)]

theorem spreadRow_apply {z : FVec Ideal S1x4 .f32} {Z : Fin 4 → ℝ} (hz : ∀ h, (z (ix2 0 h) : EReal) = (Z h : ℝ))
    (h0 h1 : Fin 4) (hc0 hc1) (j : Fin 128) :
    (spreadRow z h0 h1 hc0 hc1 (ix2 0 j) : EReal) = (Z (if j.val < 64 then h0 else h1) : ℝ) := by
  have hl := lane_apply 0 j
  revert hl
  unfold spreadRow k0_pay7
  generalize k0_pay6 = p
  intro hl
  pointwise []
  rw [hl, hz, hz, select_coe, apply_ite Z]

/-- The output of a pair of heads: lane `j` is the first head's below 64, the second head's from there on. -/
theorem outPiece_apply (hx : ∀ l j, (x (ix2 l j) : EReal) = (X l j : ℝ))
    (hla : ∀ l h, (la (ix2 l h) : EReal) = (A l h : ℝ)) (hlr : ∀ l h, (lar (ix2 h l) : EReal) = (A l h : ℝ))
    (hdr : ∀ l h, (dr (ix2 h l) : EReal) = (D l h : ℝ))
    (hb : ∀ l n, (b (ix2 l n) : EReal) = (B l n : ℝ)) (hc : ∀ l n, (c (ix2 l n) : EReal) = (C l n : ℝ))
    (hst : ∀ n j, (st (ix2 n j) : EReal) = (S n j : ℝ))
    (h0 h1 : Fin 4) (hc0 hc1 hr0 hr1) (l : Fin 256) (j : Fin 128) :
    (outPiece i x b c la lar dr st h0 h1 hc0 hc1 hr0 hr1 (ix4 0 0 l j) : EReal)
      = (outR (i 0) (A · (if j.val < 64 then h0 else h1)) (D · (if j.val < 64 then h0 else h1)) (X · j) B C (S · j) l : ℝ) := by
  have hw0 := weights_apply i hla hlr hdr hb hc h0 hc0 hr0 l
  have hw1 := weights_apply i hla hlr hdr hb hc h1 hc1 hr1 l
  have hsp := spread_apply (z := exp (k0_pay30 (k0_pay5 i) la)) (Z := fun l h => Real.exp (cum (i 0) (A · h) l))
    (fun l h => (congrArg Ideal.exp (cum_col i hla l h) : _)) h0 h1 hc0 hc1 l j
  have hl := lane_apply l j
  revert hw0 hw1 hsp hl
  unfold outPiece
  generalize weights i dr _ _ _ h0 hc0 hr0 = w0
  generalize weights i dr _ _ _ h1 hc1 hr1 = w1
  generalize spread _ h0 h1 hc0 hc1 = sp
  generalize k0_pay6 = p
  intro hw0 hw1 hsp hl
  pointwise [k0_pay100, k0_pay116]
  rw [hl, hsp]
  simp only [hw0, hw1, hx, hc, hst, ← EReal.coe_mul, coe_sum, select_coe, ← EReal.coe_add]
  unfold outR
  by_cases h : j.val < 64 <;> simp only [h, if_true, if_false]

/-- The states of a pair of heads after the block. -/
theorem statePiece_apply (hx : ∀ l j, (x (ix2 l j) : EReal) = (X l j : ℝ))
    (hla : ∀ l h, (la (ix2 l h) : EReal) = (A l h : ℝ)) (hdc : ∀ l h, (dc (ix2 l h) : EReal) = (D l h : ℝ))
    (hb : ∀ l n, (b (ix2 l n) : EReal) = (B l n : ℝ)) (hst : ∀ n j, (st (ix2 n j) : EReal) = (S n j : ℝ))
    (h0 h1 : Fin 4) (hc0 hc1 hr0 hr1) (n : Fin 128) (j : Fin 128) :
    (statePiece i x b la dc st h0 h1 hc0 hc1 hr0 hr1 (ix2 n j) : EReal)
      = (stateR (i 0) (A · (if j.val < 64 then h0 else h1)) (D · (if j.val < 64 then h0 else h1)) (X · j) B (S · j) n : ℝ) := by
  have hco : ∀ l h, (k0_pay54 dc (k0_pay30 (k0_pay5 i) la) (k0_pay46 la) (ix2 l h) : EReal)
      = (Real.exp ((∑ l, A l h) - cum (i 0) (A · h) l) * D l h : ℝ) := by
    intro l h
    have h1 := cum_col i hla l h
    have h2 := tot_apply hla h
    revert h1 h2
    generalize k0_pay30 (k0_pay5 i) la = cc
    generalize k0_pay46 la = tt
    intro h1 h2
    pointwise [k0_pay54]
    rw [h1, h2, hdc, ← EReal.coe_sub, EReal.coe_mul]
    rfl
  have hsp := fun l => spread_apply hco h0 h1 hc0 hc1 l j
  have hsr := spreadRow_apply (z := exp (k0_pay46 la)) (Z := fun h => Real.exp (∑ l, A l h))
    (fun h => (congrArg Ideal.exp (tot_apply hla h) : _)) h0 h1 hr0 hr1 j
  revert hsp hsr
  unfold statePiece
  generalize spread _ h0 h1 hc0 hc1 = sp
  generalize spreadRow _ h0 h1 hr0 hr1 = sr
  intro hsp hsr
  pointwise [k0_pay42]
  simp only [hsr, hsp, hx, hb, hst, ← EReal.coe_mul, coe_sum, ← EReal.coe_add]
  rfl

end Values

end Cert.SsdIdeal.Block

end
-- ==== Proof.SsdPoint.lean ====
/-
  One grid point of the scan kernel: what its eight stores leave in the output block and in the carried states,
  as ONE function of what it loads. Eight lane blocks of 128 hold two heads each; four groups share a point.
-/
module

public import proofs.«01_k».proof.Proof.Gen.SsdIdeal.Value
public import Idealize.ShloMosaic.Lib.Pipeline.ValueKit
public import Idealize.ShloMosaic.Lib.Pipeline.CanonAppend
public import Idealize.ShloMosaic.Lib.Pointwise
public import proofs.«01_k».proof.Proof.SsdBlock

@[expose] public section

set_option maxRecDepth 16384

noncomputable section

namespace Cert.SsdIdeal.Block

open Cert.SsdIdeal Cert.SsdIdeal.Gen Idealize.ShloMosaic

/-- The group and the head of a lane, and the column of a group's `B` or `C`. -/
def grp (w : Fin 1024) : Fin 4 := ⟨w.val / 256, by omega⟩
def hd (w : Fin 1024) : Fin 4 := ⟨w.val / 64 % 4, by omega⟩
def bcol (g : Fin 4) (n : Fin 128) : Fin 512 := ⟨128 * g.val + n.val, by omega⟩

/-- Lane `j` of lane block `q`. -/
def lane (q : Fin 8) (j : Fin 128) : Fin 1024 := ⟨128 * q.val + j.val, by omega⟩

/-- The group and the first head of lane block `q`. -/
def qg (q : Fin 8) : Fin 4 := ⟨q.val / 2, by omega⟩
def qh0 (q : Fin 8) : Fin 4 := ⟨2 * (q.val % 2), by omega⟩
def qh1 (q : Fin 8) : Fin 4 := ⟨2 * (q.val % 2) + 1, by omega⟩

theorem grp_lane (q : Fin 8) (j : Fin 128) : grp (lane q j) = qg q := by
  apply Fin.ext; simp only [grp, lane, qg]; omega
theorem hd_lane (q : Fin 8) (j : Fin 128) : hd (lane q j) = if j.val < 64 then qh0 q else qh1 q := by
  apply Fin.ext; split <;> simp only [hd, lane, qh0, qh1] <;> omega

/-- The output of a point. -/
def outBlk (d : Fin 2) (A D : Fin 4 → Fin 256 → Fin 4 → ℝ) (X : Fin 256 → Fin 1024 → ℝ) (B C : Fin 256 → Fin 512 → ℝ)
    (S : Fin 128 → Fin 1024 → ℝ) (l : Fin 256) (w : Fin 1024) : ℝ :=
  outR d (A (grp w) · (hd w)) (D (grp w) · (hd w)) (X · w) (fun l n => B l (bcol (grp w) n)) (fun l n => C l (bcol (grp w) n)) (S · w) l

/-- The states after a point. -/
def stateBlk (d : Fin 2) (A D : Fin 4 → Fin 256 → Fin 4 → ℝ) (X : Fin 256 → Fin 1024 → ℝ) (B : Fin 256 → Fin 512 → ℝ)
    (S : Fin 128 → Fin 1024 → ℝ) (n : Fin 128) (w : Fin 1024) : ℝ :=
  stateR d (A (grp w) · (hd w)) (D (grp w) · (hd w)) (X · w) (fun l n => B l (bcol (grp w) n)) (S · w) n

section Pieces

variable (c : Dev nD) (i : grid0.Coords) (arg4 : Memref sig .tc .vmem S1x256x1024 .f32) (harg4 : arg4.IsWhole) (arg5 : Memref sig .tc .vmem S1x256x512 .f32) (harg5 : arg5.IsWhole) (arg6 : Memref sig .tc .vmem S1x256x512 .f32) (harg6 : arg6.IsWhole) (arg7 : Memref sig .tc .vmem S1x1x4x256x4 .f32) (harg7 : arg7.IsWhole) (arg8 : Memref sig .tc .vmem S1x1x4x256x4 .f32) (harg8 : arg8.IsWhole) (arg9 : Memref sig .tc .vmem S1x1x4x4x256 .f32) (harg9 : arg9.IsWhole) (arg10 : Memref sig .tc .vmem S1x1x4x4x256 .f32) (harg10 : arg10.IsWhole) (arg11 : Memref sig .tc .vmem S1x1x256x1024 .f32) (harg11 : arg11.IsWhole) (arg12 : Memref sig .tc .vmem S128x1024 .f32) (harg12 : arg12.IsWhole)
  (x0 : Vec Ideal S1x256x1024 .f32) (x1 : Vec Ideal S1x256x512 .f32) (x2 : Vec Ideal S1x256x512 .f32) (x3 : Vec Ideal S1x1x4x256x4 .f32) (x4 : Vec Ideal S1x1x4x256x4 .f32) (x5 : Vec Ideal S1x1x4x4x256 .f32) (x6 : Vec Ideal S1x1x4x4x256 .f32) (xs0 : Vec Ideal S128x1024 .f32)
  {A D : Fin 4 → Fin 256 → Fin 4 → ℝ} {X : Fin 256 → Fin 1024 → ℝ} {B C : Fin 256 → Fin 512 → ℝ} {S : Fin 128 → Fin 1024 → ℝ}

/-- What a point loads, as reals. -/
structure Loads (x0 : Vec Ideal S1x256x1024 .f32) (x1 : Vec Ideal S1x256x512 .f32) (x2 : Vec Ideal S1x256x512 .f32) (x3 : Vec Ideal S1x1x4x256x4 .f32) (x4 : Vec Ideal S1x1x4x256x4 .f32) (x5 : Vec Ideal S1x1x4x4x256 .f32) (x6 : Vec Ideal S1x1x4x4x256 .f32)
    (A D : Fin 4 → Fin 256 → Fin 4 → ℝ) (X : Fin 256 → Fin 1024 → ℝ) (B C : Fin 256 → Fin 512 → ℝ) : Prop where
  x : ∀ l w, (x0 (ix3 0 l w) : EReal) = (X l w : ℝ)
  b : ∀ l n, (x1 (ix3 0 l n) : EReal) = (B l n : ℝ)
  c : ∀ l n, (x2 (ix3 0 l n) : EReal) = (C l n : ℝ)
  dc : ∀ g l h, (x3 (ix5 0 0 g l h) : EReal) = (D g l h : ℝ)
  ac : ∀ g l h, (x4 (ix5 0 0 g l h) : EReal) = (A g l h : ℝ)
  dr : ∀ g l h, (x5 (ix5 0 0 g h l) : EReal) = (D g l h : ℝ)
  ar : ∀ g l h, (x6 (ix5 0 0 g h l) : EReal) = (A g l h : ℝ)

/-- The boxes the kernel loads and stores, at lane block `q` and group `g`. -/
abbrev boxX (q : Fin 8) : Rect S1x256x1024 := Rect.unit ![0, 0, 128 * q.val] S1x256x128.size (by revert q; decide)
abbrev boxB (g : Fin 4) : Rect S1x256x512 := Rect.unit ![0, 0, 128 * g.val] S1x256x128.size (by revert g; decide)
abbrev boxC (g : Fin 4) : Rect S1x1x4x256x4 := Rect.unit ![0, 0, g.val, 0, 0] S1x1x1x256x4.size (by revert g; decide)
abbrev boxR (g : Fin 4) : Rect S1x1x4x4x256 := Rect.unit ![0, 0, g.val, 0, 0] S1x1x1x4x256.size (by revert g; decide)
abbrev boxS (q : Fin 8) : Rect S128x1024 := Rect.unit ![0, 128 * q.val] S128x128.size (by revert q; decide)
abbrev boxY (q : Fin 8) : Rect S1x1x256x1024 := Rect.unit ![0, 0, 0, 128 * q.val] S1x1x256x128.size (by revert q; decide)

/-- A column or row of a head lies in its table. -/
theorem sl_col (h : Fin 4) : S256x4.Slices ![0, h.val] S256x1 := by revert h; decide
theorem sl_row (h : Fin 4) : S4x256.Slices ![h.val, 0] S1x256 := by revert h; decide
theorem sl_one (h : Fin 4) : S1x4.Slices ![0, h.val] S1x1 := by revert h; decide

theorem load_x (q : Fin 8) (l : Fin 256) (j : Fin 128) :
    (k0_pay70 (F := Ideal) (arg4.view.readAt (Elt Ideal) (boxX q).toLoadRect (harg4.unread x0)) (ix2 l j) : EReal)
      = x0 (ix3 0 l (lane q j)) := by
  rw [View.readAt_eq_ld, harg4.read_unread]
  pointwise [k0_pay70]
  rfl

theorem load_b (g : Fin 4) (l : Fin 256) (n : Fin 128) :
    (k0_pay8 (F := Ideal) (arg5.view.readAt (Elt Ideal) (boxB g).toLoadRect (harg5.unread x1)) (ix2 l n) : EReal)
      = x1 (ix3 0 l (bcol g n)) := by
  rw [View.readAt_eq_ld, harg5.read_unread]
  pointwise [k0_pay8]
  rfl

theorem load_c (g : Fin 4) (l : Fin 256) (n : Fin 128) :
    (k0_pay12 (F := Ideal) (arg6.view.readAt (Elt Ideal) (boxB g).toLoadRect (harg6.unread x2)) (ix2 l n) : EReal)
      = x2 (ix3 0 l (bcol g n)) :=
  load_b arg6 harg6 x2 g l n

theorem load_col (g : Fin 4) (l : Fin 256) (h : Fin 4) :
    (k0_pay16 (F := Ideal) (arg7.view.readAt (Elt Ideal) (boxC g).toLoadRect (harg7.unread x3)) (ix2 l h) : EReal)
      = x3 (ix5 0 0 g l h) := by
  rw [View.readAt_eq_ld, harg7.read_unread]
  pointwise [k0_pay16]

theorem load_row (g : Fin 4) (l : Fin 256) (h : Fin 4) :
    (k0_pay24 (F := Ideal) (arg9.view.readAt (Elt Ideal) (boxR g).toLoadRect (harg9.unread x5)) (ix2 h l) : EReal)
      = x5 (ix5 0 0 g h l) := by
  rw [View.readAt_eq_ld, harg9.read_unread]
  pointwise [k0_pay24]

theorem load_st (q : Fin 8) (n : Fin 128) (j : Fin 128) :
    (arg12.view.readAt (Elt Ideal) (boxS q).toLoadRect (harg12.unread xs0) (ix2 n j) : EReal)
      = xs0 (ix2 n (lane q j)) := by
  rw [View.readAt_eq_ld, harg12.read_unread]
  pointwise []
  rfl

variable {x0 x1 x2 x3 x4 x5 x6} (H : Loads x0 x1 x2 x3 x4 x5 x6 A D X B C)
include H

/-- One store into the output block is lane block `q` of the point's output. -/
theorem out_store (q : Fin 8) {st : FVec Ideal S128x128 .f32}
    (hst : ∀ n j, (st (ix2 n j) : EReal) = (S n (lane q j) : ℝ)) (y : S1x1x256x128.Idx) :
    (outPiece i (k0_pay70 (F := Ideal) (arg4.view.readAt (Elt Ideal) (boxX q).toLoadRect (harg4.unread x0)))
        (k0_pay8 (F := Ideal) (arg5.view.readAt (Elt Ideal) (boxB (qg q)).toLoadRect (harg5.unread x1)))
        (k0_pay12 (F := Ideal) (arg6.view.readAt (Elt Ideal) (boxB (qg q)).toLoadRect (harg6.unread x2)))
        (k0_pay16 (F := Ideal) (arg8.view.readAt (Elt Ideal) (boxC (qg q)).toLoadRect (harg8.unread x4)))
        (k0_pay24 (F := Ideal) (arg10.view.readAt (Elt Ideal) (boxR (qg q)).toLoadRect (harg10.unread x6)))
        (k0_pay24 (F := Ideal) (arg9.view.readAt (Elt Ideal) (boxR (qg q)).toLoadRect (harg9.unread x5)))
        st (qh0 q) (qh1 q) (sl_col _) (sl_col _) (sl_row _) (sl_row _) y : EReal)
      = (fun y : S1x1x256x1024.Idx => ((outBlk (i 0) A D X B C S (y 2) (y 3) : ℝ) : EReal)) ((boxY q).emb y) := by
  obtain ⟨l, j, rfl⟩ : ∃ (l : Fin 256) (j : Fin 128), y = ix4 0 0 l j := ⟨y 2, y 3, by idx_ext⟩
  rw [outPiece_apply i (fun l j => (load_x arg4 harg4 x0 q l j).trans (H.x l _))
    (fun l h => (load_col arg8 harg8 x4 (qg q) l h).trans (H.ac _ l h))
    (fun l h => (load_row arg10 harg10 x6 (qg q) l h).trans (H.ar _ l h))
    (fun l h => (load_row arg9 harg9 x5 (qg q) l h).trans (H.dr _ l h))
    (fun l n => (load_b arg5 harg5 x1 (qg q) l n).trans (H.b l _))
    (fun l n => (load_c arg6 harg6 x2 (qg q) l n).trans (H.c l _)) hst]
  have e2 : ((boxY q).emb (ix4 0 0 l j)) 2 = l := by apply Fin.ext; simp [Rect.emb, Rect.unit]
  have e3 : ((boxY q).emb (ix4 0 0 l j)) 3 = lane q j := by apply Fin.ext; simp [Rect.emb, Rect.unit, lane]
  dsimp only
  rw [e2, e3]
  unfold outBlk
  rw [grp_lane, hd_lane]

/-- One store into the carried states is lane block `q` of the states after the point. -/
theorem state_store (q : Fin 8) {st : FVec Ideal S128x128 .f32}
    (hst : ∀ n j, (st (ix2 n j) : EReal) = (S n (lane q j) : ℝ)) (y : S128x128.Idx) :
    (statePiece i (k0_pay70 (F := Ideal) (arg4.view.readAt (Elt Ideal) (boxX q).toLoadRect (harg4.unread x0)))
        (k0_pay8 (F := Ideal) (arg5.view.readAt (Elt Ideal) (boxB (qg q)).toLoadRect (harg5.unread x1)))
        (k0_pay16 (F := Ideal) (arg8.view.readAt (Elt Ideal) (boxC (qg q)).toLoadRect (harg8.unread x4)))
        (k0_pay16 (F := Ideal) (arg7.view.readAt (Elt Ideal) (boxC (qg q)).toLoadRect (harg7.unread x3)))
        st (qh0 q) (qh1 q) (sl_col _) (sl_col _) (sl_one _) (sl_one _) y : EReal)
      = (fun y : S128x1024.Idx => ((stateBlk (i 0) A D X B S (y 0) (y 1) : ℝ) : EReal)) ((boxS q).emb y) := by
  obtain ⟨n, j, rfl⟩ : ∃ (n : Fin 128) (j : Fin 128), y = ix2 n j := ⟨y 0, y 1, by idx_ext⟩
  rw [statePiece_apply i (fun l j => (load_x arg4 harg4 x0 q l j).trans (H.x l _))
    (fun l h => (load_col arg8 harg8 x4 (qg q) l h).trans (H.ac _ l h))
    (fun l h => (load_col arg7 harg7 x3 (qg q) l h).trans (H.dc _ l h))
    (fun l n => (load_b arg5 harg5 x1 (qg q) l n).trans (H.b l _)) hst]
  have e2 : ((boxS q).emb (ix2 n j)) 0 = n := by apply Fin.ext; simp [Rect.emb, Rect.unit]
  have e3 : ((boxS q).emb (ix2 n j)) 1 = lane q j := by apply Fin.ext; simp [Rect.emb, Rect.unit, lane]
  dsimp only
  rw [e2, e3]
  unfold stateBlk
  rw [grp_lane, hd_lane]

/-- The output block after a point that carries states `S` in. -/
theorem out_B (hc : ¬cond0_0 i) (hS : ∀ n w, (xs0 (ix2 n w) : EReal) = (S n w : ℝ)) (l : Fin 256) (w : Fin 1024) :
    (out0_B_7 c i arg4 harg4 arg5 harg5 arg6 harg6 arg7 harg7 arg8 harg8 arg9 harg9 arg10 harg10 arg11 harg11 arg12 harg12 hc
      x0 x1 x2 x3 x4 x5 x6 xs0 (ix4 0 0 l w) : EReal) = (outBlk (i 0) A D X B C S l w : ℝ) := by
  have hcov := cover0_B_7 c i arg4 harg4 arg5 harg5 arg6 harg6 arg7 harg7 arg8 harg8 arg9 harg9 arg10 harg10 arg11 harg11 arg12 harg12 hc
      x0 x1 x2 x3 x4 x5 x6 xs0
  have hst := fun (q : Fin 8) n j => (load_st arg12 harg12 xs0 q n j).trans (hS n _)
  unfold out0_B_7
  rw [View.read_writes_eq_canon _ _ _ hcov]
  revert hcov
  unfold kernelRun0_B
  dsimp only
  intro hcov
  refine View.canon_apply_of_pieces (fun y : S1x1x256x1024.Idx => ((outBlk (i 0) A D X B C S (y 2) (y 3) : ℝ) : EReal)) _ ?_ (ix4 0 0 l w) (hcov _)
  intro p hp y
  simp only [List.mem_cons, List.not_mem_nil, or_false] at hp
  have h := fun q => out_store i arg4 harg4 arg5 harg5 arg6 harg6 arg8 harg8 arg9 harg9 arg10 harg10 H q (hst q)
  rcases hp with rfl | rfl | rfl | rfl | rfl | rfl | rfl | rfl
  · exact h 7 y
  · exact h 6 y
  · exact h 5 y
  · exact h 4 y
  · exact h 3 y
  · exact h 2 y
  · exact h 1 y
  · exact h 0 y

/-- The states after a point that carries states `S` in. -/
theorem state_B (hc : ¬cond0_0 i) (hS : ∀ n w, (xs0 (ix2 n w) : EReal) = (S n w : ℝ)) (n : Fin 128) (w : Fin 1024) :
    (sout0_B_0 c i arg4 harg4 arg5 harg5 arg6 harg6 arg7 harg7 arg8 harg8 arg9 harg9 arg10 harg10 arg11 harg11 arg12 harg12 hc
      x0 x1 x2 x3 x4 x5 x6 xs0 (ix2 n w) : EReal) = (stateBlk (i 0) A D X B S n w : ℝ) := by
  have hcov := scover0_B_0 c i arg4 harg4 arg5 harg5 arg6 harg6 arg7 harg7 arg8 harg8 arg9 harg9 arg10 harg10 arg11 harg11 arg12 harg12 hc
      x0 x1 x2 x3 x4 x5 x6 xs0
  have hst := fun (q : Fin 8) n j => (load_st arg12 harg12 xs0 q n j).trans (hS n _)
  unfold sout0_B_0
  rw [View.read_writes_eq_canon _ _ _ hcov]
  revert hcov
  unfold kernelRun0_B
  dsimp only
  intro hcov
  refine View.canon_apply_of_pieces (fun y : S128x1024.Idx => ((stateBlk (i 0) A D X B S (y 0) (y 1) : ℝ) : EReal)) _ ?_ (ix2 n w) (hcov _)
  intro p hp y
  simp only [List.mem_cons, List.not_mem_nil, or_false] at hp
  have h := fun q => state_store i arg4 harg4 arg5 harg5 arg7 harg7 arg8 harg8 H q (hst q)
  rcases hp with rfl | rfl | rfl | rfl | rfl | rfl | rfl | rfl
  · exact h 7 y
  · exact h 6 y
  · exact h 5 y
  · exact h 4 y
  · exact h 3 y
  · exact h 2 y
  · exact h 1 y
  · exact h 0 y

omit H in
/-- The states just after they are cleared. -/
theorem cleared_apply (q : Fin 8) (n j : Fin 128) :
    (arg12.view.readCov (kernelRun0_A.sl.HS0_1 (F := Ideal)) (boxS q).toLoadRect (ix2 n j) : EReal) = ((0 : ℝ) : EReal) := by
  rw [View.readCov_eq_canon']
  unfold kernelRun0_A.sl.HS0_1
  rw [View.canon_unit_zero (by funext a; fin_cases a <;> rfl)]
  generalize (boxS q).toLoadRect.idx (ix2 n j) = y
  obtain ⟨a, b, rfl⟩ : ∃ (a : Fin 128) (b : Fin 1024), y = ix2 a b := ⟨y 0, y 1, by idx_ext⟩
  pointwise [k0_pay3]
  rfl

/-- The states after a point that clears them first. -/
theorem state_A (hc : cond0_0 i) (n : Fin 128) (w : Fin 1024) :
    (sout0_A_0 c i arg4 harg4 arg5 harg5 arg6 harg6 arg7 harg7 arg8 harg8 arg9 harg9 arg10 harg10 arg11 harg11 arg12 harg12 hc
      x0 x1 x2 x3 x4 x5 x6 (ix2 n w) : EReal) = (stateBlk (i 0) A D X B (fun _ _ => 0) n w : ℝ) := by
  have hst := fun (q : Fin 8) n j => cleared_apply arg12 q n j
  unfold sout0_A_0
  rw [View.read_writes_junk_eq_canon]
  unfold kernelRun0_A
  dsimp only
  have h := fun q => state_store i arg4 harg4 arg5 harg5 arg7 harg7 arg8 harg8 H (S := fun _ _ => 0) q (hst q)
  refine View.canon_append_of_pieces (Val := Elt Ideal) (e := .f32) (fun y : S128x1024.Idx => ((stateBlk (i 0) A D X B (fun _ _ => 0) (y 0) (y 1) : ℝ) : EReal))
    kernelRun0_A.sl.HS0_1 [_, _, _, _, _, _, _, _] ?_ (ix2 n w) ?_
  · intro p hp y
    simp only [List.mem_cons, List.not_mem_nil, or_false] at hp
    rcases hp with rfl | rfl | rfl | rfl | rfl | rfl | rfl | rfl
    · exact h 7 y
    · exact h 6 y
    · exact h 5 y
    · exact h 4 y
    · exact h 3 y
    · exact h 2 y
    · exact h 1 y
    · exact h 0 y
  · exact View.cover_of_tiledL (s := S128x1024) _ S128x128.size (by sl_kernel_rfl) _

end Pieces

end Cert.SsdIdeal.Block

end
-- ==== Proof.SsdSpec.lean ====
/-
  What the scan computes, from real inputs: for each direction, batch row and column, the recurrence over the tokens
  in the order that direction visits them, the context tokens first.
-/
module

public import proofs.«01_k».proof.Proof.SsdMath

@[expose] public section

noncomputable section

namespace Cert.Scan

open Finset

/-- The token at stream place `τ`: the second direction visits the context backwards, then the latents backwards. -/
def src (d : Fin 2) (τ : ℕ) : Fin 4352 := Fin.ofNat 4352 (if d = 0 then τ else if τ < 256 then 255 - τ else 4607 - τ)

theorem src_zero {τ : ℕ} (h : τ < 4352) : ((src 0 τ : Fin 4352) : ℕ) = τ := Nat.mod_eq_of_lt h
theorem src_ctx {τ : ℕ} (h : τ < 256) : ((src 1 τ : Fin 4352) : ℕ) = 255 - τ := by
  show (if (1 : Fin 2) = 0 then τ else if τ < 256 then 255 - τ else 4607 - τ) % 4352 = _
  rw [if_neg (by decide), if_pos h]; omega
theorem src_lat {τ : ℕ} (h : 256 ≤ τ) (h' : τ < 4352) : ((src 1 τ : Fin 4352) : ℕ) = 4607 - τ := by
  show (if (1 : Fin 2) = 0 then τ else if τ < 256 then 255 - τ else 4607 - τ) % 4352 = _
  rw [if_neg (by decide), if_neg (by omega)]; omega

/-- The stream place of latent token `t`. -/
def sink (d : Fin 2) (t : Fin 4096) : ℕ := if d = 0 then 256 + t else 4351 - t

variable (X : Fin 4 → Fin 4352 → Fin 4096 → ℝ) (DT LA : Fin 4 → Fin 4352 → Fin 2 → Fin 32 → ℝ)

/-- The head and the group of a column; a group's columns of `B` and `C`. -/
def headOf (w : Fin 2048) : Fin 32 := ⟨w.val / 64, by omega⟩
def groupOf (w : Fin 2048) : Fin 8 := ⟨w.val / 256, by omega⟩
def xCol (w : Fin 2048) : Fin 4096 := ⟨w.val, by omega⟩
def bCol (g : Fin 8) (n : Fin 128) : Fin 4096 := ⟨2048 + g.val * 128 + n.val, by omega⟩
def cCol (g : Fin 8) (n : Fin 128) : Fin 4096 := ⟨3072 + g.val * 128 + n.val, by omega⟩

/-- The four streams of a direction and a batch row. -/
def decay (d : Fin 2) (b : Fin 4) (h : Fin 32) (τ : ℕ) : ℝ := LA b (src d τ) d h
def input (d : Fin 2) (b : Fin 4) (w : Fin 2048) (τ : ℕ) : ℝ := X b (src d τ) (xCol w) * DT b (src d τ) d (headOf w)
def into (d : Fin 2) (b : Fin 4) (g : Fin 8) (τ : ℕ) (n : Fin 128) : ℝ := X b (src d τ) (bCol g n)
def outof (d : Fin 2) (b : Fin 4) (g : Fin 8) (τ : ℕ) (n : Fin 128) : ℝ := X b (src d τ) (cCol g n)

/-- The state of column `w` before stream place `τ`. -/
def stateAt (d : Fin 2) (b : Fin 4) (w : Fin 2048) (n : Fin 128) (τ : ℕ) : ℝ :=
  state (decay LA d b (headOf w)) (input X DT d b w) (fun τ => into X d b (groupOf w) τ n) τ

/-- The output of column `w` at stream place `τ`. -/
def outAt (d : Fin 2) (b : Fin 4) (w : Fin 2048) (τ : ℕ) : ℝ :=
  out (decay LA d b (headOf w)) (input X DT d b w) (into X d b (groupOf w)) (outof X d b (groupOf w)) τ

end Cert.Scan

end
-- ==== Proof.SsdKernel.lean ====
/-
  The scan kernel's result array. The states a point carries are those of the recurrence at the end of its time
  block, by induction along the time blocks; each block of the result is then the recurrence's output.
-/
module

public import proofs.«01_k».proof.Proof.SsdPoint
public import proofs.«01_k».proof.Proof.SsdSpec
public import proofs.«01_k».proof.Defs

@[expose] public section

set_option maxRecDepth 16384

noncomputable section

namespace Cert.SsdIdeal.Block

open Cert.SsdIdeal Cert.SsdIdeal.Gen Idealize.ShloMosaic Idealize.ShloMosaic.TcCoe
open Idealize.ShloMosaic.Pipeline (Dat)
open Finset

/-! ## A block's closed form is the recurrence over its places -/

/-- The places, as a permutation of the times of a block. -/
def places (d : Fin 2) : Equiv.Perm (Fin 256) := ⟨place d, place d, place_place d, place_place d⟩

theorem sum_places (d : Fin 2) (f : Fin 256 → ℝ) : ∑ s, f (place d s) = ∑ s, f s := Equiv.sum_comp (places d) f

section Blocks

variable {d : Fin 2} {a dt x : Fin 256 → ℝ} {B C : Fin 256 → Fin 128 → ℝ} {st : Fin 128 → ℝ} {t : ℕ} {a' u' : ℕ → ℝ} {B' C' : ℕ → Fin 128 → ℝ}
  (ha : ∀ l, a l = a' (t + place d l)) (hu : ∀ l, x l * dt l = u' (t + place d l)) (hB : ∀ l n, B l n = B' (t + place d l) n)
  (hC : ∀ l n, C l n = C' (t + place d l) n)
  (hst : ∀ n, st n = Scan.state a' u' (fun k => B' k n) t)

include ha in
theorem cum_eq (l : Fin 256) : cum d a l = Scan.run a' t (place d l + 1) := by
  rw [← Scan.run_eq_masked, ← sum_places d]
  exact sum_congr rfl fun s _ => by rw [ha]

include ha in
theorem total_eq : (∑ l, a l) = Scan.run a' t 256 := by
  rw [← Scan.run_eq_sum]
  exact (sum_congr rfl fun s _ => ha s).trans (sum_places d fun s => a' (t + s))

include ha hu hB hst in
theorem stateR_eq (n : Fin 128) : stateR d a dt x B st n = Scan.state a' u' (fun k => B' k n) (t + 256) := by
  unfold stateR
  rw [Scan.state_chunk, total_eq ha, hst, mul_comm]
  congr 1
  refine Eq.trans (sum_congr rfl fun l _ => ?_) (sum_places d _)
  rw [cum_eq ha, hB, ← hu]
  ring

include ha hu hB hC hst in
theorem outR_eq (l : Fin 256) : outR d a dt x B C st l = Scan.out a' u' B' C' (t + place d l) := by
  unfold outR wt
  rw [Scan.out_chunk, cum_eq ha]
  congr 1
  · refine Eq.trans (sum_congr rfl fun s _ => ?_) (sum_places d _)
    rw [cum_eq ha, ← hu]
    simp only [hB, hC]
    ring
  · simp only [hC, hst]

end Blocks

/-! ## What a point loads -/

variable (m : (ℓ : Loc nD τ sig) → Buf (Elt Ideal) ℓ)
variable (X : Fin 4 → Fin 4352 → Fin 4096 → ℝ) (DT LA : Fin 4 → Fin 4352 → Fin 2 → Fin 32 → ℝ)

/-- Three arrays of reals as the arguments. -/
structure Reals (x : Vec Ideal S4x4352x4096 .f32) (dt la : Vec Ideal S4x4352x2x32 .f32)
    (X : Fin 4 → Fin 4352 → Fin 4096 → ℝ) (DT LA : Fin 4 → Fin 4352 → Fin 2 → Fin 32 → ℝ) : Prop where
  x : ∀ b t j, (x (ix3 b t j) : EReal) = (X b t j : ℝ)
  dt : ∀ b t d h, (dt (ix4 b t d h) : EReal) = (DT b t d h : ℝ)
  la : ∀ b t d h, (la (ix4 b t d h) : EReal) = (LA b t d h : ℝ)

/-- The time block of a point. -/
def tblk (d : Fin 2) (k : Fin 17) : Fin 17 := if d = 0 then k else ⟨(17 - k.val) % 17, Nat.mod_lt _ (by decide)⟩

/-- A point's direction, batch row, half of the columns and step. -/
def gd (t : Fin cfg0.N) : Fin 2 := grid0.coords t 0
def gb (t : Fin cfg0.N) : Fin 4 := grid0.coords t 1
def gg (t : Fin cfg0.N) : Fin 2 := grid0.coords t 2
def gk (t : Fin cfg0.N) : Fin 17 := grid0.coords t 3

theorem idx_x : ∀ t : Fin cfg0.N, win0_0.index t = ![(gb t).val, (tblk (gd t) (gk t)).val, (gg t).val] :=
  (by decide +kernel : ∀ t : Fin grid0.N, _)
theorem idx_b : ∀ t : Fin cfg0.N, win0_1.index t = ![(gb t).val, (tblk (gd t) (gk t)).val, 4 + (gg t).val] :=
  (by decide +kernel : ∀ t : Fin grid0.N, _)
theorem idx_c : ∀ t : Fin cfg0.N, win0_2.index t = ![(gb t).val, (tblk (gd t) (gk t)).val, 6 + (gg t).val] :=
  (by decide +kernel : ∀ t : Fin grid0.N, _)
theorem idx_dc : ∀ t : Fin cfg0.N, win0_3.index t = ![(gd t).val, (gb t).val, (gg t).val, (tblk (gd t) (gk t)).val, 0] :=
  (by decide +kernel : ∀ t : Fin grid0.N, _)
theorem idx_ac : ∀ t : Fin cfg0.N, win0_4.index t = ![(gd t).val, (gb t).val, (gg t).val, (tblk (gd t) (gk t)).val, 0] :=
  (by decide +kernel : ∀ t : Fin grid0.N, _)
theorem idx_dr : ∀ t : Fin cfg0.N, win0_5.index t = ![(gd t).val, (gb t).val, (gg t).val, 0, (tblk (gd t) (gk t)).val] :=
  (by decide +kernel : ∀ t : Fin grid0.N, _)
theorem idx_ar : ∀ t : Fin cfg0.N, win0_6.index t = ![(gd t).val, (gb t).val, (gg t).val, 0, (tblk (gd t) (gk t)).val] :=
  (by decide +kernel : ∀ t : Fin grid0.N, _)

/-- The token, the head and the column of a place in a point's blocks. -/
def tok (k : Fin 17) (l : Fin 256) : Fin 4352 := ⟨k.val * 256 + l.val, by omega⟩
def headAt (gb : Fin 2) (g h : Fin 4) : Fin 32 := ⟨(gb.val * 4 + g.val) * 4 + h.val, by omega⟩
def colAt (gb : Fin 2) (w : Fin 1024) : Fin 2048 := ⟨gb.val * 1024 + w.val, by omega⟩

theorem V_dc (c : Dev nD) : V m c main_v1 = transpose S2x4x8x4352x4 [2, 0, 3, 1, 4]
    (shapeCast S4x4352x2x8x4 (m ((c : Thread nD τ).loc main_arg1)) shapeCasts_S4x4352x2x32_S4x4352x2x8x4) transposes_S4x4352x2x8x4_S2x4x8x4352x4_2_0_3_1_4 := by
  show StableHlo.after hostOps0 _ (Proc.devRef .tc main_v1) = _
  after_results
  rfl

theorem V_ac (c : Dev nD) : V m c main_v3 = transpose S2x4x8x4352x4 [2, 0, 3, 1, 4]
    (shapeCast S4x4352x2x8x4 (m ((c : Thread nD τ).loc main_arg2)) shapeCasts_S4x4352x2x32_S4x4352x2x8x4) transposes_S4x4352x2x8x4_S2x4x8x4352x4_2_0_3_1_4 := by
  show StableHlo.after hostOps0 _ (Proc.devRef .tc main_v3) = _
  after_results
  rfl

theorem V_dr (c : Dev nD) : V m c main_v5 = transpose S2x4x8x4x4352 [2, 0, 3, 4, 1]
    (shapeCast S4x4352x2x8x4 (m ((c : Thread nD τ).loc main_arg1)) shapeCasts_S4x4352x2x32_S4x4352x2x8x4) transposes_S4x4352x2x8x4_S2x4x8x4x4352_2_0_3_4_1 := by
  show StableHlo.after hostOps0 _ (Proc.devRef .tc main_v5) = _
  after_results
  rfl

theorem V_ar (c : Dev nD) : V m c main_v7 = transpose S2x4x8x4x4352 [2, 0, 3, 4, 1]
    (shapeCast S4x4352x2x8x4 (m ((c : Thread nD τ).loc main_arg2)) shapeCasts_S4x4352x2x32_S4x4352x2x8x4) transposes_S4x4352x2x8x4_S2x4x8x4x4352_2_0_3_4_1 := by
  show StableHlo.after hostOps0 _ (Proc.devRef .tc main_v7) = _
  after_results
  rfl

/-- A table of heads read at an index of its columns' form, and of its rows' form. -/
theorem cols_apply (z : Vec Ideal S4x4352x2x32 .f32) (b : Fin 4) (t : Fin 4352) (d : Fin 2) (g : Fin 8) (h : Fin 4) :
    (transpose S2x4x8x4352x4 [2, 0, 3, 1, 4] (shapeCast S4x4352x2x8x4 z shapeCasts_S4x4352x2x32_S4x4352x2x8x4) transposes_S4x4352x2x8x4_S2x4x8x4352x4_2_0_3_1_4
      (ix5 d b g t h) : EReal) = z (ix4 b t d ⟨g.val * 4 + h.val, by omega⟩) := by
  pointwise []

theorem rows_apply (z : Vec Ideal S4x4352x2x32 .f32) (b : Fin 4) (t : Fin 4352) (d : Fin 2) (g : Fin 8) (h : Fin 4) :
    (transpose S2x4x8x4x4352 [2, 0, 3, 4, 1] (shapeCast S4x4352x2x8x4 z shapeCasts_S4x4352x2x32_S4x4352x2x8x4) transposes_S4x4352x2x8x4_S2x4x8x4x4352_2_0_3_4_1
      (ix5 d b g h t) : EReal) = z (ix4 b t d ⟨g.val * 4 + h.val, by omega⟩) := by
  pointwise []

variable {m X DT LA}

theorem loads {c : Dev nD} (H : Reals (m ((c : Thread nD τ).loc main_arg0)) (m ((c : Thread nD τ).loc main_arg1)) (m ((c : Thread nD τ).loc main_arg2)) X DT LA) (t : Fin cfg0.N) :
    Loads (iblk m c 0 t) (iblk m c 1 t) (iblk m c 2 t) (iblk m c 3 t) (iblk m c 4 t) (iblk m c 5 t) (iblk m c 6 t)
      (fun g l h => LA (gb t) (tok (tblk (gd t) (gk t)) l) (gd t) (headAt (gg t) g h))
      (fun g l h => DT (gb t) (tok (tblk (gd t) (gk t)) l) (gd t) (headAt (gg t) g h))
      (fun l w => X (gb t) (tok (tblk (gd t) (gk t)) l) ⟨(gg t).val * 1024 + w.val, by omega⟩)
      (fun l n => X (gb t) (tok (tblk (gd t) (gk t)) l) ⟨(4 + (gg t).val) * 512 + n.val, by omega⟩)
      (fun l n => X (gb t) (tok (tblk (gd t) (gk t)) l) ⟨(6 + (gg t).val) * 512 + n.val, by omega⟩) := by
  have e0 := idx_x t
  have e1 := idx_b t
  have e2 := idx_c t
  have e3 := idx_dc t
  have e4 := idx_ac t
  have e5 := idx_dr t
  have e6 := idx_ar t
  constructor
  · intro l w
    refine Eq.trans ?_ (H.x _ _ _)
    blk_simp [iblk]; rw [V_main_arg0]; congr 1; blk_ext [e0, tok, gd, gb, gg, gk]
  · intro l n
    refine Eq.trans ?_ (H.x _ _ _)
    blk_simp [iblk]; rw [V_main_arg0]; congr 1; blk_ext [e1, tok, gd, gb, gg, gk]
  · intro l n
    refine Eq.trans ?_ (H.x _ _ _)
    blk_simp [iblk]; rw [V_main_arg0]; congr 1; blk_ext [e2, tok, gd, gb, gg, gk]
  · intro g l h
    refine Eq.trans ?_ (H.dt _ _ _ _)
    blk_simp [iblk]; rw [V_dc]
    refine Eq.trans ?_ (cols_apply _ (gb t) (tok (tblk (gd t) (gk t)) l) (gd t) ⟨(gg t).val * 4 + g.val, by omega⟩ h)
    congr 1; blk_ext [e3, tok, gd, gb, gg, gk]
  · intro g l h
    refine Eq.trans ?_ (H.la _ _ _ _)
    blk_simp [iblk]; rw [V_ac]
    refine Eq.trans ?_ (cols_apply _ (gb t) (tok (tblk (gd t) (gk t)) l) (gd t) ⟨(gg t).val * 4 + g.val, by omega⟩ h)
    congr 1; blk_ext [e4, tok, gd, gb, gg, gk]
  · intro g l h
    refine Eq.trans ?_ (H.dt _ _ _ _)
    blk_simp [iblk]; rw [V_dr]
    refine Eq.trans ?_ (rows_apply _ (gb t) (tok (tblk (gd t) (gk t)) l) (gd t) ⟨(gg t).val * 4 + g.val, by omega⟩ h)
    congr 1; blk_ext [e5, tok, gd, gb, gg, gk]
  · intro g l h
    refine Eq.trans ?_ (H.la _ _ _ _)
    blk_simp [iblk]; rw [V_ar]
    refine Eq.trans ?_ (rows_apply _ (gb t) (tok (tblk (gd t) (gk t)) l) (gd t) ⟨(gg t).val * 4 + g.val, by omega⟩ h)
    congr 1; blk_ext [e6, tok, gd, gb, gg, gk]

/-! ## The states carried along the time blocks -/

theorem tok_src (d : Fin 2) (k : Fin 17) (l : Fin 256) : tok (tblk d k) l = Scan.src d (256 * k.val + (place d l).val) := by
  apply Fin.ext
  have hk := k.isLt
  have hl := l.isLt
  match d with
  | 0 =>
    rw [Scan.src_zero (by rw [show place 0 l = l from rfl]; omega)]
    show k.val * 256 + l.val = 256 * k.val + l.val
    omega
  | 1 =>
    have hp : (place 1 l).val = 255 - l.val := by
      show (Fin.rev l).val = _
      rw [Fin.val_rev]; omega
    show (17 - k.val) % 17 * 256 + l.val = _
    by_cases h0 : k.val = 0
    · rw [Scan.src_ctx (by omega)]; omega
    · rw [Scan.src_lat (by omega) (by omega)]; omega

theorem head_eq (q : Fin 2) (w : Fin 1024) : headAt q (grp w) (hd w) = Scan.headOf (colAt q w) := by
  apply Fin.ext; simp only [headAt, grp, hd, Scan.headOf, colAt]; omega

theorem gk_eq : ∀ t : Fin cfg0.N, (gk t).val = t.val % 17 := (by decide +kernel : ∀ t : Fin grid0.N, _)

/-- The point before, when it belongs to the same sweep. -/
theorem prev_eq : ∀ t : Fin cfg0.N, ¬t.val % 17 = 0 → ∀ h : t.val - 1 < cfg0.N,
    gd ⟨t.val - 1, h⟩ = gd t ∧ gb ⟨t.val - 1, h⟩ = gb t ∧ gg ⟨t.val - 1, h⟩ = gg t ∧ (gk ⟨t.val - 1, h⟩).val + 1 = (gk t).val :=
  (by decide +kernel : ∀ t : Fin grid0.N, ¬t.val % 17 = 0 → ∀ h : t.val - 1 < grid0.N,
    gd ⟨t.val - 1, h⟩ = gd t ∧ gb ⟨t.val - 1, h⟩ = gb t ∧ gg ⟨t.val - 1, h⟩ = gg t ∧ (gk ⟨t.val - 1, h⟩).val + 1 = (gk t).val)

/-- The states a point leaves, when those before it are the recurrence's. -/
theorem state_step (d : Fin 2) (b : Fin 4) (q : Fin 2) (k : Fin 17) {S : Fin 128 → Fin 1024 → ℝ}
    (hS : ∀ n w, S n w = Scan.stateAt X DT LA d b (colAt q w) n (256 * k.val)) (n : Fin 128) (w : Fin 1024) :
    stateBlk d (fun g l h => LA b (tok (tblk d k) l) d (headAt q g h)) (fun g l h => DT b (tok (tblk d k) l) d (headAt q g h))
      (fun l w => X b (tok (tblk d k) l) ⟨q.val * 1024 + w.val, by omega⟩)
      (fun l n => X b (tok (tblk d k) l) ⟨(4 + q.val) * 512 + n.val, by omega⟩) S n w
      = Scan.stateAt X DT LA d b (colAt q w) n (256 * (k.val + 1)) := by
  unfold stateBlk Scan.stateAt
  refine stateR_eq (t := 256 * k.val) (fun l => ?_) (fun l => ?_) (fun l n => ?_) (fun n => hS n w) n
  · beta_reduce; rw [tok_src, head_eq]; rfl
  · beta_reduce; rw [tok_src, head_eq]; rfl
  · beta_reduce
    rw [tok_src]
    refine congrArg (X b _) (Fin.ext ?_)
    simp only [bcol, grp, Scan.bCol, Scan.groupOf, colAt]; omega

/-- The output of a point, when the states before it are the recurrence's. -/
theorem out_step (d : Fin 2) (b : Fin 4) (q : Fin 2) (k : Fin 17) {S : Fin 128 → Fin 1024 → ℝ}
    (hS : ∀ n w, S n w = Scan.stateAt X DT LA d b (colAt q w) n (256 * k.val)) (l : Fin 256) (w : Fin 1024) :
    outBlk d (fun g l h => LA b (tok (tblk d k) l) d (headAt q g h)) (fun g l h => DT b (tok (tblk d k) l) d (headAt q g h))
      (fun l w => X b (tok (tblk d k) l) ⟨q.val * 1024 + w.val, by omega⟩)
      (fun l n => X b (tok (tblk d k) l) ⟨(4 + q.val) * 512 + n.val, by omega⟩)
      (fun l n => X b (tok (tblk d k) l) ⟨(6 + q.val) * 512 + n.val, by omega⟩) S l w
      = Scan.outAt X DT LA d b (colAt q w) (256 * k.val + (place d l).val) := by
  unfold outBlk Scan.outAt
  refine outR_eq (t := 256 * k.val) (fun l => ?_) (fun l => ?_) (fun l n => ?_) (fun l n => ?_) (fun n => hS n w) l
  · beta_reduce; rw [tok_src, head_eq]; rfl
  · beta_reduce; rw [tok_src, head_eq]; rfl
  · beta_reduce
    rw [tok_src]
    refine congrArg (X b _) (Fin.ext ?_)
    simp only [bcol, grp, Scan.bCol, Scan.groupOf, colAt]; omega
  · beta_reduce
    rw [tok_src]
    refine congrArg (X b _) (Fin.ext ?_)
    simp only [bcol, grp, Scan.cCol, Scan.groupOf, colAt]; omega

section Sweep

variable {c : Dev nD} (H : Reals (m ((c : Thread nD τ).loc main_arg0)) (m ((c : Thread nD τ).loc main_arg1)) (m ((c : Thread nD τ).loc main_arg2)) X DT LA)
include H

/-- The states after each point are the recurrence's at the end of its time block. -/
theorem states : ∀ (n : ℕ) (hn : n < cfg0.N) (s : Fin 128) (w : Fin 1024), ((outsAt0 m c n hn).2 (ix2 s w) : EReal)
    = ((Scan.stateAt X DT LA (gd ⟨n, hn⟩) (gb ⟨n, hn⟩) (colAt (gg ⟨n, hn⟩) w) s (256 * ((gk ⟨n, hn⟩).val + 1)) : ℝ) : EReal) := by
  intro n
  induction n using Nat.strong_induction_on with
  | _ n ih =>
    intro hn s w
    by_cases h0 : n % 17 = 0
    · have hk : (gk ⟨n, hn⟩).val = 0 := (gk_eq ⟨n, hn⟩).trans h0
      rw [show outsAt0 m c n hn = _ from outsAt0_A m c ⟨n, hn⟩ h0]
      dsimp only
      refine (state_A c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) scM0_0 (Memref.isWhole_whole _) (loads H ⟨n, hn⟩) ((hcond0_0 ⟨n, hn⟩).mpr h0) s w).trans ?_
      refine congrArg _ (state_step _ _ _ (gk ⟨n, hn⟩) (fun n w => ?_) s w)
      rw [hk]; rfl
    · have hp : n - 1 < cfg0.N := Nat.lt_of_le_of_lt (Nat.sub_le _ _) hn
      obtain ⟨ed, eb, eg, ek⟩ := prev_eq ⟨n, hn⟩ h0 hp
      have hprev := ih (n - 1) (by omega) hp
      rw [ed, eb, eg, ek] at hprev
      rw [show outsAt0 m c n hn = _ from outsAt0_B m c ⟨n, hn⟩ h0]
      dsimp only
      refine (state_B c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) scM0_0 (Memref.isWhole_whole _) _ (loads H ⟨n, hn⟩) (fun h => h0 ((hcond0_0 ⟨n, hn⟩).mp h)) hprev s w).trans ?_
      exact congrArg _ (state_step _ _ _ (gk ⟨n, hn⟩) (fun n w => rfl) s w)

/-- The output block of each point after the first of its sweep. -/
theorem outputs (t : Fin cfg0.N) (h0 : ¬t.val % 17 = 0) (l : Fin 256) (w : Fin 1024) :
    ((outsAt0 m c t.val t.isLt).1 (ix4 0 0 l w) : EReal)
      = ((Scan.outAt X DT LA (gd t) (gb t) (colAt (gg t) w) (256 * (gk t).val + (place (gd t) l).val) : ℝ) : EReal) := by
  have hp : t.val - 1 < cfg0.N := Nat.lt_of_le_of_lt (Nat.sub_le _ _) t.isLt
  obtain ⟨ed, eb, eg, ek⟩ := prev_eq t h0 hp
  have hprev := states H (t.val - 1) hp
  rw [ed, eb, eg, ek] at hprev
  rw [outsAt0_B m c t h0]
  dsimp only
  refine (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) _ (loads H t) (fun h => h0 ((hcond0_0 t).mp h)) hprev l w).trans ?_
  exact congrArg _ (out_step _ _ _ (gk t) (fun n w => rfl) l w)

end Sweep

/-! ## The result array -/

/-- The recurrence's outputs of the latent tokens, as an array. -/
def result (X : Fin 4 → Fin 4352 → Fin 4096 → ℝ) (DT LA : Fin 4 → Fin 4352 → Fin 2 → Fin 32 → ℝ) : Vec Ideal S2x4x4096x2048 .f32 :=
  fun i => ((Scan.outAt X DT LA (i 0) (i 1) (i 3) (Scan.sink (i 0) (i 2)) : ℝ) : EReal)

/-- Only points after the first of a sweep write their block back. -/
theorem flush_later : ∀ t : Fin cfg0.N, win0_7.flush t = true → ¬t.val % 17 = 0 := (by decide +kernel : ∀ t : Fin grid0.N, _)

theorem idx_out : ∀ t : Fin cfg0.N, ¬t.val % 17 = 0 → win0_7.index t
    = ![(gd t).val, (gb t).val, if gd t = 0 then (gk t).val - 1 else 16 - (gk t).val, (gg t).val] :=
  (by decide +kernel : ∀ t : Fin grid0.N, ¬t.val % 17 = 0 → win0_7.index t
    = ![(gd t).val, (gb t).val, if gd t = 0 then (gk t).val - 1 else 16 - (gk t).val, (gg t).val])

theorem sink_eq (d : Fin 2) (k : Fin 17) (hk : k.val ≠ 0) (l : Fin 256) (t : Fin 4096)
    (ht : t.val = (if d = 0 then k.val - 1 else 16 - k.val) * 256 + l.val) : Scan.sink d t = 256 * k.val + (place d l).val := by
  have hl := l.isLt
  match d with
  | 0 =>
    rw [if_pos rfl] at ht
    show 256 + t.val = 256 * k.val + l.val
    omega
  | 1 =>
    rw [if_neg (by decide)] at ht
    show 4351 - t.val = 256 * k.val + (Fin.rev l).val
    rw [Fin.val_rev]; omega

theorem result_eq {c : Dev nD} (H : Reals (m ((c : Thread nD τ).loc main_arg0)) (m ((c : Thread nD τ).loc main_arg1)) (m ((c : Thread nD τ).loc main_arg2)) X DT LA) :
    (dats m 0 c).arrAt 7 cfg0.N = result X DT LA := by
  refine (dats m 0 c).arrAt_eq_of_covers 7 _ (by decide +kernel) fun t hf y => ?_
  have h0 := flush_later t hf
  have e7 := idx_out t h0
  have hk : (gk t).val ≠ 0 := by rw [gk_eq]; exact h0
  blk_simp
  rw [after0_7]
  obtain ⟨l, w, rfl⟩ : ∃ (l : Fin 256) (w : Fin 1024), y = ix4 0 0 l w := ⟨y 2, y 3, by idx_ext⟩
  refine (outputs H t h0 l w).trans ?_
  have i0 : (win0_7.blk t).view.emb (ix4 0 0 l w) 0 = gd t := by
    apply Fin.ext; blk_simp [e7]; exact Nat.add_zero _
  have i1 : (win0_7.blk t).view.emb (ix4 0 0 l w) 1 = gb t := by
    apply Fin.ext; blk_simp [e7]; exact Nat.add_zero _
  have i2 : ((win0_7.blk t).view.emb (ix4 0 0 l w) 2).val = (if gd t = 0 then (gk t).val - 1 else 16 - (gk t).val) * 256 + l.val := by
    blk_simp [e7]
  have i3 : (win0_7.blk t).view.emb (ix4 0 0 l w) 3 = colAt (gg t) w := by
    apply Fin.ext; blk_simp [e7, colAt]
  unfold result
  rw [i0, i1, i3, sink_eq (gd t) (gk t) hk l _ i2]

end Cert.SsdIdeal.Block

end
-- ==== Proof.SsdRefStep.lean ====
/-
  One trip of the reference's scan over chunks: from the recurrence's states before a chunk of 128 stream places it
  makes those after the chunk, and the recurrence's outputs at the chunk's places.
-/
module

public import proofs.«01_k».proof.Proof.Gen.SsdRefIdeal.Step
public import Idealize.ShloMosaic.Lib.Pointwise
public import Idealize.ShloMosaic.Lib.DynamicIndex
public import Idealize.ShloMosaic.Lib.WordCmp
public import Idealize.ShloMosaic.Lib.Pipeline.ValueKit
public import proofs.«01_k».proof.Proof.SsdMath
public import proofs.«01_k».proof.Proof.SsdBlock

@[expose] public section

set_option maxRecDepth 16384

noncomputable section

namespace Cert.SsdRefIdeal.Chunk

open Cert.SsdRefIdeal Cert.SsdRefIdeal.Step Idealize.ShloMosaic
open Cert.SsdIdeal.Block (coe_sum exp_masked select_if)
open Finset

/-! ## Running sums -/

/-- A fold of additions is the start plus the sum. -/
theorem foldl_add (n : ℕ) (f : Fin n → EReal) (v : EReal) : (List.finRange n).foldl (fun r k => r + f k) v = v + ∑ k, f k := by
  rw [Fin.sum_univ_def]
  generalize List.finRange n = l
  induction l generalizing v with
  | nil => simp
  | cons k l ih => rw [List.foldl_cons, ih, List.map_cons, List.sum_cons, add_assoc]

/-- The window's positions, which run along the second axis. -/
def posn (n : Fin (⟨4, ![1, 128, 1, 1]⟩ : Shape).numel) : (⟨4, ![1, 128, 1, 1]⟩ : Shape).Idx := (⟨4, ![1, 128, 1, 1]⟩ : Shape).rowMajor.symm n

theorem posn_one : ∀ n : Fin (⟨4, ![1, 128, 1, 1]⟩ : Shape).numel, (posn n 1).val = n.val := by
  decide +kernel

/-- A window of 128 places that ends at place `l` sums the places up to `l`. -/
theorem sum_window (a : ℕ → ℝ) (t : ℕ) (l : Fin 128) :
    (∑ n : Fin 128, if 127 ≤ l.val + n.val then a (t + (l.val + n.val - 127)) else 0) = Scan.run a t (l + 1) := by
  rw [Fin.sum_univ_eq_sum_range (fun n => if 127 ≤ l.val + n then a (t + (l.val + n - 127)) else 0) 128]
  have hl := l.isLt
  generalize l.val = l at hl
  rw [show 128 = (127 - l) + (l + 1) by omega, sum_range_add, sum_eq_zero, zero_add]
  · exact sum_congr rfl fun n hn => by
      rw [if_pos (by omega)]
      exact congrArg (fun k => a (t + k)) (by omega)
  · intro n hn
    rw [mem_range] at hn
    exact if_neg (by omega)

theorem cumsum_apply (x : FVec Ideal S8x128x8x4 .f32) (z : FVec Ideal S_ .f32) (hz : ∀ i, (z i : EReal) = 0)
    (h : S8x128x8x4.ReduceWindows ![1, 128, 1, 1] ![1, 1, 1, 1] ![0, 127, 0, 0] ![0, 0, 0, 0] S8x128x8x4) (hu)
    (a : ℕ → ℝ) (t : ℕ) (b : Fin 8) (g : Fin 8) (r : Fin 4) (hx : ∀ l, (x (ix4 b l g r) : EReal) = (a (t + l.val) : ℝ)) (l : Fin 128) :
    (Host.reduceWindowAdd ![1, 128, 1, 1] ![1, 1, 1, 1] ![0, 127, 0, 0] ![0, 0, 0, 0] x z h hu (ix4 b l g r) : EReal)
      = (Scan.run a t (l + 1) : ℝ) := by
  have hl := l.isLt
  show Host.reduceWindow (· + ·) ![1, 128, 1, 1] ![1, 1, 1, 1] ![0, 127, 0, 0] ![0, 0, 0, 0] x (fun _ : (⟨0, ![]⟩ : Shape).Idx => z (Shape.Idx.first hu)) h hu (ix4 b l g r) = _
  unfold Host.reduceWindow
  dsimp only
  rw [hz]
  refine (foldl_add _ _ _).trans ?_
  rw [zero_add, ← sum_window, ← coe_sum]
  refine sum_congr rfl fun n _ => ?_
  have hn : n.val < 128 := n.isLt
  have hw := posn_one n
  have h0 : (posn n 0).val = 0 := Nat.lt_one_iff.mp (posn n 0).isLt
  have h2 : (posn n 2).val = 0 := Nat.lt_one_iff.mp (posn n 2).isLt
  have h3 : (posn n 3).val = 0 := Nat.lt_one_iff.mp (posn n 3).isLt
  split
  · next hin =>
    have h1 : 127 ≤ l.val * 1 + (posn n 1).val := (hin 1).1
    rw [if_pos (by omega)]
    refine Eq.trans (congrArg x ?_) (hx ⟨l.val + n.val - 127, by omega⟩)
    funext k
    apply Fin.ext
    match k with
    | 0 => show b.val * 1 + (posn n 0).val - 0 = b.val; omega
    | 1 => show l.val * 1 + (posn n 1).val - 127 = l.val + n.val - 127; omega
    | 2 => show g.val * 1 + (posn n 2).val - 0 = g.val; omega
    | 3 => show r.val * 1 + (posn n 3).val - 0 = r.val; omega
  · next hin =>
    rw [if_neg]
    · rfl
    · intro hle
      refine hin fun k => ?_
      match k with
      | 0 => exact ⟨Nat.zero_le _, by show b.val * 1 + (posn n 0).val - 0 < 8; omega⟩
      | 1 => exact ⟨by show 127 ≤ l.val * 1 + (posn n 1).val; omega, by show l.val * 1 + (posn n 1).val - 127 < 128; omega⟩
      | 2 => exact ⟨Nat.zero_le _, by show g.val * 1 + (posn n 2).val - 0 < 8; omega⟩
      | 3 => exact ⟨Nat.zero_le _, by show r.val * 1 + (posn n 3).val - 0 < 4; omega⟩

/-! ## A trip's reads -/

section Trip

variable (j : ℕ) (hj : j < 34) (s : State Ideal)

theorem word (hj : j < 34) : (BitVec.ofNat 32 j).toInt = (j : ℤ) := by
  rw [BitVec.toInt_eq_toNat_of_lt (by rw [BitVec.toNat_ofNat]; omega), BitVec.toNat_ofNat]; omega

include hj

/-- A slice of one chunk. -/
theorem slice6 (x : FVec Ideal S34x8x128x8x4x64 .f32) (start : Fin 6 → ℤ) (hs : ∀ k, start k = (![j, 0, 0, 0, 0, 0] : Fin 6 → ℕ) k) (h)
    (b : Fin 8) (l : Fin 128) (g : Fin 8) (r : Fin 4) (p : Fin 64) :
    (Host.dynamicSlice S1x8x128x8x4x64 x start h (ix6 0 b l g r p) : EReal) = x (ix6 ⟨j, hj⟩ b l g r p) := by
  have hf : S34x8x128x8x4x64.Slices ![j, 0, 0, 0, 0, 0] S1x8x128x8x4x64 := ⟨rfl, fun k => by fin_cases k <;> simp <;> omega⟩
  refine (congrFun (Host.dynamicSlice_eq_extractStridedSlice S1x8x128x8x4x64 x start ![j, 0, 0, 0, 0, 0] h hf hs) _).trans ?_
  pointwise []

theorem slice5 (x : FVec Ideal S34x8x128x8x128 .f32) (start : Fin 5 → ℤ) (hs : ∀ k, start k = (![j, 0, 0, 0, 0] : Fin 5 → ℕ) k) (h)
    (b : Fin 8) (l : Fin 128) (g : Fin 8) (n : Fin 128) :
    (Host.dynamicSlice S1x8x128x8x128 x start h (ix5 0 b l g n) : EReal) = x (ix5 ⟨j, hj⟩ b l g n) := by
  have hf : S34x8x128x8x128.Slices ![j, 0, 0, 0, 0] S1x8x128x8x128 := ⟨rfl, fun k => by fin_cases k <;> simp <;> omega⟩
  refine (congrFun (Host.dynamicSlice_eq_extractStridedSlice S1x8x128x8x128 x start ![j, 0, 0, 0, 0] h hf hs) _).trans ?_
  pointwise []

theorem x_apply (b : Fin 8) (l : Fin 128) (g : Fin 8) (r : Fin 4) (p : Fin 64) :
    (b6 j s (ix5 b l g r p) : EReal) = s.main_v66_0 (ix6 ⟨j, hj⟩ b l g r p) := by
  pointwise [b6]
  exact slice6 j hj _ _ (fun k => by fin_cases k; exacts [word j hj, rfl, rfl, rfl, rfl, rfl]) _ b l g r p

theorem la_apply (b : Fin 8) (l : Fin 128) (g : Fin 8) (r : Fin 4) :
    (b12 j s (ix4 b l g r) : EReal) = s.main_v66_1 (ix5 ⟨j, hj⟩ b l g r) := by
  pointwise [b12]
  have hf : S34x8x128x8x4.Slices ![j, 0, 0, 0, 0] S1x8x128x8x4 := ⟨rfl, fun k => by fin_cases k <;> simp <;> omega⟩
  refine (congrFun (Host.dynamicSlice_eq_extractStridedSlice S1x8x128x8x4 s.main_v66_1 _ ![j, 0, 0, 0, 0] _ hf
    (fun k => by fin_cases k; exacts [word j hj, rfl, rfl, rfl, rfl])) _).trans ?_
  pointwise []

theorem b_apply (b : Fin 8) (l : Fin 128) (g : Fin 8) (n : Fin 128) :
    (b18 j s (ix4 b l g n) : EReal) = s.main_v66_2 (ix5 ⟨j, hj⟩ b l g n) := by
  pointwise [b18]
  exact slice5 j hj _ _ (fun k => by fin_cases k; exacts [word j hj, rfl, rfl, rfl, rfl]) _ b l g n

theorem c_apply (b : Fin 8) (l : Fin 128) (g : Fin 8) (n : Fin 128) :
    (b24 j s (ix4 b l g n) : EReal) = s.main_v66_3 (ix5 ⟨j, hj⟩ b l g n) := by
  pointwise [b24]
  exact slice5 j hj _ _ (fun k => by fin_cases k; exacts [word j hj, rfl, rfl, rfl, rfl]) _ b l g n

/-- The outputs after a trip: the trip's own at its chunk, the earlier ones elsewhere. -/
theorem ys_apply (k : Fin 34) (b : Fin 8) (l : Fin 128) (g : Fin 8) (r : Fin 4) (p : Fin 64) :
    (b86 j s (ix6 k b l g r p) : EReal) = if k.val = j then (b79 j s (ix5 b l g r p) : EReal) else s.main_v66_6 (ix6 k b l g r p) := by
  have hf : S34x8x128x8x4x64.Slices ![j, 0, 0, 0, 0, 0] S1x8x128x8x4x64 := ⟨rfl, fun k => by fin_cases k <;> simp <;> omega⟩
  unfold b86
  refine (congrFun (WordCmp.dynamicUpdateSlice_eq_update s.main_v66_6 (b80 j s) _ _ ![j, 0, 0, 0, 0, 0] hf
    (fun k => by fin_cases k; exacts [word j hj, rfl, rfl, rfl, rfl, rfl])) _).trans ?_
  pointwise [b80]
  by_cases e : k.val = j
  · rw [if_pos e, dif_pos (by omega)]
  · rw [if_neg e, dif_neg (by omega)]

end Trip

/-! ## A trip -/

/-- The mask of the places not after `l`. -/
theorem mask_apply (j : ℕ) (s : State Ideal) (l t : Fin 128) : b38 j s (ix2 l t) = if t ≤ l then 1#1 else 0#1 := by
  pointwise [b38, b35, b33, b30, b34, b32, b31, b29, b28, b37, b36]
  have hl := l.isLt
  have ht := t.isLt
  have el : (BitVec.ofNat 32 l.val).toInt = l.val := by
    rw [BitVec.toInt_eq_toNat_of_lt (by rw [BitVec.toNat_ofNat]; omega), BitVec.toNat_ofNat]; omega
  have et : (BitVec.ofNat 32 t.val).toInt = t.val := by
    rw [BitVec.toInt_eq_toNat_of_lt (by rw [BitVec.toNat_ofNat]; omega), BitVec.toNat_ofNat]; omega
  have e0 : IntOp.addi (BitVec.ofNat 32 l.val) 0#32 = BitVec.ofNat 32 l.val := by simp [IntOp.addi]
  rw [e0]
  have e1 : IntOp.cmpi CmpIPredicate.sge (BitVec.ofNat 32 l.val) (BitVec.ofNat 32 t.val) = if t ≤ l then 1#1 else 0#1 := by
    by_cases h : t ≤ l
    · have h' : (t.val : ℤ) ≤ l.val := by exact_mod_cast h
      rw [if_pos h]
      simp [IntOp.cmpi, BitVec.sle, el, et, h']
    · have h' : ¬ (t.val : ℤ) ≤ l.val := by exact_mod_cast h
      rw [if_neg h]
      simp [IntOp.cmpi, BitVec.sle, el, et, h']
  rw [e1, select_if]

/-- What the state before trip `j` holds, for four families of streams. -/
structure Holds (A : Fin 8 → Fin 8 → Fin 4 → ℕ → ℝ) (U : Fin 8 → Fin 8 → Fin 4 → Fin 64 → ℕ → ℝ) (B C : Fin 8 → Fin 8 → ℕ → Fin 128 → ℝ)
    (s : State Ideal) : Prop where
  x : ∀ (j : Fin 34) b (l : Fin 128) g r p, (s.main_v66_0 (ix6 j b l g r p) : EReal) = (U b g r p (128 * j.val + l.val) : ℝ)
  la : ∀ (j : Fin 34) b (l : Fin 128) g r, (s.main_v66_1 (ix5 j b l g r) : EReal) = (A b g r (128 * j.val + l.val) : ℝ)
  b : ∀ (j : Fin 34) b (l : Fin 128) g n, (s.main_v66_2 (ix5 j b l g n) : EReal) = (B b g (128 * j.val + l.val) n : ℝ)
  c : ∀ (j : Fin 34) b (l : Fin 128) g n, (s.main_v66_3 (ix5 j b l g n) : EReal) = (C b g (128 * j.val + l.val) n : ℝ)

section Trip

variable {A : Fin 8 → Fin 8 → Fin 4 → ℕ → ℝ} {U : Fin 8 → Fin 8 → Fin 4 → Fin 64 → ℕ → ℝ} {B C : Fin 8 → Fin 8 → ℕ → Fin 128 → ℝ}
  {s : State Ideal} (H : Holds A U B C s) (j : ℕ) (hj : j < 34)
  (hst : ∀ b g r p n, (s.main_v66_5 (ix5 b g r p n) : EReal) = (Scan.state (A b g r) (U b g r p) (fun τ => B b g τ n) (128 * j) : ℝ))
include H hj

theorem cum_apply (b : Fin 8) (l : Fin 128) (g : Fin 8) (r : Fin 4) :
    (b27 j s (ix4 b l g r) : EReal) = (Scan.run (A b g r) (128 * j) (l + 1) : ℝ) := by
  unfold b27
  refine cumsum_apply _ _ (fun i => ?_) _ _ (A b g r) (128 * j) b g r (fun l => ?_) l
  · pointwise [b26, b25]
  · rw [la_apply j hj]
    exact H.la ⟨j, hj⟩ b l g r

include hst

theorem state_apply (b : Fin 8) (g : Fin 8) (r : Fin 4) (p : Fin 64) (n : Fin 128) :
    ((step j s).main_v66_5 (ix5 b g r p n) : EReal) = (Scan.state (A b g r) (U b g r p) (fun τ => B b g τ n) (128 * (j + 1)) : ℝ) := by
  rw [step_main_v66_5]
  pointwise [b78, b77, b76, b75, b68, b67, b66, b65, b64, b63, b62, b61, b60, b59, b58]
  simp only [cum_apply H j hj, x_apply j hj, b_apply j hj, H.x, H.b, hst, ← EReal.coe_sub]
  have ex : ∀ r : ℝ, Ideal.exp (r : EReal) = ((Real.exp r : ℝ) : EReal) := fun _ => rfl
  simp only [ex, ← EReal.coe_mul, coe_sum, ← EReal.coe_add]
  rw [show 128 * (j + 1) = 128 * j + 128 from rfl, Scan.state_chunk]
  congr 2
  exact sum_congr rfl fun l _ => mul_comm _ _

theorem out_apply (b : Fin 8) (l : Fin 128) (g : Fin 8) (r : Fin 4) (p : Fin 64) :
    (b79 j s (ix5 b l g r p) : EReal) = (Scan.out (A b g r) (U b g r p) (B b g) (C b g) (128 * j + l.val) : ℝ) := by
  pointwise [b79, b57, b56, b55, b54, b53, b52, b51, b50, b49, b48, b47, b46, b45, b44, b43, b42, b41, b40, b39, b74, b73, b72, b71, b70, b69]
  simp only [cum_apply H j hj, x_apply j hj, b_apply j hj, c_apply j hj, H.x, H.b, H.c, hst, mask_apply, ← EReal.coe_sub, ← EReal.coe_mul, coe_sum]
  have ex : ∀ r : ℝ, Ideal.exp (r : EReal) = ((Real.exp r : ℝ) : EReal) := fun _ => rfl
  simp only [exp_masked]
  simp only [ex, ← EReal.coe_mul, coe_sum, ← EReal.coe_add]
  rw [Scan.out_chunk]
  congr 2
  · refine sum_congr rfl fun t _ => ?_
    rw [mul_comm]
    congr 2
    exact sum_congr rfl fun n _ => mul_comm _ _
  · congr 1
    exact sum_congr rfl fun n _ => mul_comm _ _

end Trip

end Cert.SsdRefIdeal.Chunk

end
-- ==== Proof.SsdRefInput.lean ====
/-
  What the reference's scan starts from: its four streams, cut into chunks, read at each place of the inputs.
-/
module

public import proofs.«01_k».proof.Proof.SsdRefStep
public import proofs.«01_k».proof.Proof.SsdKernel

@[expose] public section

set_option maxRecDepth 16384

noncomputable section

namespace Cert.SsdRefIdeal.Chunk

open Cert.SsdRefIdeal Cert.SsdRefIdeal.Step Idealize.ShloMosaic
open Cert.SsdRefIdeal.Gen

/-- The direction and the batch row of a row of the doubled batch. -/
def dirOf (b : Fin 8) : Fin 2 := ⟨b.val / 4, by omega⟩
def rowOf (b : Fin 8) : Fin 4 := ⟨b.val % 4, by omega⟩

variable (a0 : Vec Ideal S4x4352x4096 .f32) (a1 a2 : Vec Ideal S4x4352x2x32 .f32)

theorem dirOf_lo {b : Fin 8} (h : b.val < 4) : dirOf b = 0 := Fin.ext (by show b.val / 4 = 0; omega)
theorem dirOf_hi {b : Fin 8} (h : ¬ b.val < 4) : dirOf b = 1 := Fin.ext (by show b.val / 4 = 1; omega)
theorem rowOf_lo {b : Fin 8} (h : b.val < 4) : rowOf b = ⟨b.val, h⟩ := Fin.ext (by show b.val % 4 = b.val; omega)
theorem rowOf_hi {b : Fin 8} (h : ¬ b.val < 4) : rowOf b = ⟨b.val - 4, by omega⟩ := Fin.ext (by show b.val % 4 = b.val - 4; omega)

/-- The first direction's token at a place, and the second's, as numbers. -/
theorem src_lo {b : Fin 8} (hb : b.val < 4) (t : Fin 4352) : (Scan.src (dirOf b) t.val).val = t.val := by
  rw [dirOf_lo hb]; exact Scan.src_zero t.isLt
theorem src_hi_ctx {b : Fin 8} (hb : ¬ b.val < 4) {t : Fin 4352} (ht : t.val < 256) : (Scan.src (dirOf b) t.val).val = 255 - t.val := by
  rw [dirOf_hi hb]; exact Scan.src_ctx ht
theorem src_hi_lat {b : Fin 8} (hb : ¬ b.val < 4) {t : Fin 4352} (ht : ¬ t.val < 256) : (Scan.src (dirOf b) t.val).val = 4607 - t.val := by
  rw [dirOf_hi hb]; exact Scan.src_lat (by omega) t.isLt

/-- The streams are put together from four pieces: context and latents, each in both directions. -/
theorem pieces {α : Type} (f : Fin 4 → Fin 4352 → Fin 2 → α) (b : Fin 8) (t : Fin 4352) :
    (if ht : t.val < 256 then
      if hb : b.val < 4 then f ⟨b.val, hb⟩ t 0
      else f ⟨b.val - 4, by omega⟩ ⟨((⟨t.val, ht⟩ : Fin 256).rev).val, by omega⟩ 1
    else
      if hb : b.val < 4 then f ⟨b.val, hb⟩ ⟨256 + (t.val - 256), by omega⟩ 0
      else f ⟨b.val - 4, by omega⟩ ⟨256 + ((⟨t.val - 256, by omega⟩ : Fin 4096).rev).val, by omega⟩ 1)
      = f (rowOf b) (Scan.src (dirOf b) t) (dirOf b) := by
  have key : ∀ {b' : Fin 4} {t' : Fin 4352} {d' : Fin 2}, b'.val = (rowOf b).val → t'.val = (Scan.src (dirOf b) t).val → d' = dirOf b →
      f b' t' d' = f (rowOf b) (Scan.src (dirOf b) t) (dirOf b) := by
    intro b' t' d' h1 h2 h3
    rw [Fin.ext h1, Fin.ext h2, h3]
  split
  · next ht =>
    split
    · next hb => exact key (by rw [rowOf_lo hb]) (by rw [src_lo hb]) (by rw [dirOf_lo hb])
    · next hb => exact key (by rw [rowOf_hi hb]) (by rw [src_hi_ctx hb ht, Fin.val_rev]; dsimp only; omega) (by rw [dirOf_hi hb])
  · next ht =>
    split
    · next hb => exact key (by rw [rowOf_lo hb]) (by rw [src_lo hb]; dsimp only; omega) (by rw [dirOf_lo hb])
    · next hb => exact key (by rw [rowOf_hi hb]) (by rw [src_hi_lat hb ht]; simp only [Fin.val_rev]; omega) (by rw [dirOf_hi hb])

/-! ## The streams -/

theorem bCol_eq (g : Fin 8) (n : Fin 128) : (⟨2048 + (g.val * 128 + n.val), by omega⟩ : Fin 4096) = Scan.bCol g n := by
  apply Fin.ext
  unfold Scan.bCol
  dsimp only
  omega

theorem cCol_eq (g : Fin 8) (n : Fin 128) : (⟨3072 + (g.val * 128 + n.val), by omega⟩ : Fin 4096) = Scan.cCol g n := by
  apply Fin.ext
  unfold Scan.cCol
  dsimp only
  omega

set_option maxHeartbeats 1000000 in
theorem la_stream (b : Fin 8) (t : Fin 4352) (h : Fin 32) :
    A_main_v37 a0 a1 a2 (ix3 b t h) = a2 (ix4 (rowOf b) (Scan.src (dirOf b) t) (dirOf b) h) := by
  pointwise [A_main_v37, A_main_v36, A_main_v35, A_main_v34, A_main_v33, A_main_v32, A_main_v31, A_main_v30, A_main_v29, A_main_v28, A_main_v27, A_main_v26, A_main_v25]
  simp only [List.mem_singleton, Fin.reduceEq, ↓reduceIte]
  exact pieces (fun b t d => a2 (ix4 b t d h)) b t

set_option maxHeartbeats 1000000 in
theorem x_stream (b : Fin 8) (t : Fin 4352) (h : Fin 32) (p : Fin 64) :
    (A_main_v24 a0 a1 a2 (ix4 b t h p) : EReal) = a0 (ix3 (rowOf b) (Scan.src (dirOf b) t) ⟨h.val * 64 + p.val, by omega⟩)
      * a1 (ix4 (rowOf b) (Scan.src (dirOf b) t) (dirOf b) h) := by
  pointwise [A_main_v24, A_main_v23, A_main_v22, A_main_v21, A_main_v20, A_main_v19, A_main_v18, A_main_v17, A_main_v16, A_main_v15, A_main_v14, A_main_v13, A_main_v12, A_main_v10, A_main_v9, A_main_v8, A_main_v7, A_main_v6, A_main_v3, A_main_v0]
  simp only [List.mem_singleton, Fin.reduceEq, ↓reduceIte]
  exact pieces (fun b t d => (a0 (ix3 b t ⟨h.val * 64 + p.val, by omega⟩) * a1 (ix4 b t d h) : EReal)) b t

set_option maxHeartbeats 1000000 in
theorem b_stream (b : Fin 8) (t : Fin 4352) (g : Fin 8) (n : Fin 128) :
    A_main_v46 a0 a1 a2 (ix4 b t g n) = a0 (ix3 (rowOf b) (Scan.src (dirOf b) t) (Scan.bCol g n)) := by
  pointwise [A_main_v46, A_main_v45, A_main_v44, A_main_v43, A_main_v42, A_main_v41, A_main_v40, A_main_v39, A_main_v38, A_main_v4, A_main_v1]
  simp only [List.mem_singleton, Fin.reduceEq, ↓reduceIte]
  refine (pieces (fun b t _ => a0 (ix3 b t ⟨2048 + (g.val * 128 + n.val), by omega⟩)) b t).trans ?_
  exact congrArg (fun w => a0 (ix3 (rowOf b) (Scan.src (dirOf b) t) w)) (bCol_eq g n)

set_option maxHeartbeats 1000000 in
theorem c_stream (b : Fin 8) (t : Fin 4352) (g : Fin 8) (n : Fin 128) :
    A_main_v55 a0 a1 a2 (ix4 b t g n) = a0 (ix3 (rowOf b) (Scan.src (dirOf b) t) (Scan.cCol g n)) := by
  pointwise [A_main_v55, A_main_v54, A_main_v53, A_main_v52, A_main_v51, A_main_v50, A_main_v49, A_main_v48, A_main_v47, A_main_v5, A_main_v2]
  simp only [List.mem_singleton, Fin.reduceEq, ↓reduceIte]
  refine (pieces (fun b t _ => a0 (ix3 b t ⟨3072 + (g.val * 128 + n.val), by omega⟩)) b t).trans ?_
  exact congrArg (fun w => a0 (ix3 (rowOf b) (Scan.src (dirOf b) t) w)) (cCol_eq g n)

/-! ## The streams by chunk -/

theorem chunks6 (z : Vec Ideal S8x4352x32x64 .f32) (k : Fin 34) (b : Fin 8) (l : Fin 128) (g : Fin 8) (r : Fin 4) (p : Fin 64) :
    transpose S34x8x128x8x4x64 [1, 0, 2, 3, 4, 5] (shapeCast S8x34x128x8x4x64 z shapeCasts_S8x4352x32x64_S8x34x128x8x4x64)
      transposes_S8x34x128x8x4x64_S34x8x128x8x4x64_1_0_2_3_4_5 (ix6 k b l g r p) = z (ix4 b ⟨k.val * 128 + l.val, by omega⟩ ⟨g.val * 4 + r.val, by omega⟩ p) := by
  pointwise []

theorem chunks5 (z : Vec Ideal S8x4352x32 .f32) (k : Fin 34) (b : Fin 8) (l : Fin 128) (g : Fin 8) (r : Fin 4) :
    transpose S34x8x128x8x4 [1, 0, 2, 3, 4] (shapeCast S8x34x128x8x4 z shapeCasts_S8x4352x32_S8x34x128x8x4)
      transposes_S8x34x128x8x4_S34x8x128x8x4_1_0_2_3_4 (ix5 k b l g r) = z (ix3 b ⟨k.val * 128 + l.val, by omega⟩ ⟨g.val * 4 + r.val, by omega⟩) := by
  pointwise []

theorem chunks5' (z : Vec Ideal S8x4352x8x128 .f32) (k : Fin 34) (b : Fin 8) (l : Fin 128) (g : Fin 8) (n : Fin 128) :
    transpose S34x8x128x8x128 [1, 0, 2, 3, 4] (shapeCast S8x34x128x8x128 z shapeCasts_S8x4352x8x128_S8x34x128x8x128)
      transposes_S8x34x128x8x128_S34x8x128x8x128_1_0_2_3_4 (ix5 k b l g n) = z (ix4 b ⟨k.val * 128 + l.val, by omega⟩ g n) := by
  pointwise []

/-- The head, and the column, of a group's place. -/
def headAt (g : Fin 8) (r : Fin 4) : Fin 32 := ⟨g.val * 4 + r.val, by omega⟩
def colAt (g : Fin 8) (r : Fin 4) (p : Fin 64) : Fin 2048 := ⟨(g.val * 4 + r.val) * 64 + p.val, by omega⟩

theorem headOf_colAt (g : Fin 8) (r : Fin 4) (p : Fin 64) : Scan.headOf (colAt g r p) = headAt g r :=
  Fin.ext (by show ((g.val * 4 + r.val) * 64 + p.val) / 64 = g.val * 4 + r.val; omega)
theorem groupOf_colAt (g : Fin 8) (r : Fin 4) (p : Fin 64) : Scan.groupOf (colAt g r p) = g :=
  Fin.ext (by show ((g.val * 4 + r.val) * 64 + p.val) / 256 = g.val; omega)

section Reals

variable (X : Fin 4 → Fin 4352 → Fin 4096 → ℝ) (DT LA : Fin 4 → Fin 4352 → Fin 2 → Fin 32 → ℝ)

/-- The four families of streams. -/
def fA (b : Fin 8) (g : Fin 8) (r : Fin 4) : ℕ → ℝ := Scan.decay LA (dirOf b) (rowOf b) (headAt g r)
def fU (b : Fin 8) (g : Fin 8) (r : Fin 4) (p : Fin 64) : ℕ → ℝ := Scan.input X DT (dirOf b) (rowOf b) (colAt g r p)
def fB (b : Fin 8) (g : Fin 8) : ℕ → Fin 128 → ℝ := Scan.into X (dirOf b) (rowOf b) g
def fC (b : Fin 8) (g : Fin 8) : ℕ → Fin 128 → ℝ := Scan.outof X (dirOf b) (rowOf b) g

variable {a0 a1 a2 X DT LA}

/-- The loop's first state holds them. -/
theorem holds_init (H : Cert.SsdIdeal.Block.Reals a0 a1 a2 X DT LA) :
    Holds (fA LA) (fU X DT) (fB X) (fC X) (init a0 a1 a2) where
  x j b l g r p := by
    show (A_main_v61 a0 a1 a2 _ : EReal) = _
    unfold A_main_v61 A_main_v56
    rw [chunks6, x_stream]
    refine (congrArg₂ (· * ·) (H.x _ _ _) (H.dt _ _ _ _)).trans ?_
    rw [← EReal.coe_mul, fU, Scan.input, headOf_colAt, Nat.mul_comm 128]
    rfl
  la j b l g r := by
    show (A_main_v62 a0 a1 a2 _ : EReal) = _
    unfold A_main_v62 A_main_v57
    rw [chunks5, la_stream]
    refine (H.la _ _ _ _).trans ?_
    rw [fA, Scan.decay, Nat.mul_comm 128]
    rfl
  b j b l g n := by
    show (A_main_v63 a0 a1 a2 _ : EReal) = _
    unfold A_main_v63 A_main_v58
    rw [chunks5', b_stream]
    refine (H.x _ _ _).trans ?_
    rw [fB, Scan.into, Nat.mul_comm 128]
  c j b l g n := by
    show (A_main_v64 a0 a1 a2 _ : EReal) = _
    unfold A_main_v64 A_main_v59
    rw [chunks5', c_stream]
    refine (H.x _ _ _).trans ?_
    rw [fC, Scan.outof, Nat.mul_comm 128]

theorem init_state (b : Fin 8) (g : Fin 8) (r : Fin 4) (p : Fin 64) (n : Fin 128) :
    ((init a0 a1 a2 : State Ideal).main_v66_5 (ix5 b g r p n) : EReal) = ((0 : ℝ) : EReal) := by
  show ((K_main_v60 : Vec Ideal S8x8x4x64x128 .f32) (ix5 b g r p n) : EReal) = _
  pointwise [K_main_v60, K_main_v11, K_main_cst]
  exact EReal.coe_zero.symm

end Reals

/-! ## The loop -/

section Loop

variable {A : Fin 8 → Fin 8 → Fin 4 → ℕ → ℝ} {U : Fin 8 → Fin 8 → Fin 4 → Fin 64 → ℕ → ℝ} {B C : Fin 8 → Fin 8 → ℕ → Fin 128 → ℝ}

/-- A trip leaves the four streams as they are. -/
theorem holds_step {s : State Ideal} (H : Holds A U B C s) (j : ℕ) : Holds A U B C (step j s) := ⟨H.x, H.la, H.b, H.c⟩

/-- Before trip `n`: the streams, the recurrence's states, and its outputs at the chunks done. -/
structure Upto (A : Fin 8 → Fin 8 → Fin 4 → ℕ → ℝ) (U : Fin 8 → Fin 8 → Fin 4 → Fin 64 → ℕ → ℝ) (B C : Fin 8 → Fin 8 → ℕ → Fin 128 → ℝ)
    (n : ℕ) (s : State Ideal) : Prop where
  holds : Holds A U B C s
  state : ∀ b g r p q, (s.main_v66_5 (ix5 b g r p q) : EReal) = (Scan.state (A b g r) (U b g r p) (fun τ => B b g τ q) (128 * n) : ℝ)
  out : ∀ (k : Fin 34) b (l : Fin 128) g r p, k.val < n →
    (s.main_v66_6 (ix6 k b l g r p) : EReal) = (Scan.out (A b g r) (U b g r p) (B b g) (C b g) (128 * k.val + l.val) : ℝ)

theorem upto_iter (it : ℕ → State Ideal) (hs : ∀ n, it (n + 1) = step n (it n)) (h0 : Upto A U B C 0 (it 0)) :
    ∀ n, n ≤ 34 → Upto A U B C n (it n)
  | 0, _ => h0
  | n + 1, hn => by
    have h := upto_iter it hs h0 n (by omega)
    rw [hs]
    refine ⟨holds_step h.holds n, fun b g r p q => state_apply h.holds n (by omega) h.state b g r p q, fun k b l g r p hk => ?_⟩
    rw [step_main_v66_6, ys_apply n (by omega)]
    by_cases hkn : k.val = n
    · rw [if_pos hkn, hkn]
      exact out_apply h.holds n (by omega) h.state b l g r p
    · rw [if_neg hkn]
      exact h.out k b l g r p (by omega)

end Loop

/-! ## The result -/

/-- The stream place of the latent token `t` of the first direction, and of the second. -/
def placeOf (d : Fin 2) (t : Fin 4096) : Fin 4352 := if d = 0 then ⟨256 + t.val, by omega⟩ else ⟨256 + t.rev.val, by omega⟩

theorem placeOf_eq (d : Fin 2) (t : Fin 4096) : (placeOf d t).val = Scan.sink d t := by
  unfold placeOf Scan.sink
  split
  · rfl
  · show 256 + t.rev.val = _
    rw [Fin.val_rev]; omega

/-- The row of the doubled batch. -/
def rowAt (d : Fin 2) (b : Fin 4) : Fin 8 := if d = 0 then ⟨b.val, by omega⟩ else ⟨4 + b.val, by omega⟩

theorem r76_apply (s : State Ideal) (d : Fin 2) (b : Fin 4) (t : Fin 4096) (w : Fin 2048) :
    R_main_v76 s (ix4 d b t w) = s.main_v66_6 (ix6 ⟨(placeOf d t).val / 128, by omega⟩ (rowAt d b) ⟨(placeOf d t).val % 128, by omega⟩
      ⟨w.val / 64 / 4, by omega⟩ ⟨w.val / 64 % 4, by omega⟩ ⟨w.val % 64, by omega⟩) := by
  pointwise [R_main_v76]
  simp only [List.mem_singleton, Fin.reduceEq, ↓reduceIte]
  by_cases h : d = 0
  · subst h
    simp [placeOf, rowAt]
  · have h1 : ¬ d.val < 1 := fun h' => h (Fin.ext (by omega))
    simp [placeOf, rowAt, h, h1]

end Cert.SsdRefIdeal.Chunk

end
-- ==== Proof.SsdValue.lean ====
/-
  The kernel and the reference of the scan end with the same array: from finite inputs both hold the recurrence's
  outputs at the latent tokens.
-/
module

public import proofs.«01_k».proof.Defs
public import proofs.«01_k».proof.Proof.Gen.Pre_finite
public import proofs.«01_k».proof.Proof.Gen.SsdIdeal.Value
public import proofs.«01_k».proof.Proof.SsdRefLoop
public import proofs.«01_k».proof.Proof.SsdKernel
public import proofs.«01_k».proof.Proof.SsdRefInput
public import Idealize.ShloMosaic.Lib.ReduceAll
public import Idealize.ShloMosaic.Lib.KernelVsHost

@[expose] public section

set_option maxRecDepth 16384

noncomputable section

namespace Cert.SsdIdeal.Scan

open Idealize.ShloMosaic Idealize.SL.Sem
open Cert.SsdRefIdeal.Chunk Cert.SsdRefIdeal.Step

/-! ## The reference's result -/

theorem dirOf_rowAt (d : Fin 2) (b : Fin 4) : dirOf (rowAt d b) = d := by revert d b; decide
theorem rowOf_rowAt (d : Fin 2) (b : Fin 4) : rowOf (rowAt d b) = b := by revert d b; decide

theorem headAt_split (w : Fin 2048) :
    headAt ⟨w.val / 64 / 4, by omega⟩ ⟨w.val / 64 % 4, by omega⟩ = Cert.Scan.headOf w := by
  apply Fin.ext
  unfold headAt Cert.Scan.headOf
  dsimp only
  omega
theorem colAt_split (w : Fin 2048) :
    colAt ⟨w.val / 64 / 4, by omega⟩ ⟨w.val / 64 % 4, by omega⟩ ⟨w.val % 64, by omega⟩ = w := by
  apply Fin.ext
  unfold colAt
  dsimp only
  omega
theorem group_split (w : Fin 2048) : (⟨w.val / 64 / 4, by omega⟩ : Fin 8) = Cert.Scan.groupOf w := by
  apply Fin.ext
  unfold Cert.Scan.groupOf
  dsimp only
  omega

variable {a0 : Vec Ideal Cert.SsdIdeal.S4x4352x4096 .f32} {a1 a2 : Vec Ideal Cert.SsdIdeal.S4x4352x2x32 .f32}
  {X : Fin 4 → Fin 4352 → Fin 4096 → ℝ} {DT LA : Fin 4 → Fin 4352 → Fin 2 → Fin 32 → ℝ}

/-- After its 34 trips the reference's loop has made the recurrence's outputs. -/
theorem reference_eq (H : Block.Reals a0 a1 a2 X DT LA) (it : ℕ → Cert.SsdRefIdeal.Step.State Ideal)
    (h0 : it 0 = init a0 a1 a2) (hs : ∀ n, it (n + 1) = step n (it n)) :
    R_main_v76 (it 34) = Block.result X DT LA := by
  have hU := upto_iter (A := fA LA) (U := fU X DT) (B := fB X) (C := fC X) it hs
    (h0 ▸ ⟨holds_init H, fun b g r p q => (init_state b g r p q).trans rfl, fun k _ _ _ _ _ hk => absurd hk (Nat.not_lt_zero _)⟩) 34 le_rfl
  funext i
  obtain ⟨d, b, t, w, rfl⟩ : ∃ (d : Fin 2) (b : Fin 4) (t : Fin 4096) (w : Fin 2048), i = ix4 d b t w := ⟨i 0, i 1, i 2, i 3, by idx_ext⟩
  rw [r76_apply]
  refine (hU.out _ _ _ _ _ _ (by dsimp only; omega)).trans ?_
  show _ = ((Cert.Scan.outAt X DT LA d b w (Cert.Scan.sink d t) : ℝ) : EReal)
  congr 1
  unfold Cert.Scan.outAt fA fU fB fC
  rw [dirOf_rowAt, rowOf_rowAt, headAt_split, colAt_split, group_split, ← placeOf_eq]
  congr 1
  dsimp only
  omega

/-! ## Finite inputs -/

theorem real_of_finite (x : Ideal .f32)
    (h : FloatOps.cmpf .olt (FloatOps.hostAbsf x) (FloatOps.ofBits (F := Ideal) .f32 0x7F800000#32) = 1#1) :
    (x : EReal) = ((EReal.toReal x : ℝ) : EReal) := by
  rw [← Ideal.xori_weird_eq_hostAbsf_olt_inf] at h
  have h' : ¬ ((x : EReal) = ⊤ ∨ (x : EReal) = ⊥) := fun e => by
    have : FloatOps.weird x = 1#1 := by
      show BitVec.ofBool (decide ((x : EReal) = ⊤ ∨ (x : EReal) = ⊥)) = 1#1
      rw [decide_eq_true e]; rfl
    rw [this] at h
    exact absurd h (by decide)
  exact (EReal.coe_toReal (fun e => h' (Or.inl e)) (fun e => h' (Or.inr e))).symm

/-- Finite arrays are arrays of reals. -/
theorem reals_of_finite (h : Cert.Pre_finite.fn (F := Ideal) a0 a1 a2 = fun _ => 1#1) :
    ∃ X DT LA, Block.Reals a0 a1 a2 X DT LA := by
  have e := congrFun h (Shape.Idx.first Cert.Pre_finite.Gen.h_S_)
  obtain ⟨e01, e2⟩ := IntOp.andi_eq_one.1 (show IntOp.andi _ _ = 1#1 from e)
  obtain ⟨e0, e1⟩ := IntOp.andi_eq_one.1 (show IntOp.andi _ _ = 1#1 from e01)
  haveI : Subsingleton Cert.Pre_finite.S_.Idx := ⟨fun i j => funext fun k => k.elim0⟩
  refine ⟨fun b t j => EReal.toReal (a0 (ix3 b t j)), fun b t d h => EReal.toReal (a1 (ix4 b t d h)), fun b t d h => EReal.toReal (a2 (ix4 b t d h)), ?_, ?_, ?_⟩
  · exact fun b t j => real_of_finite _ (Host.reduce_andi_all _ _ _ _ _ e0 (ix3 b t j))
  · exact fun b t d h => real_of_finite _ (Host.reduce_andi_all _ _ _ _ _ e1 (ix4 b t d h))
  · exact fun b t d h => real_of_finite _ (Host.reduce_andi_all _ _ _ _ _ e2 (ix4 b t d h))

/-- The kernel and the reference end with the same array. -/
theorem algebraic : Cert.algebraic_SsdIdeal_SsdRefIdeal_pre_finite := by
  intro m g m' g' hpre hagree
  refine ⟨fun c => (Cert.SsdIdeal.Gen.dats m 0 c).arrAt 7 Cert.SsdIdeal.cfg0.N, ?_, ?_⟩
  · exact Cert.SsdIdeal.Value.run_blocks m g
  · refine (θ_run _ _ _).mono (fun r h c => ?_)
      (Cert.SsdRefIdeal.Loop.run_states m' g')
    refine ⟨(h c).1.trans ?_, (h c).2⟩
    obtain ⟨X, DT, LA, H⟩ := reals_of_finite (hpre c)
    refine (reference_eq (a0 := m ((c.tc : Thread _ _).loc Cert.SsdIdeal.main_arg0)) H _ ?_ (fun _ => rfl)).trans (Block.result_eq H).symm
    show init _ _ _ = _
    rw [(hagree c).1, (hagree c).2.1, (hagree c).2.2]

end Cert.SsdIdeal.Scan

end
-- ==== Proof.Product.lean ====
/- A matrix product over the extended reals, element by element: what the projections' results are. -/
module

public import Idealize.ShloMosaic.Lib.Pointwise

@[expose] public section

noncomputable section

namespace Cert.Product

open Idealize.ShloMosaic

/-- The product of a table of rows and a table of columns, at an index. -/
def prod {M K N : ℕ} (x : (⟨2, ![M, K]⟩ : Shape).Idx → EReal) (w : (⟨2, ![K, N]⟩ : Shape).Idx → EReal)
    (i : (⟨2, ![M, N]⟩ : Shape).Idx) : EReal :=
  ∑ k : Fin K, x (ix2 (i 0) k) * w (ix2 k (i 1))

end Cert.Product

end
-- ==== Proof.InProjValue.lean ====
/-
  The input projection at the extended reals. Every grid point multiplies a block of 1024 rows by a block of 512
  columns over all 4096 contracted positions, so its block is the block of ONE product; the reference is that
  product.
-/
module

public import proofs.«01_k».proof.Proof.Gen.InProjIdeal.Value
public import proofs.«01_k».proof.Proof.Gen.InProjRefIdeal.Run
public import Idealize.ShloMosaic.Lib.Pipeline.ValueKit
public import Idealize.ShloMosaic.Lib.Pointwise
public import proofs.«01_k».proof.Defs
public import proofs.«01_k».proof.Proof.Product

@[expose] public section

set_option maxRecDepth 16384

noncomputable section

namespace Cert.InProjIdeal.Product

open Cert.Product (prod)
open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The token block moves with the result's rows, the weight block with its columns. -/
theorem idx_rows : ∀ t : Fin cfg0.N, win0_0.index t = ![(grid0.coords t 0).val, 0] :=
  (by decide +kernel : ∀ t : Fin grid0.N, _)
theorem idx_cols : ∀ t : Fin cfg0.N, win0_1.index t = ![0, (grid0.coords t 1).val] :=
  (by decide +kernel : ∀ t : Fin grid0.N, _)
theorem idx_out : ∀ t : Fin cfg0.N, win0_2.index t = ![(grid0.coords t 0).val, (grid0.coords t 1).val] :=
  (by decide +kernel : ∀ t : Fin grid0.N, _)

/-- A block product at an index. -/
theorem block_apply (x : FVec Ideal S1024x4096 .bf16) (w : FVec Ideal S4096x512 .bf16) (r : Fin 1024) (l : Fin 512) :
    k0_pay1 (F := Ideal) x w (ix2 r l) = ∑ k : Fin 4096, (x (ix2 r k) : EReal) * w (ix2 k l) := by
  pointwise [k0_pay1]

/-- What point `t` computes is its block of the product. -/
theorem point_apply (c : Dev nD) (t : Fin cfg0.N) (r : Fin 1024) (l : Fin 512) :
    (k0_pay1 (F := Ideal) (iblk m c 0 t) (iblk m c 1 t) (ix2 r l) : EReal)
      = prod (m ((c : Thread nD τ).loc main_arg0)) (m ((c : Thread nD τ).loc main_arg1)) ((win0_2.blk t).view.emb (ix2 r l)) := by
  rw [block_apply]
  unfold prod
  refine Finset.sum_congr rfl fun k _ => ?_
  have e0 := idx_rows t
  have e1 := idx_cols t
  have e2 := idx_out t
  blk_simp [iblk]
  rw [V_main_arg0, V_main_arg1]
  congr 2
  · blk_ext [e0, e2]
  · blk_ext [e1, e2]

/-- The result array is the product of the two arguments. -/
theorem result_eq (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨r, l, rfl⟩ : ∃ (r : Fin 1024) (l : Fin 512), y = ix2 r l := ⟨y 0, y 1, by idx_ext⟩
  exact point_apply m c t r l

/-- The reference's one product is the same. -/
theorem reference_eq (x : FVec Ideal Cert.InProjRefIdeal.S17408x4096 .bf16) (w : FVec Ideal Cert.InProjRefIdeal.S4096x13824 .bf16)
    (h : FTy.bits .bf16 < FTy.bits .f32) :
    Host.dotGeneral Cert.InProjRefIdeal.dot_S17408x4096_S4096x13824_S17408x13824_1_0_0_1_n_n none
      (extf .f32 x h) (extf .f32 w h) = prod x w := by
  funext i
  obtain ⟨r, l, rfl⟩ : ∃ (r : Fin 17408) (l : Fin 13824), i = ix2 r l := ⟨i 0, i 1, by idx_ext⟩
  pointwise [Cert.Product.prod]

/-- The kernel and the reference end with the same array. -/
theorem algebraic : Cert.algebraic_InProjIdeal_InProjRefIdeal := by
  intro m g m' g' _ hagree
  refine ⟨fun c => prod (m ((c.tc : Thread _ _).loc Cert.InProjIdeal.main_arg0)) (m ((c.tc : Thread _ _).loc Cert.InProjIdeal.main_arg1)), ?_, ?_⟩
  · refine (θ_run _ _ _).mono (fun r h c => ?_) (Cert.InProjIdeal.Value.run_blocks m g)
    exact ⟨(h c).1.trans (result_eq m c), (h c).2⟩
  · refine (θ_run _ _ _).mono (fun r h c => ?_) (Cert.InProjRefIdeal.Value.run m' g')
    refine ⟨(h c).1.trans ?_, (h c).2⟩
    rw [(hagree c).1, (hagree c).2]
    exact reference_eq _ _ _

end Cert.InProjIdeal.Product

end
-- ==== Proof.OutProjValue.lean ====
/-
  The output projection with its gate and residual at the extended reals. Every grid point multiplies a block of 512
  rows of each mixer half by the matching 2048 rows of the weights, adds the two products, scales by the gate of the
  row's batch entry and adds the residual block. The reference multiplies the two halves side by side in one product
  over 4096 positions, which is the sum of the two.
-/
module

public import proofs.«01_k».proof.Proof.Gen.OutProjIdeal.Value
public import proofs.«01_k».proof.Proof.Gen.OutProjRefIdeal.Run
public import Idealize.ShloMosaic.Lib.Pipeline.ValueKit
public import Idealize.ShloMosaic.Lib.Pointwise
public import proofs.«01_k».proof.Defs

@[expose] public section

set_option maxRecDepth 16384

noncomputable section

namespace Cert.OutProjIdeal.Product

open Cert.OutProjIdeal Cert.OutProjIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The residual plus the gate times the product of both halves with their rows of the weights, at row `r` and
    column `l`. -/
def gated (ya yb : S16384x2048.Idx → EReal) (w : S4096x4096.Idx → EReal) (x : S16384x4096.Idx → EReal)
    (md : S48x1x4096.Idx → EReal) (r : Fin 16384) (l : Fin 4096) : EReal :=
  x (ix2 r l) + md (ix3 ⟨r.val / 4096 * 6 + 2, by omega⟩ 0 l)
    * ((∑ k : Fin 2048, ya (ix2 r k) * w (ix2 ⟨k.val, by omega⟩ l))
      + ∑ k : Fin 2048, yb (ix2 r k) * w (ix2 ⟨2048 + k.val, by omega⟩ l))

/-- The same as an array. -/
def result (ya yb : S16384x2048.Idx → EReal) (w : S4096x4096.Idx → EReal) (x : S16384x4096.Idx → EReal)
    (md : S48x1x4096.Idx → EReal) (i : S16384x4096.Idx) : EReal := gated ya yb w x md (i 0) (i 1)

/-- Where each window's block lies. -/
theorem idx_a : ∀ t : Fin cfg0.N, win0_0.index t = ![(grid0.coords t 0).val, 0] :=
  (by decide +kernel : ∀ t : Fin grid0.N, _)
theorem idx_b : ∀ t : Fin cfg0.N, win0_1.index t = ![(grid0.coords t 0).val, 0] :=
  (by decide +kernel : ∀ t : Fin grid0.N, _)
theorem idx_w : ∀ t : Fin cfg0.N, win0_2.index t = ![0, (grid0.coords t 1).val] :=
  (by decide +kernel : ∀ t : Fin grid0.N, _)
theorem idx_x : ∀ t : Fin cfg0.N, win0_3.index t = ![(grid0.coords t 0).val, (grid0.coords t 1).val] :=
  (by decide +kernel : ∀ t : Fin grid0.N, _)
theorem idx_gate : ∀ t : Fin cfg0.N, win0_4.index t = ![(grid0.coords t 0).val / 8 * 6 + 2, 0, (grid0.coords t 1).val] :=
  (by decide +kernel : ∀ t : Fin grid0.N, _)
theorem idx_out : ∀ t : Fin cfg0.N, win0_5.index t = ![(grid0.coords t 0).val, (grid0.coords t 1).val] :=
  (by decide +kernel : ∀ t : Fin grid0.N, _)

/-- A block's result at an index. -/
theorem block_apply (ya yb : FVec Ideal S512x2048 .bf16) (wa wb : FVec Ideal S2048x1024 .bf16) (x : FVec Ideal S512x1024 .f32)
    (gt : FVec Ideal S1x1x1024 .f32) (r : Fin 512) (l : Fin 1024) :
    (k0_pay1 (F := Ideal) ya wa yb wb x gt (ix2 r l) : EReal)
      = x (ix2 r l) + gt (ix3 0 0 l) * ((∑ k : Fin 2048, (ya (ix2 r k) : EReal) * wa (ix2 k l))
        + ∑ k : Fin 2048, (yb (ix2 r k) : EReal) * wb (ix2 k l)) := by
  pointwise [k0_pay1]

/-- The two loads of the weight block: its upper and its lower 2048 rows. -/
theorem ld_upper (w : Vec Ideal S4096x1024 .bf16) (k : Fin 2048) (l : Fin 1024) :
    View.ld w r0_1 (ix2 k l) = w (ix2 ⟨k.val, by omega⟩ l) := by
  rw [View.ld_unit]
  exact extractStridedSlice_apply _ _ _ _ _ fun a => by fin_cases a <;> simp
theorem ld_lower (w : Vec Ideal S4096x1024 .bf16) (k : Fin 2048) (l : Fin 1024) :
    View.ld w r0_2 (ix2 k l) = w (ix2 ⟨2048 + k.val, by omega⟩ l) := by
  rw [View.ld_unit]
  exact extractStridedSlice_apply _ _ _ _ _ fun a => by fin_cases a <;> simp

/-- What point `t` computes is its block of the result. -/
theorem point_apply (c : Dev nD) (t : Fin cfg0.N) (r : Fin 512) (l : Fin 1024) :
    (k0_pay1 (F := Ideal) (iblk m c 0 t) (View.ld (iblk m c 2 t) r0_1) (iblk m c 1 t) (View.ld (iblk m c 2 t) r0_2)
        (iblk m c 3 t) (iblk m c 4 t) (ix2 r l) : EReal)
      = result (m ((c : Thread nD τ).loc main_arg0)) (m ((c : Thread nD τ).loc main_arg1)) (m ((c : Thread nD τ).loc main_arg2))
          (m ((c : Thread nD τ).loc main_arg3)) (m ((c : Thread nD τ).loc main_arg4)) ((win0_5.blk t).view.emb (ix2 r l)) := by
  rw [block_apply]
  unfold result gated
  have ea := idx_a t
  have eb := idx_b t
  have ew := idx_w t
  have ex := idx_x t
  have eg := idx_gate t
  have eo := idx_out t
  refine congrArg₂ (· + ·) ?_ (congrArg₂ (· * ·) ?_ (congrArg₂ (· + ·) ?_ ?_))
  · blk_simp [iblk]
    rw [V_main_arg3]
    congr 1
    blk_ext [ex, eo]
  · blk_simp [iblk]
    rw [V_main_arg4]
    congr 1
    blk_ext [eg, eo]
  · refine Finset.sum_congr rfl fun k _ => congrArg₂ (· * ·) ?_ ((ld_upper (iblk m c 2 t) k l).trans ?_)
    · blk_simp [iblk]
      rw [V_main_arg0]
      congr 1
      blk_ext [ea, eo]
    · blk_simp [iblk]
      rw [V_main_arg2]
      congr 1
      blk_ext [ew, eo]
  · refine Finset.sum_congr rfl fun k _ => congrArg₂ (· * ·) ?_ ((ld_lower (iblk m c 2 t) k l).trans ?_)
    · blk_simp [iblk]
      rw [V_main_arg1]
      congr 1
      blk_ext [eb, eo]
    · blk_simp [iblk]
      rw [V_main_arg2]
      congr 1
      blk_ext [ew, eo]

/-- The result array. -/
theorem result_eq (c : Dev nD) : (dats m 0 c).arrAt 5 cfg0.N
    = result (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t hf y => ?_
  blk_simp
  rw [after0_5]
  frame_out
  obtain ⟨r, l, rfl⟩ : ∃ (r : Fin 512) (l : Fin 1024), y = ix2 r l := ⟨y 0, y 1, by idx_ext⟩
  exact point_apply m c t r l

end Cert.OutProjIdeal.Product

namespace Cert.OutProjIdeal.Product

open Idealize.ShloMosaic Idealize.ShloMosaic.TcCoe Idealize.SL.Sem

section Reference

open Cert.OutProjRefIdeal Cert.OutProjRefIdeal.Gen

/-- The reference's gate and residual around its product, at an index. -/
theorem ref_layout (x d : FVec Ideal S16384x4096 .f32) (md : FVec Ideal S48x1x4096 .f32) (r : Fin 16384) (l : Fin 4096) :
    (shapeCast S16384x4096 (addf (shapeCast S4x4096x4096 x shapeCasts_S16384x4096_S4x4096x4096) (mulf (broadcastInDim S4x4096x4096 ![0, 1, 2] bcast_S4x1x4096_S4x4096x4096_0_1_2 (broadcastInDim S4x1x4096 ![0, 2] bcast_S4x4096_S4x1x4096_0_2 (shapeCast S4x4096 (extractStridedSlice S4x1x4096 ![0, 2, 0] (shapeCast S8x6x4096 md shapeCasts_S48x1x4096_S8x6x4096) slices_S8x6x4096_S4x1x4096_0_2_0) shapeCasts_S4x1x4096_S4x4096)))
      (shapeCast S4x4096x4096 d shapeCasts_S16384x4096_S4x4096x4096))) shapeCasts_S4x4096x4096_S16384x4096 : FVec Ideal S16384x4096 .f32) (ix2 r l)
    = ((x (ix2 r l) : EReal) + md (ix3 ⟨r.val / 4096 * 6 + 2, by omega⟩ 0 l) * d (ix2 r l) : EReal) := by
  pointwise

/-- The reference's one product over both halves is the sum of the halves' products. -/
theorem ref_product (ya yb : FVec Ideal S16384x2048 .f32) (w : FVec Ideal S4096x4096 .f32) (r : Fin 16384) (l : Fin 4096) :
    (Host.dotGeneral dot_S16384x4096_S4096x4096_S16384x4096_1_0_0_1_n_n none
      (concatenate S16384x4096 1 [⟨S16384x2048, ya⟩, ⟨S16384x2048, yb⟩] concatenates_S16384x2048_S16384x2048_S16384x4096_d1) w (ix2 r l) : EReal)
    = (∑ k : Fin 2048, (ya (ix2 r k) : EReal) * w (ix2 ⟨k.val, by omega⟩ l))
      + ∑ k : Fin 2048, (yb (ix2 r k) : EReal) * w (ix2 ⟨2048 + k.val, by omega⟩ l) := by
  generalize hx : concatenate S16384x4096 1 [⟨S16384x2048, ya⟩, ⟨S16384x2048, yb⟩] concatenates_S16384x2048_S16384x2048_S16384x4096_d1 = x
  have h : (Host.dotGeneral dot_S16384x4096_S4096x4096_S16384x4096_1_0_0_1_n_n none x w (ix2 r l) : EReal)
      = ∑ k : Fin (2048 + 2048), (x (ix2 r k) : EReal) * w (ix2 k l) := by pointwise
  rw [h, Fin.sum_univ_add, ← hx]
  refine congrArg₂ (· + ·) (Finset.sum_congr rfl fun k _ => congrArg₂ (· * ·) ?_ rfl)
    (Finset.sum_congr rfl fun k _ => congrArg₂ (· * ·) ?_ rfl)
  · exact concatenate_pair_apply_left (t := S16384x4096) 1 ya yb _ _ rfl (ix2 r k) (fun b => by fin_cases b <;> rfl)
  · refine concatenate_pair_apply_right (t := S16384x4096) 1 ya yb _ _ rfl rfl (ix2 r k) (fun b hb => ?_) ?_
    · fin_cases b
      · rfl
      · exact absurd rfl hb
    · exact Nat.add_comm _ _

end Reference

/-- The kernel and the reference end with the same array. -/
theorem algebraic : Cert.algebraic_OutProjIdeal_OutProjRefIdeal := by
  intro m g m' g' _ hagree
  refine ⟨fun c => result (m ((c.tc : Thread _ _).loc Cert.OutProjIdeal.main_arg0)) (m ((c.tc : Thread _ _).loc Cert.OutProjIdeal.main_arg1))
    (m ((c.tc : Thread _ _).loc Cert.OutProjIdeal.main_arg2)) (m ((c.tc : Thread _ _).loc Cert.OutProjIdeal.main_arg3))
    (m ((c.tc : Thread _ _).loc Cert.OutProjIdeal.main_arg4)), ?_, ?_⟩
  · refine (θ_run _ _ _).mono (fun r h c => ?_) (Cert.OutProjIdeal.Value.run_blocks m g)
    exact ⟨(h c).1.trans (result_eq m c), (h c).2⟩
  · refine (θ_run _ _ _).mono (fun r h c => ?_) (Cert.OutProjRefIdeal.Value.run m' g')
    refine ⟨(h c).1.trans ?_, (h c).2⟩
    rw [(hagree c).1, (hagree c).2.1, (hagree c).2.2.1, (hagree c).2.2.2.1, (hagree c).2.2.2.2]
    funext i
    obtain ⟨r, l, rfl⟩ : ∃ (r : Fin 16384) (l : Fin 4096), i = ix2 r l := ⟨i 0, i 1, by idx_ext⟩
    exact (ref_layout _ _ _ r l).trans (by rw [ref_product]; rfl)

end Cert.OutProjIdeal.Product

end
-- ==== Proof.QueryValue.lean ====
/-
  The query projection of the product-key experts at the extended reals. Every grid point multiplies a block of 1024 rows by a block of 512
  columns over all 4096 contracted positions, so its block is the block of ONE product; the reference is that
  product.
-/
module

public import proofs.«01_k».proof.Proof.Gen.QueryIdeal.Value
public import proofs.«01_k».proof.Proof.Gen.QueryRefIdeal.Run
public import Idealize.ShloMosaic.Lib.Pipeline.ValueKit
public import Idealize.ShloMosaic.Lib.Pointwise
public import proofs.«01_k».proof.Defs
public import proofs.«01_k».proof.Proof.Product

@[expose] public section

set_option maxRecDepth 16384

noncomputable section

namespace Cert.QueryIdeal.Product

open Cert.Product (prod)
open Cert.QueryIdeal Cert.QueryIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The token block moves with the result's rows, the weight block with its columns. -/
theorem idx_rows : ∀ t : Fin cfg0.N, win0_0.index t = ![(grid0.coords t 0).val, 0] :=
  (by decide +kernel : ∀ t : Fin grid0.N, _)
theorem idx_cols : ∀ t : Fin cfg0.N, win0_1.index t = ![0, (grid0.coords t 1).val] :=
  (by decide +kernel : ∀ t : Fin grid0.N, _)
theorem idx_out : ∀ t : Fin cfg0.N, win0_2.index t = ![(grid0.coords t 0).val, (grid0.coords t 1).val] :=
  (by decide +kernel : ∀ t : Fin grid0.N, _)

/-- A block product at an index. -/
theorem block_apply (x : FVec Ideal S1024x4096 .bf16) (w : FVec Ideal S4096x512 .bf16) (r : Fin 1024) (l : Fin 512) :
    k0_pay1 (F := Ideal) x w (ix2 r l) = ∑ k : Fin 4096, (x (ix2 r k) : EReal) * w (ix2 k l) := by
  pointwise [k0_pay1]

/-- What point `t` computes is its block of the product. -/
theorem point_apply (c : Dev nD) (t : Fin cfg0.N) (r : Fin 1024) (l : Fin 512) :
    (k0_pay1 (F := Ideal) (iblk m c 0 t) (iblk m c 1 t) (ix2 r l) : EReal)
      = prod (m ((c : Thread nD τ).loc main_arg0)) (m ((c : Thread nD τ).loc main_arg1)) ((win0_2.blk t).view.emb (ix2 r l)) := by
  rw [block_apply]
  unfold prod
  refine Finset.sum_congr rfl fun k _ => ?_
  have e0 := idx_rows t
  have e1 := idx_cols t
  have e2 := idx_out t
  blk_simp [iblk]
  rw [V_main_arg0, V_main_arg1]
  congr 2
  · blk_ext [e0, e2]
  · blk_ext [e1, e2]

/-- The result array is the product of the two arguments. -/
theorem result_eq (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨r, l, rfl⟩ : ∃ (r : Fin 1024) (l : Fin 512), y = ix2 r l := ⟨y 0, y 1, by idx_ext⟩
  exact point_apply m c t r l

/-- The reference's one product is the same. -/
theorem reference_eq (x : FVec Ideal Cert.QueryRefIdeal.S16384x4096 .bf16) (w : FVec Ideal Cert.QueryRefIdeal.S4096x2048 .bf16)
    (h : FTy.bits .bf16 < FTy.bits .f32) :
    Host.dotGeneral Cert.QueryRefIdeal.dot_S16384x4096_S4096x2048_S16384x2048_1_0_0_1_n_n none
      (extf .f32 x h) (extf .f32 w h) = prod x w := by
  funext i
  obtain ⟨r, l, rfl⟩ : ∃ (r : Fin 16384) (l : Fin 2048), i = ix2 r l := ⟨i 0, i 1, by idx_ext⟩
  pointwise [Cert.Product.prod]

/-- The kernel and the reference end with the same array. -/
theorem algebraic : Cert.algebraic_QueryIdeal_QueryRefIdeal := by
  intro m g m' g' _ hagree
  refine ⟨fun c => prod (m ((c.tc : Thread _ _).loc Cert.QueryIdeal.main_arg0)) (m ((c.tc : Thread _ _).loc Cert.QueryIdeal.main_arg1)), ?_, ?_⟩
  · refine (θ_run _ _ _).mono (fun r h c => ?_) (Cert.QueryIdeal.Value.run_blocks m g)
    exact ⟨(h c).1.trans (result_eq m c), (h c).2⟩
  · refine (θ_run _ _ _).mono (fun r h c => ?_) (Cert.QueryRefIdeal.Value.run m' g')
    refine ⟨(h c).1.trans ?_, (h c).2⟩
    rw [(hagree c).1, (hagree c).2]
    exact reference_eq _ _ _

end Cert.QueryIdeal.Product

end
-- ==== Proof.ExpertValue.lean ====
/-
  The experts' outputs at the extended reals: every token's weights over all 16384 experts times the table of their
  output rows. The kernel adds up sixteen products over 1024 experts each, the reference takes one product.
-/
module

public import proofs.«01_k».proof.Proof.Gen.ExpertIdeal.Value
public import proofs.«01_k».proof.Proof.Gen.ExpertRefIdeal.Run
public import Idealize.ShloMosaic.Lib.Pipeline.ValueKit
public import Idealize.ShloMosaic.Lib.Pointwise
public import proofs.«01_k».proof.Defs

@[expose] public section

set_option maxRecDepth 16384

noncomputable section

namespace Cert.ExpertIdeal.Product

open Cert.ExpertIdeal Cert.ExpertIdeal.Gen Cert.ExpertIdeal.Value Idealize.ShloMosaic Idealize.ShloMosaic.TcCoe Idealize.SL.Sem
open Finset

variable (m : (ℓ : Loc nD τ sig) → Buf (Elt Ideal) ℓ) (ρ : Dev nD → PrngReg)

/-- Expert `e`'s part of the output of token `r` at feature `l`: nothing past the last expert. -/
def part (w : S16384x16384.Idx → EReal) (v : S16384x4096.Idx → EReal) (r : Fin 16384) (l : Fin 4096) (e : ℕ) : EReal :=
  if h : e < 16384 then w (ix2 ⟨e, h⟩ r) * v (ix2 ⟨e, h⟩ l) else 0

/-- The weighted sum of the experts' rows, as an array. -/
def mixed (w : S16384x16384.Idx → EReal) (v : S16384x4096.Idx → EReal) (i : S16384x4096.Idx) : EReal :=
  ∑ e : Fin 16384, w (ix2 e (i 0)) * v (ix2 e (i 1))

/-- A sum over the first experts and the next 1024 of them. -/
theorem sum_next (f : ℕ → EReal) (n : ℕ) :
    (∑ e ∈ range (1024 * n), f e) + ∑ k : Fin 1024, f (1024 * n + k.val) = ∑ e ∈ range (1024 * (n + 1)), f e := by
  rw [Nat.mul_succ, sum_range_add, sum_range (fun k => f (1024 * n + k))]

/-- The weight block moves with both, the table block with the experts. -/
theorem idx_w : ∀ t : Fin cfg0.N, win0_0.index t = ![t.val % 16, t.val / 16] :=
  (by decide +kernel : ∀ t : Fin grid0.N, _)
theorem idx_v : ∀ t : Fin cfg0.N, win0_1.index t = ![t.val % 16, 0] :=
  (by decide +kernel : ∀ t : Fin grid0.N, _)

/-- The first stored block is zero. -/
theorem zero_apply (r : Fin 512) (l : Fin 4096) : (k0_pay1 (F := Ideal) (ix2 r l) : EReal) = 0 := by
  pointwise [k0_pay1]

/-- The product of a block of weights and a block of the table, at an index. -/
def blockSum (w : FVec Ideal S1024x512 .bf16) (v : FVec Ideal S1024x4096 .bf16) (r : Fin 512) (l : Fin 4096) : EReal :=
  ∑ k : Fin 1024, (w (ix2 k r) : EReal) * v (ix2 k l)

/-- A block's product is added to what the block held. -/
theorem block_apply (acc : FVec Ideal S512x4096 .f32) (w : FVec Ideal S1024x512 .bf16) (v : FVec Ideal S1024x4096 .bf16) (r : Fin 512) (l : Fin 4096) :
    (k0_pay2 (F := Ideal) acc w v (ix2 r l) : EReal) = acc (ix2 r l) + blockSum w v r l := by
  pointwise [k0_pay2, blockSum]

/-- The product of the blocks of point `16 q + j`, as the parts of its 1024 experts. -/
theorem point_apply (c : Dev nD) (q : Fin 32) (j : ℕ) (hj : j < 16) (h : 16 * q.val + j < cfg0.N) (r : Fin 512) (l : Fin 4096) :
    blockSum (iblk m c 0 ⟨16 * q.val + j, h⟩) (iblk m c 1 ⟨16 * q.val + j, h⟩) r l
      = ∑ k : Fin 1024, part (m ((c : Thread nD τ).loc main_arg0)) (m ((c : Thread nD τ).loc main_arg1)) ⟨q.val * 512 + r.val, by omega⟩ l (1024 * j + k.val) := by
  unfold blockSum
  refine sum_congr rfl fun k _ => ?_
  have e0 := idx_w ⟨16 * q.val + j, h⟩
  have e1 := idx_v ⟨16 * q.val + j, h⟩
  have hm : (16 * q.val + j) % 16 = j := by omega
  have hd : (16 * q.val + j) / 16 = q.val := by omega
  dsimp only at e0 e1
  rw [hm, hd] at e0
  rw [hm] at e1
  unfold part
  rw [dif_pos (by omega)]
  blk_simp [iblk]
  rw [V_main_arg0, V_main_arg1]
  congr 2
  · blk_ext [e0]
  · blk_ext [e1]

/-- What the block of 512 tokens holds after `j + 1` of its points: the parts of the first `1024 (j + 1)` experts. -/
theorem partial_apply (c : Dev nD) (q : Fin 32) (r : Fin 512) (l : Fin 4096) : ∀ (j : ℕ) (_ : j < 16) (h : 16 * q.val + j < cfg0.N),
    (Pipeline.accAt (reset2 m c) (step2 m c) (16 * q.val) j h (ix2 r l) : EReal)
      = ∑ e ∈ range (1024 * (j + 1)), part (m ((c : Thread nD τ).loc main_arg0)) (m ((c : Thread nD τ).loc main_arg1)) ⟨q.val * 512 + r.val, by omega⟩ l e := by
  intro j
  induction j with
  | zero =>
    intro hj h
    rw [Pipeline.accAt_zero]
    refine (block_apply _ _ _ r l).trans ?_
    rw [zero_apply]
    refine (congrArg (0 + ·) (point_apply m c q 0 hj h r l)).trans ?_
    rw [← sum_next _ 0, Nat.mul_zero, range_zero, sum_empty]
  | succ j ih =>
    intro hj h
    rw [Pipeline.accAt_succ]
    refine (block_apply _ _ _ r l).trans ?_
    rw [ih (by omega) (by omega)]
    refine (congrArg (_ + ·) (point_apply m c q (j + 1) hj h r l)).trans ?_
    exact sum_next _ (j + 1)

/-- The result array. -/
theorem result_eq (c : Dev nD) : G2 m c = mixed (m ((c : Thread nD τ).loc main_arg0)) (m ((c : Thread nD τ).loc main_arg1)) := by
  funext i
  have h0 : (i 0).val < 16384 := (i 0).isLt
  have h1 : (i 1).val < 4096 := (i 1).isLt
  have hN : cfg0.N = 512 := N_0
  have hq : run2Of i = (i 0).val / 512 := by
    show 1 * ((i 0).val / 512 - 0) + 1 * ((i 1).val / 4096 - 0) = _
    omega
  have hl : loc2Of i = ix2 ⟨(i 0).val % 512, Nat.mod_lt _ (by decide)⟩ (i 1) := by
    funext a
    apply Fin.ext
    match a with
    | ⟨0, _⟩ => rfl
    | ⟨1, _⟩ => exact Nat.mod_eq_of_lt h1
  unfold G2
  rw [dif_pos (by rw [hq]; omega), hl]
  have key := partial_apply m c ⟨(i 0).val / 512, by omega⟩ ⟨(i 0).val % 512, Nat.mod_lt _ (by decide)⟩ (i 1) 15 (by omega) (by dsimp only; omega)
  have e : ∀ (b b' : ℕ) (h : b + 15 < cfg0.N) (h' : b' + 15 < cfg0.N), b = b' →
      Pipeline.accAt (reset2 m c) (step2 m c) b 15 h = Pipeline.accAt (reset2 m c) (step2 m c) b' 15 h' := by
    intro b b' h h' hb; subst hb; rfl
  rw [e _ (16 * ((i 0).val / 512)) _ (by omega) (by rw [hq])]
  refine key.trans ?_
  unfold mixed
  rw [show 1024 * (15 + 1) = 16384 from rfl, sum_range]
  refine sum_congr rfl fun k _ => ?_
  unfold part
  rw [dif_pos k.isLt]
  congr 2
  refine congrArg _ (Fin.ext ?_)
  dsimp only
  omega

/-- The reference's one product is the same. -/
theorem reference_eq (w : FVec Ideal Cert.ExpertRefIdeal.S16384x16384 .bf16) (v : FVec Ideal Cert.ExpertRefIdeal.S16384x4096 .bf16)
    (h : FTy.bits .bf16 < FTy.bits .f32) :
    Host.dotGeneral Cert.ExpertRefIdeal.dot_S16384x16384_S16384x4096_S16384x4096_0_0_1_1_n_n none
      (extf .f32 w h) (extf .f32 v h) = mixed w v := by
  funext i
  obtain ⟨r, l, rfl⟩ : ∃ (r : Fin 16384) (l : Fin 4096), i = ix2 r l := ⟨i 0, i 1, by idx_ext⟩
  pointwise [mixed]

/-- The kernel and the reference end with the same array. -/
theorem algebraic : Cert.algebraic_ExpertIdeal_ExpertRefIdeal := by
  intro m g m' g' _ hagree
  refine ⟨fun c => mixed (m ((c.tc : Thread _ _).loc Cert.ExpertIdeal.main_arg0)) (m ((c.tc : Thread _ _).loc Cert.ExpertIdeal.main_arg1)), ?_, ?_⟩
  · refine (θ_run _ _ _).mono (fun r h c => ?_) (Cert.ExpertIdeal.Value.run m g)
    exact ⟨(h c).1.trans (result_eq m c), (h c).2⟩
  · refine (θ_run _ _ _).mono (fun r h c => ?_) (Cert.ExpertRefIdeal.Value.run m' g')
    refine ⟨(h c).1.trans ?_, (h c).2⟩
    rw [(hagree c).1, (hagree c).2]
    exact reference_eq _ _ _

end Cert.ExpertIdeal.Product

end
-- ==== Proof.WeightsBlock.lean ====
/-
  One block of the experts' weights at the extended reals. The body writes eight slabs of 128 experts: in each, the sum
  over the eight heads of the gates, times the activations' slab. Each head's line is stated once here, and the body's
  slabs are read as sums of these.
-/
module

public import proofs.«01_k».proof.Proof.Gen.WeightsIdeal.Value
public import Idealize.ShloMosaic.Lib.Pipeline.ValueKit
public import Idealize.ShloMosaic.Lib.Pointwise

@[expose] public section

set_option maxRecDepth 16384

noncomputable section

namespace Cert.WeightsIdeal.Gate

open Cert.WeightsIdeal Cert.WeightsIdeal.Gen Idealize.ShloMosaic Idealize.ShloMosaic.TcCoe Idealize.SL.Sem

/-- A half and the root of a half, as the programs write them. -/
abbrev half : EReal := (Scalar.ofBits .f32 0x3F000000#32 : Ideal .f32)
abbrev rootHalf : EReal := (Scalar.ofBits .f32 0x3F3504F3#32 : Ideal .f32)

/-- The exact form of the activation. -/
def gelu (a : EReal) : EReal := half * a * (1 + Ideal.erf (a * rootHalf))

/-- A row laid over 128 experts. -/
def rows (z : FVec Ideal S1x1x512 .f32) : FVec Ideal S128x512 .bf16 :=
  have w := truncf .bf16 (broadcastTo S16x512 (shapeCast S1x512 (shapeCast S1x512 z shapeCasts_S1x1x512_S1x512) shapeCasts_S1x512_S1x512) broadcasts_S1x512_S16x512) bitsLt_bf16_f32
  concatenate S128x512 0 [⟨S16x512, w⟩, ⟨S16x512, w⟩, ⟨S16x512, w⟩, ⟨S16x512, w⟩, ⟨S16x512, w⟩, ⟨S16x512, w⟩, ⟨S16x512, w⟩, ⟨S16x512, w⟩] concatenates_S16x512_S16x512_S16x512_S16x512_S16x512_S16x512_S16x512_S16x512_S128x512_d0

/-- One head's gates of a slab: the second key's weight where its rank is below the first key's count, times the first
    key's weight. -/
def head (rk : FVec Ideal S1x128x512 .bf16) (ct : FVec Ideal S1x1x512 .f32) (p2 : FVec Ideal S1x128x512 .bf16) (p1 : FVec Ideal S1x1x512 .f32) : FVec Ideal S128x512 .bf16 :=
  mulf (select (cmpf .olt (shapeCast S128x512 rk shapeCasts_S1x128x512_S128x512) (rows ct)) (shapeCast S128x512 p2 shapeCasts_S1x128x512_S128x512)
    (broadcast S128x512 (Scalar.ofBits .bf16 0x0000#16))) (rows p1)

/-- A slab: the activations from row `n` on, times the sum over the heads. -/
def slab (n : ℕ) (ho : S1024x512.Slices ![n, 0] S128x512) (act : FVec Ideal S1024x512 .f32) (h : Fin 8 → FVec Ideal S128x512 .bf16) : FVec Ideal S128x512 .bf16 :=
  mulf (truncf .bf16 (extractStridedSlice S128x512 ![n, 0] act ho) bitsLt_bf16_f32)
    (addf (addf (addf (addf (addf (addf (addf (addf (broadcast S128x512 (Scalar.ofBits .bf16 0x0000#16)) (h 0)) (h 1)) (h 2)) (h 3)) (h 4)) (h 5)) (h 6)) (h 7))

/-- Every row of the laid out row is that row. -/
theorem rows_apply (z : FVec Ideal S1x1x512 .f32) (r : Fin 128) (l : Fin 512) : (rows z (ix2 r l) : EReal) = z (ix3 0 0 l) := by
  pointwise [rows]
  split_ifs <;> rfl

/-- One head's gate, at an index. -/
theorem head_apply (rk : FVec Ideal S1x128x512 .bf16) (ct : FVec Ideal S1x1x512 .f32) (p2 : FVec Ideal S1x128x512 .bf16) (p1 : FVec Ideal S1x1x512 .f32) (r : Fin 128) (l : Fin 512) :
    (head rk ct p2 p1 (ix2 r l) : EReal)
      = if (rk (ix3 0 r l) : EReal) < ct (ix3 0 0 l) then (p2 (ix3 0 r l) : EReal) * p1 (ix3 0 0 l) else 0 := by
  pointwise [head, rows_apply]
  split_ifs
  · rfl
  · exact zero_mul _

/-- The activations of a block, at an index. -/
theorem act_apply (u : FVec Ideal S1024x4096 .bf16) (x : FVec Ideal S512x4096 .bf16) (e : Fin 1024) (l : Fin 512) :
    (k0_pay2 (F := Ideal) u x (ix2 e l) : EReal) = gelu (∑ k : Fin 4096, (u (ix2 e k) : EReal) * x (ix2 l k)) := by
  pointwise [k0_pay2, gelu]
  rfl

/-- A slab at an index. -/
theorem slab_apply (n : ℕ) (ho : S1024x512.Slices ![n, 0] S128x512) (hn : n + 128 ≤ 1024) (act : FVec Ideal S1024x512 .f32) (h : Fin 8 → FVec Ideal S128x512 .bf16)
    (r : Fin 128) (l : Fin 512) :
    (slab n ho act h (ix2 r l) : EReal) = act (ix2 ⟨n + r.val, by omega⟩ l) * ∑ k : Fin 8, (h k (ix2 r l) : EReal) := by
  rw [Fin.sum_univ_eight]
  pointwise [slab]

/-- The block's gate: over the heads, the second key's weight where its rank is below the first key's count, times the
    first key's weight. -/
def blockGate (ct : FVec Ideal S8x8x512 .f32) (rk : FVec Ideal S8x128x512 .bf16) (p1 : FVec Ideal S8x8x512 .f32) (p2 : FVec Ideal S8x128x512 .bf16) (i : Fin 8) (j : Fin 128) (l : Fin 512) : EReal :=
  ∑ h : Fin 8, if (rk (ix3 h j l) : EReal) < ct (ix3 h i l) then (p2 (ix3 h j l) : EReal) * p1 (ix3 h i l) else 0

/-- The block's weight of expert `e` for token `l`. -/
def blockWeight (u : FVec Ideal S1024x4096 .bf16) (x : FVec Ideal S512x4096 .bf16) (ct : FVec Ideal S8x8x512 .f32) (rk : FVec Ideal S8x128x512 .bf16) (p1 : FVec Ideal S8x8x512 .f32) (p2 : FVec Ideal S8x128x512 .bf16)
    (e : Fin 1024) (l : Fin 512) : EReal :=
  gelu (∑ k : Fin 4096, (u (ix2 e k) : EReal) * x (ix2 l k))
    * blockGate ct rk p1 p2 ⟨e.val / 128, by omega⟩ ⟨e.val % 128, Nat.mod_lt _ (by decide)⟩ l

/-- The places in the staged blocks: a head's keys, a head's row of the first keys, a slab of the result. -/
abbrev boxKey (h : Fin 8) : Rect S8x128x512 := Rect.unit (s := S8x128x512) ![h.val, 0, 0] S1x128x512.size (by revert h; decide)
abbrev boxRow (h i : Fin 8) : Rect S8x8x512 := Rect.unit (s := S8x8x512) ![h.val, i.val, 0] S1x1x512.size (by revert h i; decide)
abbrev boxSlab (i : Fin 8) : Rect S1024x512 := Rect.unit (s := S1024x512) ![128 * i.val, 0] S128x512.size (by revert i; decide)

/-- What is loaded from these places. -/
theorem ld_key (x : Vec Ideal S8x128x512 .bf16) (h : Fin 8) (r : Fin 128) (l : Fin 512) :
    (View.ld x (boxKey h) (ix3 0 r l) : EReal) = x (ix3 h r l) := by
  refine congrArg x (funext fun a => Fin.ext ?_)
  fin_cases a <;> simp [Rect.emb, Rect.unit]
theorem ld_row (x : Vec Ideal S8x8x512 .f32) (h i : Fin 8) (l : Fin 512) :
    (View.ld x (boxRow h i) (ix3 0 0 l) : EReal) = x (ix3 h i l) := by
  refine congrArg x (funext fun a => Fin.ext ?_)
  fin_cases a <;> simp [Rect.emb, Rect.unit]

section Slabs

variable (x0 : Vec Ideal S1024x4096 .bf16) (x1 : Vec Ideal S512x4096 .bf16) (x2 : Vec Ideal S8x8x512 .f32) (x3 : Vec Ideal S8x128x512 .bf16) (x4 : Vec Ideal S8x8x512 .f32) (x5 : Vec Ideal S8x128x512 .bf16)

/-- Slab `i` of the block, from the staged blocks. -/
def slabAt (i : Fin 8) (ho : S1024x512.Slices ![128 * i.val, 0] S128x512) : FVec Ideal S128x512 .bf16 :=
  slab (128 * i.val) ho (k0_pay2 (F := Ideal) (View.ld x0 r0_0) (View.ld x1 r0_1))
    (fun h => head (View.ld x3 (boxKey h)) (View.ld x2 (boxRow h i)) (View.ld x5 (boxKey h)) (View.ld x4 (boxRow h i)))

theorem slabAt_apply (i : Fin 8) (ho : S1024x512.Slices ![128 * i.val, 0] S128x512) (y : S128x512.Idx) :
    (slabAt x0 x1 x2 x3 x4 x5 i ho y : EReal)
      = blockWeight x0 x1 x2 x3 x4 x5 ((boxSlab i).emb y 0) ((boxSlab i).emb y 1) := by
  obtain ⟨r, l, rfl⟩ : ∃ (r : Fin 128) (l : Fin 512), y = ix2 r l := ⟨y 0, y 1, by idx_ext⟩
  have e0 : ((boxSlab i).emb (ix2 r l)) 0 = (⟨128 * i.val + r.val, by omega⟩ : Fin 1024) := by apply Fin.ext; simp [Rect.emb, Rect.unit]
  have e1 : ((boxSlab i).emb (ix2 r l)) 1 = l := by apply Fin.ext; simp [Rect.emb, Rect.unit]
  rw [e0, e1]
  unfold slabAt
  rw [slab_apply _ _ (by omega), act_apply]
  unfold blockWeight blockGate
  rw [View.ld_unit_zero (by funext a; fin_cases a <;> rfl), View.ld_unit_zero (by funext a; fin_cases a <;> rfl)]
  refine congrArg₂ (· * ·) rfl (Finset.sum_congr rfl fun h _ => ?_)
  rw [head_apply, ld_key, ld_key, ld_row, ld_row]
  have a0 : (⟨(128 * i.val + r.val) / 128, by omega⟩ : Fin 8) = i := Fin.ext (by dsimp only; omega)
  have a1 : (⟨(128 * i.val + r.val) % 128, Nat.mod_lt _ (by decide)⟩ : Fin 128) = r := Fin.ext (by dsimp only; omega)
  rw [a0, a1]

/-- The block that a point leaves. -/
theorem out_apply (e : Fin 1024) (l : Fin 512) :
    (out0_6 (F := Ideal) x0 x1 x2 x3 x4 x5 (ix2 e l) : EReal) = blockWeight x0 x1 x2 x3 x4 x5 e l := by
  unfold out0_6 k0_pay95
  refine View.canon_apply_of_pieces (Val := Elt Ideal) (fun y : S1024x512.Idx => blockWeight x0 x1 x2 x3 x4 x5 (y 0) (y 1)) _ ?_ (ix2 e l) (cover0_6 _ _ _ _ _ _ _ _ _)
  intro p hp y
  simp only [List.mem_cons, List.not_mem_nil, or_false] at hp
  have h := fun i ho => slabAt_apply x0 x1 x2 x3 x4 x5 i ho
  rcases hp with rfl | rfl | rfl | rfl | rfl | rfl | rfl | rfl
  · exact h 7 slices_S1024x512_o896_0_S128x512 y
  · exact h 6 slices_S1024x512_o768_0_S128x512 y
  · exact h 5 slices_S1024x512_o640_0_S128x512 y
  · exact h 4 slices_S1024x512_o512_0_S128x512 y
  · exact h 3 slices_S1024x512_o384_0_S128x512 y
  · exact h 2 slices_S1024x512_o256_0_S128x512 y
  · exact h 1 slices_S1024x512_o128_0_S128x512 y
  · exact h 0 slices_S1024x512_o0_0_S128x512 y

end Slabs

end Cert.WeightsIdeal.Gate

end
-- ==== Proof.WeightsValue.lean ====
/-
  The experts' weights at the extended reals: each expert's activation for each token, times the sum over the heads of
  the gates of its two keys. Expert `128 i + j` has the first key `i` and the second key `j`.
-/
module

public import proofs.«01_k».proof.Proof.WeightsBlock
public import proofs.«01_k».proof.Proof.Gen.WeightsRefIdeal.Run
public import proofs.«01_k».proof.Defs

@[expose] public section

set_option maxRecDepth 16384

noncomputable section

namespace Cert.WeightsIdeal.Gate

open Cert.WeightsIdeal Cert.WeightsIdeal.Gen Cert.WeightsIdeal.Value Idealize.ShloMosaic Idealize.ShloMosaic.TcCoe Idealize.SL.Sem

/-- The gate of the keys `i` and `j` for token `t`. -/
def gate (ct : S8x128x16384.Idx → EReal) (rk : S8x128x16384.Idx → EReal) (p1 : S8x128x16384.Idx → EReal) (p2 : S8x128x16384.Idx → EReal)
    (i j : Fin 128) (t : Fin 16384) : EReal :=
  ∑ h : Fin 8, if rk (ix3 h j t) < ct (ix3 h i t) then p2 (ix3 h j t) * p1 (ix3 h i t) else 0

/-- The weight of the expert `e` for the token `t`. -/
def weightOf (u : S16384x4096.Idx → EReal) (x : S16384x4096.Idx → EReal) (ct : S8x128x16384.Idx → EReal) (rk : S8x128x16384.Idx → EReal)
    (p1 : S8x128x16384.Idx → EReal) (p2 : S8x128x16384.Idx → EReal) (e t : Fin 16384) : EReal :=
  gelu (∑ k : Fin 4096, u (ix2 e k) * x (ix2 t k)) * gate ct rk p1 p2 ⟨e.val / 128, by omega⟩ ⟨e.val % 128, Nat.mod_lt _ (by decide)⟩ t

/-- The weights, as an array over the experts and the tokens. -/
def weights (u : S16384x4096.Idx → EReal) (x : S16384x4096.Idx → EReal) (ct : S8x128x16384.Idx → EReal) (rk : S8x128x16384.Idx → EReal)
    (p1 : S8x128x16384.Idx → EReal) (p2 : S8x128x16384.Idx → EReal) (y : S16384x16384.Idx) : EReal :=
  weightOf u x ct rk p1 p2 (y 0) (y 1)

section Kernel

variable (m : (ℓ : Loc nD τ sig) → Buf (Elt Ideal) ℓ) (ρ : Dev nD → PrngReg)

/-- The blocks of a point: 16 points of experts for each of 32 blocks of tokens. -/
theorem idx_u : ∀ t : Fin cfg0.N, win0_0.index t = ![t.val % 16, 0] :=
  (by decide +kernel : ∀ t : Fin grid0.N, _)
theorem idx_x : ∀ t : Fin cfg0.N, win0_1.index t = ![t.val / 16, 0] :=
  (by decide +kernel : ∀ t : Fin grid0.N, _)
theorem idx_ct : ∀ t : Fin cfg0.N, win0_2.index t = ![0, t.val % 16, t.val / 16] :=
  (by decide +kernel : ∀ t : Fin grid0.N, _)
theorem idx_rk : ∀ t : Fin cfg0.N, win0_3.index t = ![0, 0, t.val / 16] :=
  (by decide +kernel : ∀ t : Fin grid0.N, _)
theorem idx_p1 : ∀ t : Fin cfg0.N, win0_4.index t = ![0, t.val % 16, t.val / 16] :=
  (by decide +kernel : ∀ t : Fin grid0.N, _)
theorem idx_p2 : ∀ t : Fin cfg0.N, win0_5.index t = ![0, 0, t.val / 16] :=
  (by decide +kernel : ∀ t : Fin grid0.N, _)
theorem idx_out : ∀ t : Fin cfg0.N, win0_6.index t = ![t.val % 16, t.val / 16] :=
  (by decide +kernel : ∀ t : Fin grid0.N, _)

/-- Where a point's block of the result lies. -/
theorem place_out (t : Fin cfg0.N) (e : Fin 1024) (l : Fin 512) :
    (win0_6.blk t).view.emb (ix2 e l) = (ix2 ⟨t.val % 16 * 1024 + e.val, by omega⟩ ⟨t.val / 16 * 512 + l.val, by have : t.val < 512 := t.isLt; omega⟩ : S16384x16384.Idx) := by
  have e6 := idx_out t
  blk_ext [e6]

/-- What a point stages of the six arguments. -/
theorem blk_u (c : Dev nD) (t : Fin cfg0.N) (e : Fin 1024) (k : Fin 4096) :
    (iblk m c 0 t (ix2 e k) : EReal) = m ((c : Thread nD τ).loc main_arg0) (ix2 ⟨t.val % 16 * 1024 + e.val, by omega⟩ k) := by
  have e0 := idx_u t
  blk_simp [iblk]
  rw [V_main_arg0]
  congr 1
  blk_ext [e0]
theorem blk_x (c : Dev nD) (t : Fin cfg0.N) (l : Fin 512) (k : Fin 4096) :
    (iblk m c 1 t (ix2 l k) : EReal) = m ((c : Thread nD τ).loc main_arg1) (ix2 ⟨t.val / 16 * 512 + l.val, by have : t.val < 512 := t.isLt; omega⟩ k) := by
  have e0 := idx_x t
  blk_simp [iblk]
  rw [V_main_arg1]
  congr 1
  blk_ext [e0]
theorem blk_ct (c : Dev nD) (t : Fin cfg0.N) (h i : Fin 8) (l : Fin 512) :
    (iblk m c 2 t (ix3 h i l) : EReal) = m ((c : Thread nD τ).loc main_arg2) (ix3 h ⟨t.val % 16 * 8 + i.val, by omega⟩ ⟨t.val / 16 * 512 + l.val, by have : t.val < 512 := t.isLt; omega⟩) := by
  have e0 := idx_ct t
  blk_simp [iblk]
  rw [V_main_arg2]
  congr 1
  blk_ext [e0]
theorem blk_rk (c : Dev nD) (t : Fin cfg0.N) (h : Fin 8) (j : Fin 128) (l : Fin 512) :
    (iblk m c 3 t (ix3 h j l) : EReal) = m ((c : Thread nD τ).loc main_arg3) (ix3 h j ⟨t.val / 16 * 512 + l.val, by have : t.val < 512 := t.isLt; omega⟩) := by
  have e0 := idx_rk t
  blk_simp [iblk]
  rw [V_main_arg3]
  congr 1
  blk_ext [e0]
theorem blk_p1 (c : Dev nD) (t : Fin cfg0.N) (h i : Fin 8) (l : Fin 512) :
    (iblk m c 4 t (ix3 h i l) : EReal) = m ((c : Thread nD τ).loc main_arg4) (ix3 h ⟨t.val % 16 * 8 + i.val, by omega⟩ ⟨t.val / 16 * 512 + l.val, by have : t.val < 512 := t.isLt; omega⟩) := by
  have e0 := idx_p1 t
  blk_simp [iblk]
  rw [V_main_arg4]
  congr 1
  blk_ext [e0]
theorem blk_p2 (c : Dev nD) (t : Fin cfg0.N) (h : Fin 8) (j : Fin 128) (l : Fin 512) :
    (iblk m c 5 t (ix3 h j l) : EReal) = m ((c : Thread nD τ).loc main_arg5) (ix3 h j ⟨t.val / 16 * 512 + l.val, by have : t.val < 512 := t.isLt; omega⟩) := by
  have e0 := idx_p2 t
  blk_simp [iblk]
  rw [V_main_arg5]
  congr 1
  blk_ext [e0]

/-- The weights of the launched arguments. -/
def launched (c : Dev nD) : S16384x16384.Idx → EReal :=
  weights (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- A point's block is the block of the weights. -/
theorem point_apply (c : Dev nD) (t : Fin cfg0.N) (e : Fin 1024) (l : Fin 512) :
    blockWeight (iblk m c 0 t) (iblk m c 1 t) (iblk m c 2 t) (iblk m c 3 t) (iblk m c 4 t) (iblk m c 5 t) e l
      = launched m c ((win0_6.blk t).view.emb (ix2 e l)) := by
  rw [place_out]
  show _ = weightOf _ _ _ _ _ _ ⟨t.val % 16 * 1024 + e.val, _⟩ ⟨t.val / 16 * 512 + l.val, _⟩
  unfold blockWeight blockGate weightOf gate
  have a : (⟨(t.val % 16 * 1024 + e.val) / 128, by omega⟩ : Fin 128) = ⟨t.val % 16 * 8 + e.val / 128, by omega⟩ := Fin.ext (by dsimp only; omega)
  have b : (⟨(t.val % 16 * 1024 + e.val) % 128, Nat.mod_lt _ (by decide)⟩ : Fin 128) = ⟨e.val % 128, Nat.mod_lt _ (by decide)⟩ := Fin.ext (by dsimp only; omega)
  dsimp only
  rw [a, b]
  refine congrArg₂ (fun p q => gelu p * q) (Finset.sum_congr rfl fun k _ => ?_) (Finset.sum_congr rfl fun h _ => ?_)
  · rw [blk_u, blk_x]
  · rw [blk_rk, blk_ct, blk_p1, blk_p2]

/-- The result array. -/
theorem result_eq (c : Dev nD) : (dats m 0 c).arrAt 6 cfg0.N = launched m c := by
  refine (dats m 0 c).arrAt_eq_of_covers 6 _ (by decide +kernel) fun t hf y => ?_
  blk_simp
  rw [after0_6]
  obtain ⟨e, l, rfl⟩ : ∃ (e : Fin 1024) (l : Fin 512), y = ix2 e l := ⟨y 0, y 1, by idx_ext⟩
  exact (out_apply _ _ _ _ _ _ e l).trans (point_apply m c t e l)

end Kernel

end Cert.WeightsIdeal.Gate

namespace Cert.WeightsIdeal.Gate

open Idealize.ShloMosaic Idealize.ShloMosaic.TcCoe Idealize.SL.Sem

section Reference

open Cert.WeightsRefIdeal Cert.WeightsRefIdeal.Gen

/-- The reference's gates, at an index. -/
theorem ref_gate (ct p1 : FVec Ideal S8x128x16384 .f32) (rk p2 : FVec Ideal S8x128x16384 .bf16) (i j : Fin 128) (t : Fin 16384) :
    (Host.reduceAdd (select (cmpf .olt (broadcastInDim S8x128x128x16384 ![0, 1, 2, 3] bcast_S8x1x128x16384_S8x128x128x16384_0_1_2_3 (extf .f32 (broadcastInDim S8x1x128x16384 ![0, 2, 3] bcast_S8x128x16384_S8x1x128x16384_0_2_3 rk) bitsLt_bf16_f32)) (broadcastInDim S8x128x128x16384 ![0, 1, 2, 3] bcast_S8x128x1x16384_S8x128x128x16384_0_1_2_3 (broadcastInDim S8x128x1x16384 ![0, 1, 3] bcast_S8x128x16384_S8x128x1x16384_0_1_3 ct)))
      (mulf (broadcastInDim S8x128x128x16384 ![0, 1, 2, 3] bcast_S8x128x1x16384_S8x128x128x16384_0_1_2_3 (broadcastInDim S8x128x1x16384 ![0, 1, 3] bcast_S8x128x16384_S8x128x1x16384_0_1_3 p1)) (broadcastInDim S8x128x128x16384 ![0, 1, 2, 3] bcast_S8x1x128x16384_S8x128x128x16384_0_1_2_3 (extf .f32 (broadcastInDim S8x1x128x16384 ![0, 2, 3] bcast_S8x128x16384_S8x1x128x16384_0_2_3 p2) bitsLt_bf16_f32)))
      (broadcastInDim S8x128x128x16384 ![] bcast_S_S8x128x128x16384 (id (constant S_ .f32 0x00000000#32)))) (constant S_ .f32 0x00000000#32) reducesTo_S8x128x128x16384_S128x128x16384_d0 h_S_ (ix3 i j t) : EReal)
    = gate ct rk p1 p2 i j t := by
  pointwise [gate]
  refine Finset.sum_congr rfl fun h _ => ?_
  rw [mul_comm]
  split_ifs
  · rfl
  · show ((constant S_ .f32 0x00000000#32 : FVec Ideal S_ .f32) ix0 : EReal) = 0
    pointwise

/-- The reference's activations, at an index. -/
theorem ref_act (u x : FVec Ideal S16384x4096 .bf16) (e t : Fin 16384) :
    (mulf (mulf (broadcastInDim S16384x16384 ![] bcast_S_S16384x16384 (constant S_ .f32 0x3F000000#32)) (Host.dotGeneral dot_S16384x4096_S16384x4096_S16384x16384_1_1_0_0_n_n none (extf .f32 u bitsLt_bf16_f32) (extf .f32 x bitsLt_bf16_f32)))
      (Host.erfc (mulf (Host.negf (Host.dotGeneral dot_S16384x4096_S16384x4096_S16384x16384_1_1_0_0_n_n none (extf .f32 u bitsLt_bf16_f32) (extf .f32 x bitsLt_bf16_f32))) (broadcastInDim S16384x16384 ![] bcast_S_S16384x16384 (constant S_ .f32 0x3F3504F3#32)))) (ix2 e t) : EReal)
    = gelu (∑ k : Fin 4096, (u (ix2 e k) : EReal) * x (ix2 t k)) := by
  pointwise [gelu]
  rw [neg_mul, Ideal.erfc_neg]

/-- The reference's result is the array of the weights. -/
theorem reference_eq (u x : FVec Ideal S16384x4096 .bf16) (ct p1 : FVec Ideal S8x128x16384 .f32) (rk p2 : FVec Ideal S8x128x16384 .bf16)
    (g : FVec Ideal S128x128x16384 .f32) (a : FVec Ideal S16384x16384 .f32)
    (hg : ∀ i j t, (g (ix3 i j t) : EReal) = gate ct rk p1 p2 i j t)
    (ha : ∀ e t, (a (ix2 e t) : EReal) = gelu (∑ k : Fin 4096, (u (ix2 e k) : EReal) * x (ix2 t k))) :
    truncf .bf16 (mulf (shapeCast S16384x16384 g shapeCasts_S128x128x16384_S16384x16384) a) bitsLt_bf16_f32 = weights u x ct rk p1 p2 := by
  funext y
  obtain ⟨e, t, rfl⟩ : ∃ (e t : Fin 16384), y = ix2 e t := ⟨y 0, y 1, by idx_ext⟩
  pointwise [ha, hg]
  exact mul_comm _ _

end Reference

/-- The kernel and the reference end with the same array. -/
theorem algebraic : Cert.algebraic_WeightsIdeal_WeightsRefIdeal := by
  intro m g m' g' _ hagree
  refine ⟨fun c => launched m c, ?_, ?_⟩
  · refine (θ_run _ _ _).mono (fun r h c => ?_) (Cert.WeightsIdeal.Value.run_blocks m g)
    exact ⟨(h c).1.trans (result_eq m c), (h c).2⟩
  · refine (θ_run _ _ _).mono (fun r h c => ?_) (Cert.WeightsRefIdeal.Value.run m' g')
    refine ⟨(h c).1.trans ?_, (h c).2⟩
    obtain ⟨h0, h1, h2, h3, h4, h5⟩ := hagree c
    rw [h0, h1, h2, h3, h4, h5]
    exact reference_eq _ _ _ _ _ _ _ _ (ref_gate _ _ _ _) (ref_act _ _)

end Cert.WeightsIdeal.Gate

end
-- ==== Proof.ModValue.lean ====
/-
  The modulation at the extended reals: `silu` of the conditioning rows times the modulation weights, plus the bias.
  Every grid point computes 512 columns for all eight rows, so its block is the block of ONE product.
-/
module

public import proofs.«01_k».proof.Proof.Gen.ModIdeal.Value
public import proofs.«01_k».proof.Proof.Gen.ModRefIdeal.Run
public import Idealize.ShloMosaic.Lib.Pipeline.ValueKit
public import Idealize.ShloMosaic.Lib.Pointwise
public import proofs.«01_k».proof.Defs
public import proofs.«01_k».proof.Proof.Product

@[expose] public section

set_option maxRecDepth 16384

noncomputable section

namespace Cert.ModIdeal.Product

open Cert.Product (prod)
open Cert.ModIdeal Cert.ModIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- `silu` of one number. -/
def silu (x : EReal) : EReal := x * Ideal.logistic x

/-- The modulation of a row: the product of its `silu` with the weights, plus the bias of the column. -/
def modulation (s : S8x4096.Idx → EReal) (w : S4096x24576.Idx → EReal) (b : S24576.Idx → EReal) (i : S8x24576.Idx) : EReal :=
  prod (fun j => silu (s j)) w i + b (ix1 (i 1))

/-- All rows are read at every point; the weight and bias blocks move with the result's columns. -/
theorem idx_rows : ∀ t : Fin cfg0.N, win0_0.index t = ![0, 0] :=
  (by decide +kernel : ∀ t : Fin grid0.N, _)
theorem idx_cols : ∀ t : Fin cfg0.N, win0_1.index t = ![0, (grid0.coords t 0).val] :=
  (by decide +kernel : ∀ t : Fin grid0.N, _)
theorem idx_bias : ∀ t : Fin cfg0.N, win0_2.index t = ![0, (grid0.coords t 0).val] :=
  (by decide +kernel : ∀ t : Fin grid0.N, _)
theorem idx_out : ∀ t : Fin cfg0.N, win0_3.index t = ![0, (grid0.coords t 0).val] :=
  (by decide +kernel : ∀ t : Fin grid0.N, _)

/-- The body's block at an index. -/
theorem block_apply (s : FVec Ideal S8x4096 .f32) (w : FVec Ideal S4096x512 .f32) (b : FVec Ideal S1x512 .f32)
    (r : Fin 8) (l : Fin 512) :
    k0_pay1 (F := Ideal) s w b (ix2 r l)
      = (∑ k : Fin 4096, silu (s (ix2 r k)) * (w (ix2 k l) : EReal)) + b (ix2 0 l) := by
  pointwise [k0_pay1, silu]

/-- The bias row the call reads is the bias vector. -/
theorem V_bias (c : Dev nD) (l : Fin 24576) :
    V m c main_v0 (ix2 0 l) = m ((c : Thread nD τ).loc main_arg2) (ix1 l) := by
  have h : V m c main_v0 = shapeCast S1x24576 (m ((c : Thread nD τ).loc main_arg2)) shapeCasts_S24576_S1x24576 := by
    show StableHlo.after hostOps0 _ (Proc.devRef .tc main_v0) = _
    after_results
    rfl
  rw [h]
  exact (shapeCast_addUnit_apply ![24576] _ _ _).trans (congrArg _ (funext fun a => by fin_cases a; rfl))

/-- What point `t` computes is its block of the modulation. -/
theorem point_apply (c : Dev nD) (t : Fin cfg0.N) (r : Fin 8) (l : Fin 512) :
    (k0_pay1 (F := Ideal) (iblk m c 0 t) (iblk m c 1 t) (iblk m c 2 t) (ix2 r l) : EReal)
      = modulation (m ((c : Thread nD τ).loc main_arg0)) (m ((c : Thread nD τ).loc main_arg1))
          (m ((c : Thread nD τ).loc main_arg2)) ((win0_3.blk t).view.emb (ix2 r l)) := by
  rw [block_apply]
  unfold modulation prod
  have e0 := idx_rows t
  have e1 := idx_cols t
  have e2 := idx_bias t
  have e3 := idx_out t
  refine congrArg₂ (· + ·) (Finset.sum_congr rfl fun k _ => congrArg₂ (· * ·) (congrArg silu ?_) ?_) ?_
  · blk_simp [iblk]
    rw [V_main_arg0]
    congr 1
    blk_ext [e0, e3]
  · blk_simp [iblk]
    rw [V_main_arg1]
    congr 1
    blk_ext [e1, e3]
  · refine Eq.trans ?_ (V_bias m c _)
    blk_simp [iblk]
    congr 1
    blk_ext [e2, e3]

/-- The result array is the modulation of the arguments. -/
theorem result_eq (c : Dev nD) : (dats m 0 c).arrAt 3 cfg0.N
    = modulation (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]
  frame_out
  obtain ⟨r, l, rfl⟩ : ∃ (r : Fin 8) (l : Fin 512), y = ix2 r l := ⟨y 0, y 1, by idx_ext⟩
  exact point_apply m c t r l

end Cert.ModIdeal.Product

namespace Cert.ModIdeal.Product

open Idealize.ShloMosaic Idealize.ShloMosaic.TcCoe Idealize.SL.Sem

section Reference

open Cert.ModRefIdeal Cert.ModRefIdeal.Gen

/-- The reference's rows before its product are `silu` of the argument. -/
theorem reference_silu (s : FVec Ideal S8x4096 .f32) :
    mulf s (Host.divf (broadcastInDim S8x4096 ![] bcast_S_S8x4096 (constant S_ .f32 0x3F800000#32))
      (addf (broadcastInDim S8x4096 ![] bcast_S_S8x4096 (constant S_ .f32 0x3F800000#32)) (Host.exp (Host.negf s))))
      = (fun j => silu (s j) : FVec Ideal S8x4096 .f32) := by
  funext j
  pointwise [silu, Ideal.logistic]

/-- The reference's result is the modulation. -/
theorem reference_eq (s : FVec Ideal S8x4096 .f32) (w : FVec Ideal S4096x24576 .f32) (b : FVec Ideal S24576 .f32) :
    addf (Host.dotGeneral dot_S8x4096_S4096x24576_S8x24576_1_0_0_1_n_n none (mulf s (Host.divf (broadcastInDim S8x4096 ![] bcast_S_S8x4096 (constant S_ .f32 0x3F800000#32))
      (addf (broadcastInDim S8x4096 ![] bcast_S_S8x4096 (constant S_ .f32 0x3F800000#32)) (Host.exp (Host.negf s))))) w)
      (broadcastInDim S8x24576 ![0, 1] bcast_S1x24576_S8x24576_0_1 (broadcastInDim S1x24576 ![1] bcast_S24576_S1x24576_1 b))
      = modulation s w b := by
  rw [reference_silu]
  funext i
  obtain ⟨r, l, rfl⟩ : ∃ (r : Fin 8) (l : Fin 24576), i = ix2 r l := ⟨i 0, i 1, by idx_ext⟩
  pointwise [modulation, Cert.Product.prod]

end Reference

/-- The kernel and the reference end with the same array. -/
theorem algebraic : Cert.algebraic_ModIdeal_ModRefIdeal := by
  intro m g m' g' _ hagree
  refine ⟨fun c => modulation (m ((c.tc : Thread _ _).loc Cert.ModIdeal.main_arg0)) (m ((c.tc : Thread _ _).loc Cert.ModIdeal.main_arg1))
    (m ((c.tc : Thread _ _).loc Cert.ModIdeal.main_arg2)), ?_, ?_⟩
  · refine (θ_run _ _ _).mono (fun r h c => ?_) (Cert.ModIdeal.Value.run_blocks m g)
    exact ⟨(h c).1.trans (result_eq m c), (h c).2⟩
  · refine (θ_run _ _ _).mono (fun r h c => ?_) (Cert.ModRefIdeal.Value.run m' g')
    refine ⟨(h c).1.trans ?_, (h c).2⟩
    rw [(hagree c).1, (hagree c).2.1, (hagree c).2.2]
    exact reference_eq _ _ _

end Cert.ModIdeal.Product

end
-- ==== Proof.RootMeanSquare.lean ====
/-
  The root mean square of a row of 4096 numbers at the extended reals, as the normalisations of the layer use it.
-/
module

public import Idealize.ShloMosaic.Lib.Pipeline.ValueKit
public import Idealize.ShloMosaic.Lib.Pointwise

@[expose] public section

noncomputable section

namespace Cert.Rms

open Idealize.ShloMosaic

/-- The inverse root of a row's mean square plus the small constant 1e-6. -/
def invRms (row : Fin 4096 → EReal) : EReal :=
  Ideal.rsqrt (Ideal.div (∑ k, row k * row k) (Ideal.ofBits .f32 0x45800000#32) + Ideal.ofBits .f32 0x358637BD#32)

/-- A normalised row with its gains, scaled by one plus `scale` and shifted. -/
def modulated (row gain scale shift : Fin 4096 → EReal) (l : Fin 4096) : EReal :=
  row l * invRms row * gain l * (Ideal.ofBits .f32 0x3F800000#32 + scale l) + shift l

end Cert.Rms

end
-- ==== Proof.FinalValue.lean ====
/-
  The last normalisation at the extended reals: the experts' outputs, gated per image, are added to the tokens; every row
  is divided by its root mean square and scaled by the columns' gains. Every grid point does this for 256 whole rows.
-/
module

public import proofs.«01_k».proof.Proof.Gen.FinalIdeal.Value
public import proofs.«01_k».proof.Proof.Gen.FinalRefIdeal.Run
public import Idealize.ShloMosaic.Lib.Pipeline.ValueKit
public import Idealize.ShloMosaic.Lib.Pointwise
public import proofs.«01_k».proof.Defs
public import proofs.«01_k».proof.Proof.RootMeanSquare

@[expose] public section

set_option maxRecDepth 16384

noncomputable section

namespace Cert.FinalIdeal.Norm

open Cert.Rms (invRms)
open Cert.FinalIdeal Cert.FinalIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- A number plus its gate times another number. -/
def addGate (x g y : EReal) : EReal := x + g * y

/-- A token's row after the experts: the row plus the image's gate times the experts' output. -/
def gated (h p : S16384x4096.Idx → EReal) (md : S48x1x4096.Idx → EReal) (r : Fin 16384) (k : Fin 4096) : EReal :=
  addGate (h (ix2 r k)) (md (ix3 ⟨r.val / 4096 * 6 + 5, by have := r.isLt; omega⟩ 0 k)) (p (ix2 r k))

/-- The normalised rows with their gains. -/
def normed (h p : S16384x4096.Idx → EReal) (md : S48x1x4096.Idx → EReal) (g : S4096.Idx → EReal) (i : S16384x4096.Idx) : EReal :=
  gated h p md (i 0) (i 1) * invRms (gated h p md (i 0)) * g (ix1 (i 1))

/-- The blocks: 256 whole rows, the gate row of the image they lie in, and the one row of gains. -/
theorem idx_rows : ∀ t : Fin cfg0.N, win0_0.index t = ![(grid0.coords t 0).val, 0] :=
  (by decide +kernel : ∀ t : Fin grid0.N, _)
theorem idx_experts : ∀ t : Fin cfg0.N, win0_1.index t = ![(grid0.coords t 0).val, 0] :=
  (by decide +kernel : ∀ t : Fin grid0.N, _)
theorem idx_gate : ∀ t : Fin cfg0.N, win0_2.index t = ![(grid0.coords t 0).val / 16 * 6 + 5, 0, 0] :=
  (by decide +kernel : ∀ t : Fin grid0.N, _)
theorem idx_gains : ∀ t : Fin cfg0.N, win0_3.index t = ![0, 0] :=
  (by decide +kernel : ∀ t : Fin grid0.N, _)
theorem idx_out : ∀ t : Fin cfg0.N, win0_4.index t = ![(grid0.coords t 0).val, 0] :=
  (by decide +kernel : ∀ t : Fin grid0.N, _)

/-- The body's block at an index. -/
theorem block_apply (h : FVec Ideal S256x4096 .f32) (md : FVec Ideal S1x1x4096 .f32) (p : FVec Ideal S256x4096 .f32)
    (g : FVec Ideal S1x4096 .f32) (r : Fin 256) (l : Fin 4096) :
    k0_pay1 (F := Ideal) h md p g (ix2 r l)
      = addGate (h (ix2 r l)) (md (ix3 0 0 l)) (p (ix2 r l)) * invRms (fun k => addGate (h (ix2 r k)) (md (ix3 0 0 k)) (p (ix2 r k)))
        * g (ix2 0 l) := by
  pointwise [k0_pay1, invRms, addGate]

/-- The row of gains the call reads is the vector of gains. -/
theorem V_gains (c : Dev nD) (l : Fin 4096) :
    V m c main_v0 (ix2 0 l) = m ((c : Thread nD τ).loc main_arg3) (ix1 l) := by
  have h : V m c main_v0 = shapeCast S1x4096 (m ((c : Thread nD τ).loc main_arg3)) shapeCasts_S4096_S1x4096 := by
    show StableHlo.after hostOps0 _ (Proc.devRef .tc main_v0) = _
    after_results
    rfl
  rw [h]
  exact (shapeCast_addUnit_apply ![4096] _ _ _).trans (congrArg _ (funext fun a => by fin_cases a; rfl))

/-- A block row's entry is the row's entry of the whole. -/
theorem gated_apply (c : Dev nD) (t : Fin cfg0.N) (r : Fin 256) (l k : Fin 4096) :
    addGate (iblk m c 0 t (ix2 r k)) (iblk m c 2 t (ix3 0 0 k)) (iblk m c 1 t (ix2 r k))
      = gated (m ((c : Thread nD τ).loc main_arg0)) (m ((c : Thread nD τ).loc main_arg1))
          (m ((c : Thread nD τ).loc main_arg2)) ((win0_4.blk t).view.emb (ix2 r l) 0) k := by
  unfold gated
  have e0 := idx_rows t
  have e1 := idx_experts t
  have e2 := idx_gate t
  have e4 := idx_out t
  refine congr (congrArg₂ addGate ?_ ?_) ?_
  · blk_simp [iblk]
    rw [V_main_arg0]
    congr 1
    blk_ext [e0, e4]
  · blk_simp [iblk]
    rw [V_main_arg2]
    congr 1
    blk_ext [e2, e4]
  · blk_simp [iblk]
    rw [V_main_arg1]
    congr 1
    blk_ext [e1, e4]

/-- What point `t` computes is its block of the normalised rows. -/
theorem point_apply (c : Dev nD) (t : Fin cfg0.N) (r : Fin 256) (l : Fin 4096) :
    (k0_pay1 (F := Ideal) (iblk m c 0 t) (iblk m c 2 t) (iblk m c 1 t) (iblk m c 3 t) (ix2 r l) : EReal)
      = normed (m ((c : Thread nD τ).loc main_arg0)) (m ((c : Thread nD τ).loc main_arg1))
          (m ((c : Thread nD τ).loc main_arg2)) (m ((c : Thread nD τ).loc main_arg3)) ((win0_4.blk t).view.emb (ix2 r l)) := by
  rw [block_apply]
  unfold normed
  have e3 := idx_gains t
  have e4 := idx_out t
  have hl : (win0_4.blk t).view.emb (ix2 r l) 1 = l := by
    apply Fin.ext
    blk_simp [e4]
  refine congrArg₂ (· * ·) (congrArg₂ (· * ·) ?_ ?_) ?_
  · rw [hl]
    exact gated_apply m c t r l l
  · exact congrArg invRms (funext fun k => gated_apply m c t r l k)
  · refine Eq.trans ?_ (V_gains m c _)
    blk_simp [iblk]
    congr 1
    blk_ext [e3, e4]

/-- The result array is the normalised rows. -/
theorem result_eq (c : Dev nD) : (dats m 0 c).arrAt 4 cfg0.N
    = normed (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  frame_out
  obtain ⟨r, l, rfl⟩ : ∃ (r : Fin 256) (l : Fin 4096), y = ix2 r l := ⟨y 0, y 1, by idx_ext⟩
  exact point_apply m c t r l

end Cert.FinalIdeal.Norm

namespace Cert.FinalIdeal.Norm

open Idealize.ShloMosaic Idealize.ShloMosaic.TcCoe Idealize.SL.Sem

section Reference

open Cert.FinalRefIdeal Cert.FinalRefIdeal.Gen
open Cert.Rms (invRms)

/-- The reference's gated rows. -/
def refRows (h p : FVec Ideal S16384x4096 .f32) (md : FVec Ideal S48x1x4096 .f32) : FVec Ideal S4x4096x4096 .f32 :=
  addf (shapeCast _ h shapeCasts_S16384x4096_S4x4096x4096) (mulf (broadcastInDim S4x4096x4096 ![0, 1, 2] bcast_S4x1x4096_S4x4096x4096_0_1_2 (broadcastInDim S4x1x4096 ![0, 2] bcast_S4x4096_S4x1x4096_0_2 (shapeCast _ (extractStridedSlice S4x1x4096 ![0, 5, 0] (shapeCast _ md shapeCasts_S48x1x4096_S8x6x4096) slices_S8x6x4096_S4x1x4096_0_5_0) shapeCasts_S4x1x4096_S4x4096))) (shapeCast _ p shapeCasts_S16384x4096_S4x4096x4096))

/-- The reference's result is the normalised rows. -/
theorem reference_eq (h p : FVec Ideal S16384x4096 .f32) (md : FVec Ideal S48x1x4096 .f32) (g : FVec Ideal S4096 .f32) :
    (shapeCast S16384x4096 (mulf (mulf (refRows h p md) (broadcastInDim S4x4096x4096 ![0, 1, 2] bcast_S4x4096x1_S4x4096x4096_0_1_2 (Host.rsqrt (addf (Host.divf (broadcastInDim S4x4096x1 ![0, 1] bcast_S4x4096_S4x4096x1_0_1 (Host.reduceAdd (mulf (refRows h p md) (refRows h p md)) (constant S_ .f32 0x00000000#32) reducesTo_S4x4096x4096_S4x4096_d2 h_S_)) (broadcastInDim S4x4096x1 ![] bcast_S_S4x4096x1 (constant S_ .f32 0x45800000#32))) (broadcastInDim S4x4096x1 ![] bcast_S_S4x4096x1 (constant S_ .f32 0x358637BD#32)))))) (broadcastInDim S4x4096x4096 ![0, 1, 2] bcast_S1x1x4096_S4x4096x4096_0_1_2 (broadcastInDim S1x1x4096 ![2] bcast_S4096_S1x1x4096_2 g))) shapeCasts_S4x4096x4096_S16384x4096 : FVec Ideal S16384x4096 .f32)
      = normed h p md g := by
  funext i
  obtain ⟨r, l, rfl⟩ : ∃ (r : Fin 16384) (l : Fin 4096), i = ix2 r l := ⟨i 0, i 1, by idx_ext⟩
  pointwise [normed, gated, addGate, invRms, refRows]

end Reference

/-- The kernel and the reference end with the same array. -/
theorem algebraic : Cert.algebraic_FinalIdeal_FinalRefIdeal := by
  intro m g m' g' _ hagree
  refine ⟨fun c => normed (m ((c.tc : Thread _ _).loc Cert.FinalIdeal.main_arg0)) (m ((c.tc : Thread _ _).loc Cert.FinalIdeal.main_arg1))
    (m ((c.tc : Thread _ _).loc Cert.FinalIdeal.main_arg2)) (m ((c.tc : Thread _ _).loc Cert.FinalIdeal.main_arg3)), ?_, ?_⟩
  · refine (θ_run _ _ _).mono (fun r h c => ?_) (Cert.FinalIdeal.Value.run_blocks m g)
    exact ⟨(h c).1.trans (result_eq m c), (h c).2⟩
  · refine (θ_run _ _ _).mono (fun r h c => ?_) (Cert.FinalRefIdeal.Value.run m' g')
    refine ⟨(h c).1.trans ?_, (h c).2⟩
    rw [(hagree c).1, (hagree c).2.1, (hagree c).2.2.1, (hagree c).2.2.2]
    exact reference_eq _ _ _ _

end Cert.FinalIdeal.Norm

end
-- ==== Proof.Norm1Value.lean ====
/-
  The first normalisation at the extended reals: the rows of the context and of the latents, one after the other, are
  divided by their root mean square, scaled by the columns' gains, then scaled and shifted by a modulation: the context's
  own for its rows, the image's for the latents'. Every grid point does this for 256 whole rows of the one or the other.
-/
module

public import proofs.«01_k».proof.Proof.Gen.Norm1Ideal.Value
public import proofs.«01_k».proof.Proof.Gen.Norm1RefIdeal.Run
public import Idealize.ShloMosaic.Lib.Pipeline.ValueKit
public import Idealize.ShloMosaic.Lib.Pointwise
public import proofs.«01_k».proof.Defs
public import proofs.«01_k».proof.Proof.RootMeanSquare

@[expose] public section

set_option maxRecDepth 16384

noncomputable section

namespace Cert.Norm1Ideal.Norm

open Cert.Rms (invRms modulated)
open Cert.Norm1Ideal Cert.Norm1Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Row `r` of `h`, modulated by the rows `6 q` (shift) and `6 q + 1` (scale) of the modulation. -/
def line {n : ℕ} (h : (⟨2, ![n, 4096]⟩ : Shape).Idx → EReal) (g : S4096.Idx → EReal) (md : S48x1x4096.Idx → EReal) (r : Fin n) (q : ℕ) (hq : q * 6 + 1 < 48)
    (l : Fin 4096) : EReal :=
  modulated (fun k => h (ix2 r k)) (fun k => g (ix1 k)) (fun k => md (ix3 ⟨q * 6 + 1, hq⟩ 0 k))
    (fun k => md (ix3 ⟨q * 6, by omega⟩ 0 k)) l

/-- The modulated rows: the context's 1024, then the latents'. -/
def rows (h : S1024x4096.Idx → EReal) (x : S16384x4096.Idx → EReal) (g : S4096.Idx → EReal) (md : S48x1x4096.Idx → EReal)
    (i : S17408x4096.Idx) : EReal :=
  if hc : (i 0).val < 1024 then line h g md ⟨(i 0).val, hc⟩ 4 (by omega) (i 1)
  else line x g md ⟨(i 0).val - 1024, by have : (i 0).val < 17408 := (i 0).isLt; omega⟩ (((i 0).val - 1024) / 4096)
    (by have : (i 0).val < 17408 := (i 0).isLt; omega) (i 1)

/-- The blocks: 256 whole rows of the context, then of the latents; the shift and the scale; the one row of gains. -/
theorem idx_first : ∀ t : Fin cfg0.N, t.val < 4 → win0_0.index t = ![(grid0.coords t 0).val, 0] :=
  (by decide +kernel : ∀ t : Fin grid0.N, _)
theorem idx_second : ∀ t : Fin cfg0.N, 4 ≤ t.val → win0_1.index t = ![(grid0.coords t 0).val - 4, 0] :=
  (by decide +kernel : ∀ t : Fin grid0.N, _)
theorem idx_gains : ∀ t : Fin cfg0.N, win0_2.index t = ![0, 0] :=
  (by decide +kernel : ∀ t : Fin grid0.N, _)
theorem idx_shift : ∀ t : Fin cfg0.N, win0_3.index t
    = ![(if (grid0.coords t 0).val < 4 then 4 else ((grid0.coords t 0).val - 4) / 16) * 6, 0, 0] :=
  (by decide +kernel : ∀ t : Fin grid0.N, _)
theorem idx_scale : ∀ t : Fin cfg0.N, win0_4.index t
    = ![(if (grid0.coords t 0).val < 4 then 4 else ((grid0.coords t 0).val - 4) / 16) * 6 + 1, 0, 0] :=
  (by decide +kernel : ∀ t : Fin grid0.N, _)
theorem idx_out : ∀ t : Fin cfg0.N, win0_5.index t = ![(grid0.coords t 0).val, 0] :=
  (by decide +kernel : ∀ t : Fin grid0.N, _)
theorem coord_eq : ∀ t : Fin cfg0.N, (grid0.coords t 0).val = t.val :=
  (by decide +kernel : ∀ t : Fin grid0.N, _)

/-- The two branches' blocks at an index: the same function of the rows they read. -/
theorem block_first (h : FVec Ideal S256x4096 .f32) (g : FVec Ideal S1x4096 .f32) (sc sh : FVec Ideal S1x1x4096 .f32)
    (r : Fin 256) (l : Fin 4096) :
    (k0_pay1 (F := Ideal) h g sc sh (ix2 r l) : EReal)
      = modulated (fun k => h (ix2 r k)) (fun k => g (ix2 0 k)) (fun k => sc (ix3 0 0 k)) (fun k => sh (ix3 0 0 k)) l := by
  pointwise [k0_pay1, invRms, modulated]

theorem block_second (h : FVec Ideal S256x4096 .f32) (g : FVec Ideal S1x4096 .f32) (sc sh : FVec Ideal S1x1x4096 .f32)
    (r : Fin 256) (l : Fin 4096) :
    (k0_pay2 (F := Ideal) h g sc sh (ix2 r l) : EReal)
      = modulated (fun k => h (ix2 r k)) (fun k => g (ix2 0 k)) (fun k => sc (ix3 0 0 k)) (fun k => sh (ix3 0 0 k)) l := by
  pointwise [k0_pay2, invRms, modulated]

/-- The row of gains the call reads is the vector of gains. -/
theorem V_gains (c : Dev nD) (l : Fin 4096) :
    V m c main_v0 (ix2 0 l) = m ((c : Thread nD τ).loc main_arg2) (ix1 l) := by
  have h : V m c main_v0 = shapeCast S1x4096 (m ((c : Thread nD τ).loc main_arg2)) shapeCasts_S4096_S1x4096 := by
    show StableHlo.after hostOps0 _ (Proc.devRef .tc main_v0) = _
    after_results
    rfl
  rw [h]
  exact (shapeCast_addUnit_apply ![4096] _ _ _).trans (congrArg _ (funext fun a => by fin_cases a; rfl))

/-- What one of the first four points computes is its block of the modulated rows. -/
theorem first_apply (c : Dev nD) (t : Fin cfg0.N) (ht : t.val < 4) (r : Fin 256) (l : Fin 4096) :
    (k0_pay1 (F := Ideal) (iblk m c 0 t) (iblk m c 2 t) (iblk m c 4 t) (iblk m c 3 t) (ix2 r l) : EReal)
      = rows (m ((c : Thread nD τ).loc main_arg0)) (m ((c : Thread nD τ).loc main_arg1)) (m ((c : Thread nD τ).loc main_arg2)) (m ((c : Thread nD τ).loc main_arg3))
          ((win0_5.blk t).view.emb (ix2 r l)) := by
  have e1 := idx_first t ht
  have e2 := idx_gains t
  have e3 := idx_shift t
  have e4 := idx_scale t
  have e5 := idx_out t
  have ec := coord_eq t
  have hl : (win0_5.blk t).view.emb (ix2 r l) 1 = l := by
    apply Fin.ext
    blk_simp [e5]
  have hr : ((win0_5.blk t).view.emb (ix2 r l) 0).val = t.val * 256 + r.val := by
    blk_simp [e5, ec]
  have hcond : ((win0_5.blk t).view.emb (ix2 r l) 0).val < 1024 := by rw [hr]; have := r.isLt; omega
  have hg : (grid0.coords t 0).val < 4 := by omega
  rw [if_pos hg] at e3 e4
  rw [block_first]
  unfold rows
  rw [dif_pos hcond, hl]
  unfold line
  congr 1 <;> funext k
  · blk_simp [iblk]
    rw [V_main_arg0]
    congr 1
    blk_ext [e1, e5]
  · refine Eq.trans ?_ (V_gains m c _)
    blk_simp [iblk]
    congr 1
    blk_ext [e2, e5]
  · blk_simp [iblk]
    rw [V_main_arg3]
    congr 1
    blk_ext [e4, e5]
  · blk_simp [iblk]
    rw [V_main_arg3]
    congr 1
    blk_ext [e3, e5]

/-- What a later point computes is its block of the modulated rows. -/
theorem second_apply (c : Dev nD) (t : Fin cfg0.N) (ht : 4 ≤ t.val) (r : Fin 256) (l : Fin 4096) :
    (k0_pay2 (F := Ideal) (iblk m c 1 t) (iblk m c 2 t) (iblk m c 4 t) (iblk m c 3 t) (ix2 r l) : EReal)
      = rows (m ((c : Thread nD τ).loc main_arg0)) (m ((c : Thread nD τ).loc main_arg1)) (m ((c : Thread nD τ).loc main_arg2)) (m ((c : Thread nD τ).loc main_arg3))
          ((win0_5.blk t).view.emb (ix2 r l)) := by
  have e1 := idx_second t ht
  have e2 := idx_gains t
  have e3 := idx_shift t
  have e4 := idx_scale t
  have e5 := idx_out t
  have ec := coord_eq t
  have hl : (win0_5.blk t).view.emb (ix2 r l) 1 = l := by
    apply Fin.ext
    blk_simp [e5]
  have hr : ((win0_5.blk t).view.emb (ix2 r l) 0).val = t.val * 256 + r.val := by
    blk_simp [e5, ec]
  have hcond : ¬((win0_5.blk t).view.emb (ix2 r l) 0).val < 1024 := by rw [hr]; have := r.isLt; omega
  have hg : ¬(grid0.coords t 0).val < 4 := by omega
  rw [if_neg hg] at e3 e4
  rw [block_second]
  unfold rows
  rw [dif_neg hcond, hl]
  unfold line
  congr 1 <;> funext k
  · blk_simp [iblk]
    rw [V_main_arg1]
    congr 1
    blk_ext [e1, e5]
  · refine Eq.trans ?_ (V_gains m c _)
    blk_simp [iblk]
    congr 1
    blk_ext [e2, e5]
  · blk_simp [iblk]
    rw [V_main_arg3]
    congr 1
    blk_ext [e4, e5]
  · blk_simp [iblk]
    rw [V_main_arg3]
    congr 1
    blk_ext [e3, e5]

/-- The result array is the modulated rows. -/
theorem result_eq (c : Dev nD) : (dats m 0 c).arrAt 5 cfg0.N
    = rows (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  obtain ⟨r, l, rfl⟩ : ∃ (r : Fin 256) (l : Fin 4096), y = ix2 r l := ⟨y 0, y 1, by idx_ext⟩
  by_cases ht : t.val < 4
  · rw [outsAt0_A m c t ht (by omega)]
    frame_out
    exact first_apply m c t ht r l
  · rw [outsAt0_B m c t ht (by omega)]
    frame_out
    exact second_apply m c t (by omega) r l

end Cert.Norm1Ideal.Norm

namespace Cert.Norm1Ideal.Norm

open Idealize.ShloMosaic Idealize.ShloMosaic.TcCoe Idealize.SL.Sem

section Reference

open Cert.Norm1RefIdeal Cert.Norm1RefIdeal.Gen
open Cert.Rms (invRms modulated)

/-- The reference's result is the modulated rows. -/
theorem reference_eq (h : FVec Ideal S1024x4096 .f32) (x : FVec Ideal S16384x4096 .f32) (g : FVec Ideal S4096 .f32) (md : FVec Ideal S48x1x4096 .f32) :
    (truncf .bf16 (concatenate S17408x4096 0 [⟨S1024x4096, (shapeCast _ (addf (mulf (mulf (mulf (shapeCast _ h shapeCasts_S1024x4096_S4x256x4096) (broadcastInDim S4x256x4096 ![0, 1, 2] bcast_S4x256x1_S4x256x4096_0_1_2 (Host.rsqrt (addf (Host.divf (broadcastInDim S4x256x1 ![0, 1] bcast_S4x256_S4x256x1_0_1 (Host.reduceAdd (mulf (shapeCast _ h shapeCasts_S1024x4096_S4x256x4096) (shapeCast _ h shapeCasts_S1024x4096_S4x256x4096)) (constant S_ .f32 0x00000000#32) reducesTo_S4x256x4096_S4x256_d2 h_S_)) (broadcastInDim S4x256x1 ![] bcast_S_S4x256x1 (constant S_ .f32 0x45800000#32))) (broadcastInDim S4x256x1 ![] bcast_S_S4x256x1 (constant S_ .f32 0x358637BD#32)))))) (broadcastInDim S4x256x4096 ![0, 1, 2] bcast_S1x1x4096_S4x256x4096_0_1_2 (broadcastInDim S1x1x4096 ![2] bcast_S4096_S1x1x4096_2 g))) (broadcastInDim S4x256x4096 ![0, 1, 2] bcast_S1x1x4096_S4x256x4096_0_1_2 (addf (broadcastInDim S1x1x4096 ![] bcast_S_S1x1x4096 (constant S_ .f32 0x3F800000#32)) (broadcastInDim S1x1x4096 ![2] bcast_S4096_S1x1x4096_2 (shapeCast _ (extractStridedSlice S1x1x4096 ![4, 1, 0] (shapeCast _ md shapeCasts_S48x1x4096_S8x6x4096) slices_S8x6x4096_S1x1x4096_4_1_0) shapeCasts_S1x1x4096_S4096))))) (broadcastInDim S4x256x4096 ![0, 1, 2] bcast_S1x1x4096_S4x256x4096_0_1_2 (broadcastInDim S1x1x4096 ![2] bcast_S4096_S1x1x4096_2 (shapeCast _ (extractStridedSlice S1x1x4096 ![4, 0, 0] (shapeCast _ md shapeCasts_S48x1x4096_S8x6x4096) slices_S8x6x4096_S1x1x4096_4_0_0) shapeCasts_S1x1x4096_S4096)))) shapeCasts_S4x256x4096_S1024x4096)⟩, ⟨S16384x4096, (shapeCast _ (addf (mulf (mulf (mulf (shapeCast _ x shapeCasts_S16384x4096_S4x4096x4096) (broadcastInDim S4x4096x4096 ![0, 1, 2] bcast_S4x4096x1_S4x4096x4096_0_1_2 (Host.rsqrt (addf (Host.divf (broadcastInDim S4x4096x1 ![0, 1] bcast_S4x4096_S4x4096x1_0_1 (Host.reduceAdd (mulf (shapeCast _ x shapeCasts_S16384x4096_S4x4096x4096) (shapeCast _ x shapeCasts_S16384x4096_S4x4096x4096)) (constant S_ .f32 0x00000000#32) reducesTo_S4x4096x4096_S4x4096_d2 h_S_)) (broadcastInDim S4x4096x1 ![] bcast_S_S4x4096x1 (constant S_ .f32 0x45800000#32))) (broadcastInDim S4x4096x1 ![] bcast_S_S4x4096x1 (constant S_ .f32 0x358637BD#32)))))) (broadcastInDim S4x4096x4096 ![0, 1, 2] bcast_S1x1x4096_S4x4096x4096_0_1_2 (broadcastInDim S1x1x4096 ![2] bcast_S4096_S1x1x4096_2 g))) (broadcastInDim S4x4096x4096 ![0, 1, 2] bcast_S4x1x4096_S4x4096x4096_0_1_2 (addf (broadcastInDim S4x1x4096 ![] bcast_S_S4x1x4096 (constant S_ .f32 0x3F800000#32)) (broadcastInDim S4x1x4096 ![0, 2] bcast_S4x4096_S4x1x4096_0_2 (shapeCast _ (extractStridedSlice S4x1x4096 ![0, 1, 0] (shapeCast _ md shapeCasts_S48x1x4096_S8x6x4096) slices_S8x6x4096_S4x1x4096_0_1_0) shapeCasts_S4x1x4096_S4x4096))))) (broadcastInDim S4x4096x4096 ![0, 1, 2] bcast_S4x1x4096_S4x4096x4096_0_1_2 (broadcastInDim S4x1x4096 ![0, 2] bcast_S4x4096_S4x1x4096_0_2 (shapeCast _ (extractStridedSlice S4x1x4096 ![0, 0, 0] (shapeCast _ md shapeCasts_S48x1x4096_S8x6x4096) slices_S8x6x4096_S4x1x4096_0_0_0) shapeCasts_S4x1x4096_S4x4096)))) shapeCasts_S4x4096x4096_S16384x4096)⟩] concatenates_S1024x4096_S16384x4096_S17408x4096_d0) bitsLt_bf16_f32 : FVec Ideal S17408x4096 .bf16)
      = rows h x g md := by
  funext i
  obtain ⟨r, l, rfl⟩ : ∃ (r : Fin 17408) (l : Fin 4096), i = ix2 r l := ⟨i 0, i 1, by idx_ext⟩
  pointwise [rows, line, modulated, invRms]
  simp only [Nat.div_add_mod']

end Reference

/-- The kernel and the reference end with the same array. -/
theorem algebraic : Cert.algebraic_Norm1Ideal_Norm1RefIdeal := by
  intro m g m' g' _ hagree
  refine ⟨fun c => rows (m ((c.tc : Thread _ _).loc Cert.Norm1Ideal.main_arg0)) (m ((c.tc : Thread _ _).loc Cert.Norm1Ideal.main_arg1))
    (m ((c.tc : Thread _ _).loc Cert.Norm1Ideal.main_arg2)) (m ((c.tc : Thread _ _).loc Cert.Norm1Ideal.main_arg3)), ?_, ?_⟩
  · refine (θ_run _ _ _).mono (fun r h c => ?_) (Cert.Norm1Ideal.Value.run_blocks m g)
    exact ⟨(h c).1.trans (result_eq m c), (h c).2⟩
  · refine (θ_run _ _ _).mono (fun r h c => ?_) (Cert.Norm1RefIdeal.Value.run m' g')
    refine ⟨(h c).1.trans ?_, (h c).2⟩
    rw [(hagree c).1, (hagree c).2.1, (hagree c).2.2.1, (hagree c).2.2.2]
    exact reference_eq _ _ _ _

end Cert.Norm1Ideal.Norm

end
-- ==== Proof.Norm2Value.lean ====
/-
  The second normalisation at the extended reals: every row of the tokens is divided by its root mean square, scaled by
  the columns' gains, then scaled and shifted by the image's modulation. Every grid point does this for 256 whole rows.
-/
module

public import proofs.«01_k».proof.Proof.Gen.Norm2Ideal.Value
public import proofs.«01_k».proof.Proof.Gen.Norm2RefIdeal.Run
public import Idealize.ShloMosaic.Lib.Pipeline.ValueKit
public import Idealize.ShloMosaic.Lib.Pointwise
public import proofs.«01_k».proof.Defs
public import proofs.«01_k».proof.Proof.RootMeanSquare

@[expose] public section

set_option maxRecDepth 16384

noncomputable section

namespace Cert.Norm2Ideal.Norm

open Cert.Rms (invRms modulated)
open Cert.Norm2Ideal Cert.Norm2Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The modulated rows: row `r` with the shift and the scale of its image. -/
def rows (h : S16384x4096.Idx → EReal) (g : S4096.Idx → EReal) (md : S48x1x4096.Idx → EReal) (i : S16384x4096.Idx) : EReal :=
  modulated (fun k => h (ix2 (i 0) k)) (fun k => g (ix1 k))
    (fun k => md (ix3 ⟨(i 0).val / 4096 * 6 + 4, by have : (i 0).val < 16384 := (i 0).isLt; omega⟩ 0 k))
    (fun k => md (ix3 ⟨(i 0).val / 4096 * 6 + 3, by have : (i 0).val < 16384 := (i 0).isLt; omega⟩ 0 k)) (i 1)

/-- The blocks: 256 whole rows, the shift and the scale of the image they lie in, and the one row of gains. -/
theorem idx_rows : ∀ t : Fin cfg0.N, win0_1.index t = ![(grid0.coords t 0).val, 0] :=
  (by decide +kernel : ∀ t : Fin grid0.N, _)
theorem idx_gains : ∀ t : Fin cfg0.N, win0_2.index t = ![0, 0] :=
  (by decide +kernel : ∀ t : Fin grid0.N, _)
theorem idx_shift : ∀ t : Fin cfg0.N, win0_3.index t = ![(grid0.coords t 0).val / 16 * 6 + 3, 0, 0] :=
  (by decide +kernel : ∀ t : Fin grid0.N, _)
theorem idx_scale : ∀ t : Fin cfg0.N, win0_4.index t = ![(grid0.coords t 0).val / 16 * 6 + 4, 0, 0] :=
  (by decide +kernel : ∀ t : Fin grid0.N, _)
theorem idx_out : ∀ t : Fin cfg0.N, win0_5.index t = ![(grid0.coords t 0).val, 0] :=
  (by decide +kernel : ∀ t : Fin grid0.N, _)

/-- The body's block at an index. -/
theorem block_apply (h : FVec Ideal S256x4096 .f32) (g : FVec Ideal S1x4096 .f32) (sc sh : FVec Ideal S1x1x4096 .f32)
    (r : Fin 256) (l : Fin 4096) :
    (k0_pay2 (F := Ideal) h g sc sh (ix2 r l) : EReal)
      = modulated (fun k => h (ix2 r k)) (fun k => g (ix2 0 k)) (fun k => sc (ix3 0 0 k)) (fun k => sh (ix3 0 0 k)) l := by
  pointwise [k0_pay2, invRms, modulated]

/-- The row of gains the call reads is the vector of gains. -/
theorem V_gains (c : Dev nD) (l : Fin 4096) :
    V m c main_v0 (ix2 0 l) = m ((c : Thread nD τ).loc main_arg1) (ix1 l) := by
  have h : V m c main_v0 = shapeCast S1x4096 (m ((c : Thread nD τ).loc main_arg1)) shapeCasts_S4096_S1x4096 := by
    show StableHlo.after hostOps0 _ (Proc.devRef .tc main_v0) = _
    after_results
    rfl
  rw [h]
  exact (shapeCast_addUnit_apply ![4096] _ _ _).trans (congrArg _ (funext fun a => by fin_cases a; rfl))

/-- What point `t` computes is its block of the modulated rows. -/
theorem point_apply (c : Dev nD) (t : Fin cfg0.N) (r : Fin 256) (l : Fin 4096) :
    (k0_pay2 (F := Ideal) (iblk m c 1 t) (iblk m c 2 t) (iblk m c 4 t) (iblk m c 3 t) (ix2 r l) : EReal)
      = rows (m ((c : Thread nD τ).loc main_arg0)) (m ((c : Thread nD τ).loc main_arg1))
          (m ((c : Thread nD τ).loc main_arg2)) ((win0_5.blk t).view.emb (ix2 r l)) := by
  rw [block_apply]
  unfold rows
  have e1 := idx_rows t
  have e2 := idx_gains t
  have e3 := idx_shift t
  have e4 := idx_scale t
  have e5 := idx_out t
  have hl : (win0_5.blk t).view.emb (ix2 r l) 1 = l := by
    apply Fin.ext
    blk_simp [e5]
  rw [hl]
  congr 1 <;> funext k
  · blk_simp [iblk]
    rw [V_main_arg0]
    congr 1
    blk_ext [e1, e5]
  · refine Eq.trans ?_ (V_gains m c _)
    blk_simp [iblk]
    congr 1
    blk_ext [e2, e5]
  · blk_simp [iblk]
    rw [V_main_arg2]
    congr 1
    blk_ext [e4, e5]
  · blk_simp [iblk]
    rw [V_main_arg2]
    congr 1
    blk_ext [e3, e5]

/-- The result array is the modulated rows. -/
theorem result_eq (c : Dev nD) : (dats m 0 c).arrAt 5 cfg0.N
    = rows (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  unfold outsAt0
  frame_out
  obtain ⟨r, l, rfl⟩ : ∃ (r : Fin 256) (l : Fin 4096), y = ix2 r l := ⟨y 0, y 1, by idx_ext⟩
  exact point_apply m c t r l

end Cert.Norm2Ideal.Norm

namespace Cert.Norm2Ideal.Norm

open Idealize.ShloMosaic Idealize.ShloMosaic.TcCoe Idealize.SL.Sem

section Reference

open Cert.Norm2RefIdeal Cert.Norm2RefIdeal.Gen
open Cert.Rms (invRms modulated)

/-- The reference's result is the modulated rows. -/
theorem reference_eq (h : FVec Ideal S16384x4096 .f32) (g : FVec Ideal S4096 .f32) (md : FVec Ideal S48x1x4096 .f32) :
    (truncf .bf16 (shapeCast _ (addf (mulf (mulf (mulf (shapeCast _ h shapeCasts_S16384x4096_S4x4096x4096) (broadcastInDim S4x4096x4096 ![0, 1, 2] bcast_S4x4096x1_S4x4096x4096_0_1_2 (Host.rsqrt (addf (Host.divf (broadcastInDim S4x4096x1 ![0, 1] bcast_S4x4096_S4x4096x1_0_1 (Host.reduceAdd (mulf (shapeCast _ h shapeCasts_S16384x4096_S4x4096x4096) (shapeCast _ h shapeCasts_S16384x4096_S4x4096x4096)) (constant S_ .f32 0x00000000#32) reducesTo_S4x4096x4096_S4x4096_d2 h_S_)) (broadcastInDim S4x4096x1 ![] bcast_S_S4x4096x1 (constant S_ .f32 0x45800000#32))) (broadcastInDim S4x4096x1 ![] bcast_S_S4x4096x1 (constant S_ .f32 0x358637BD#32)))))) (broadcastInDim S4x4096x4096 ![0, 1, 2] bcast_S1x1x4096_S4x4096x4096_0_1_2 (broadcastInDim S1x1x4096 ![2] bcast_S4096_S1x1x4096_2 g))) (broadcastInDim S4x4096x4096 ![0, 1, 2] bcast_S4x1x4096_S4x4096x4096_0_1_2 (addf (broadcastInDim S4x1x4096 ![] bcast_S_S4x1x4096 (constant S_ .f32 0x3F800000#32)) (broadcastInDim S4x1x4096 ![0, 2] bcast_S4x4096_S4x1x4096_0_2 (shapeCast _ (extractStridedSlice S4x1x4096 ![0, 4, 0] (shapeCast _ md shapeCasts_S48x1x4096_S8x6x4096) slices_S8x6x4096_S4x1x4096_0_4_0) shapeCasts_S4x1x4096_S4x4096))))) (broadcastInDim S4x4096x4096 ![0, 1, 2] bcast_S4x1x4096_S4x4096x4096_0_1_2 (broadcastInDim S4x1x4096 ![0, 2] bcast_S4x4096_S4x1x4096_0_2 (shapeCast _ (extractStridedSlice S4x1x4096 ![0, 3, 0] (shapeCast _ md shapeCasts_S48x1x4096_S8x6x4096) slices_S8x6x4096_S4x1x4096_0_3_0) shapeCasts_S4x1x4096_S4x4096)))) shapeCasts_S4x4096x4096_S16384x4096) bitsLt_bf16_f32 : FVec Ideal S16384x4096 .bf16)
      = rows h g md := by
  funext i
  obtain ⟨r, l, rfl⟩ : ∃ (r : Fin 16384) (l : Fin 4096), i = ix2 r l := ⟨i 0, i 1, by idx_ext⟩
  pointwise [rows, modulated, invRms]

end Reference

/-- The kernel and the reference end with the same array. -/
theorem algebraic : Cert.algebraic_Norm2Ideal_Norm2RefIdeal := by
  intro m g m' g' _ hagree
  refine ⟨fun c => rows (m ((c.tc : Thread _ _).loc Cert.Norm2Ideal.main_arg0)) (m ((c.tc : Thread _ _).loc Cert.Norm2Ideal.main_arg1))
    (m ((c.tc : Thread _ _).loc Cert.Norm2Ideal.main_arg2)), ?_, ?_⟩
  · refine (θ_run _ _ _).mono (fun r h c => ?_) (Cert.Norm2Ideal.Value.run_blocks m g)
    exact ⟨(h c).1.trans (result_eq m c), (h c).2⟩
  · refine (θ_run _ _ _).mono (fun r h c => ?_) (Cert.Norm2RefIdeal.Value.run m' g')
    refine ⟨(h c).1.trans ?_, (h c).2⟩
    rw [(hagree c).1, (hagree c).2.1, (hagree c).2.2]
    exact reference_eq _ _ _

end Cert.Norm2Ideal.Norm

end
-- ==== Proof.ConvValue.lean ====
/-
  The depthwise convolution before the scan at the extended reals: every entry of a stream is the weighted sum of the
  entry before it, its own and the one after it, plus a bias, times its logistic; at a stream's ends the missing
  neighbour is zero. The context and the latents of an image are streams of their own. Every grid point does this for
  256 entries of 1024 columns, with the neighbours of its first and last row read from the two blocks beside it.
-/
module

public import proofs.«01_k».proof.Proof.Gen.ConvIdeal.Value
public import proofs.«01_k».proof.Proof.Gen.ConvRefIdeal.Run
public import Idealize.ShloMosaic.Lib.Pipeline.ValueKit
public import Idealize.ShloMosaic.Lib.Pointwise
public import proofs.«01_k».proof.Defs

@[expose] public section

set_option maxRecDepth 16384

noncomputable section

namespace Cert.ConvIdeal.Conv

open Cert.ConvIdeal Cert.ConvIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- A number times its logistic. -/
def silu (y : EReal) : EReal := y * Ideal.div 1 (1 + Ideal.exp (-y))

/-- Three neighbours with their weights and a bias. -/
def tap (u v w b before self after : EReal) : EReal := silu (u * before + v * self + w * after + b)

/-- An entry of the combined projection, by row and column. -/
def entry (p : S17408x13824.Idx → EReal) (R l : ℕ) : EReal :=
  if h : R < 17408 ∧ l < 13824 then p (ix2 ⟨R, h.1⟩ ⟨l, h.2⟩) else 0

theorem entry_eq (p : S17408x13824.Idx → EReal) (R l : ℕ) (h : R < 17408) (h' : l < 13824) :
    p (ix2 ⟨R, h⟩ ⟨l, h'⟩) = entry p R l := by
  unfold entry
  rw [dif_pos ⟨h, h'⟩]

/-- The row of the combined projection at place `s` of image `b`: its context's rows first, then its latents'. -/
def src (b s : ℕ) : ℕ := if s < 256 then b * 256 + s else 1024 + b * 4096 + (s - 256)

/-- The convolved streams. -/
def conv (p : S17408x13824.Idx → EReal) (w : S3x4096.Idx → EReal) (b : S4096.Idx → EReal) (i : S4x4352x4096.Idx) : EReal :=
  tap (w (ix2 0 (i 2))) (w (ix2 1 (i 2))) (w (ix2 2 (i 2))) (b (ix1 (i 2)))
    (if (i 1).val = 0 ∨ (i 1).val = 256 then 0 else entry p (src (i 0).val ((i 1).val - 1)) (9216 + (i 2).val))
    (entry p (src (i 0).val (i 1).val) (9216 + (i 2).val))
    (if (i 1).val = 255 ∨ (i 1).val = 4351 then 0 else entry p (src (i 0).val ((i 1).val + 1)) (9216 + (i 2).val))

/-- The grid's first coordinate as the body counts it: the place of a latents' block in its image. -/
def blockMask (a k : BitVec 32) : BitVec 1 :=
  Scalar.ori (Scalar.cmpi .slt a 4#32)
    (Scalar.cmpi .eq
      (Scalar.select
        (Scalar.andi
          (Scalar.xori
            (Scalar.cmpi .slt (Scalar.remsi (Scalar.subi a 4#32) (Scalar.select (Scalar.cmpi .eq 16#32 0#32) 1#32 16#32)) 0#32)
            (Scalar.cmpi .slt (Scalar.select (Scalar.cmpi .eq 16#32 0#32) 1#32 16#32) 0#32))
          (Scalar.cmpi .ne (Scalar.remsi (Scalar.subi a 4#32) (Scalar.select (Scalar.cmpi .eq 16#32 0#32) 1#32 16#32)) 0#32))
        (Scalar.addi (Scalar.remsi (Scalar.subi a 4#32) (Scalar.select (Scalar.cmpi .eq 16#32 0#32) 1#32 16#32))
          (Scalar.select (Scalar.cmpi .eq 16#32 0#32) 1#32 16#32))
        (Scalar.remsi (Scalar.subi a 4#32) (Scalar.select (Scalar.cmpi .eq 16#32 0#32) 1#32 16#32)))
      k)

/-- It tells the first and the last block of a stream. -/
theorem first_mask : ∀ n : Fin 68, blockMask (BitVec.ofNat 32 n.val) 0#32 = if n.val < 4 ∨ (n.val - 4) % 16 = 0 then 1#1 else 0#1 := by
  decide +kernel
theorem last_mask : ∀ n : Fin 68, blockMask (BitVec.ofNat 32 n.val) 15#32 = if n.val < 4 ∨ (n.val - 4) % 16 = 15 then 1#1 else 0#1 := by
  decide +kernel

/-- The first and the last row of a block. -/
theorem top_mask : ∀ r : Fin 256, IntOp.cmpi .eq (BitVec.ofNat 32 r.val) 0#32 = if r.val = 0 then 1#1 else 0#1 := by
  decide +kernel
theorem bottom_mask : ∀ r : Fin 256, IntOp.cmpi .eq (BitVec.ofNat 32 r.val) 255#32 = if r.val = 255 then 1#1 else 0#1 := by
  decide +kernel

theorem select_ite (q : Prop) [Decidable q] (a b : EReal) : Scalar.select (if q then 1#1 else 0#1) a b = if q then a else b := by
  by_cases h : q <;> simp [h, Scalar.select]

/-- The body's block at an index. -/
theorem block_apply (i : grid0.Coords) (cur : FVec Ideal S256x1024 .f32) (pv nx w0 w1 w2 b : FVec Ideal S1x1024 .f32)
    (r : Fin 256) (j : Fin 1024) :
    (k0_pay1 (F := Ideal) cur (k0_pay2 i nx) (k0_pay3 i cur pv) k0_pay4 255#32 w0 w1 w2 b (ix3 0 r j) : EReal)
      = tap (w0 (ix2 0 j)) (w1 (ix2 0 j)) (w2 (ix2 0 j)) (b (ix2 0 j))
          (Scalar.select (IntOp.cmpi .eq (BitVec.ofNat 32 r.val) 0#32)
            (Scalar.select (blockMask (BitVec.ofNat 32 (i 0).val) 0#32) 0 (pv (ix2 0 j)))
            (cur (ix2 ⟨(r.val + 256 - 1) % 256, Nat.mod_lt _ (by omega)⟩ j)))
          (cur (ix2 r j))
          (Scalar.select (IntOp.cmpi .eq (BitVec.ofNat 32 r.val) 255#32)
            (Scalar.select (blockMask (BitVec.ofNat 32 (i 0).val) 15#32) 0 (nx (ix2 0 j)))
            (cur (ix2 ⟨(r.val + 256 - 255) % 256, Nat.mod_lt _ (by omega)⟩ j))) := by
  pointwise [k0_pay1, k0_pay2, k0_pay3, k0_pay4, tap, silu, blockMask, Ideal.logistic]

/-- The image and the place in its stream of the grid's block `i`. -/
def img (i : ℕ) : ℕ := if i < 4 then i else (i - 4) / 16
def place (i : ℕ) : ℕ := if i < 4 then 0 else 1 + (i - 4) % 16

/-- The rows of a block and the rows beside them are the projection's rows in order, but at the ends of a stream. -/
theorem src_self (i r : ℕ) (h : i < 68) (hr : r < 256) : src (img i) (place i * 256 + r) = i * 256 + r := by
  unfold src img place
  split_ifs <;> omega
theorem start_iff (i r : ℕ) (h : i < 68) (hr : r < 256) :
    (place i * 256 + r = 0 ∨ place i * 256 + r = 256) ↔ r = 0 ∧ (i < 4 ∨ (i - 4) % 16 = 0) := by
  unfold place
  split_ifs <;> omega
theorem end_iff (i r : ℕ) (h : i < 68) (hr : r < 256) :
    (place i * 256 + r = 255 ∨ place i * 256 + r = 4351) ↔ r = 255 ∧ (i < 4 ∨ (i - 4) % 16 = 15) := by
  unfold place
  split_ifs <;> omega
theorem src_before (i r : ℕ) (h : i < 68) (hr : r < 256) (hn : ¬(r = 0 ∧ (i < 4 ∨ (i - 4) % 16 = 0))) :
    src (img i) (place i * 256 + r - 1) = i * 256 + r - 1 := by
  unfold src img place
  split_ifs <;> omega
theorem src_after (i r : ℕ) (h : i < 68) (hr : r < 256) (hn : ¬(r = 255 ∧ (i < 4 ∨ (i - 4) % 16 = 15))) :
    src (img i) (place i * 256 + r + 1) = i * 256 + r + 1 := by
  unfold src img place
  split_ifs <;> omega

/-- The blocks: 256 rows, the eight rows before and after them, the weights and the bias of the columns. -/
theorem idx_rows : ∀ t : Fin cfg0.N, win0_0.index t = ![(grid0.coords t 0).val, 9 + (grid0.coords t 1).val] :=
  (by decide +kernel : ∀ t : Fin grid0.N, _)
theorem idx_prev : ∀ t : Fin cfg0.N, win0_1.index t = ![(grid0.coords t 0).val * 32 - 1, 9 + (grid0.coords t 1).val] :=
  (by decide +kernel : ∀ t : Fin grid0.N, _)
theorem idx_next : ∀ t : Fin cfg0.N, win0_2.index t = ![min (((grid0.coords t 0).val + 1) * 32) 2175, 9 + (grid0.coords t 1).val] :=
  (by decide +kernel : ∀ t : Fin grid0.N, _)
theorem idx_weights : ∀ t : Fin cfg0.N, win0_3.index t = ![0, (grid0.coords t 1).val] :=
  (by decide +kernel : ∀ t : Fin grid0.N, _)
theorem idx_bias : ∀ t : Fin cfg0.N, win0_4.index t = ![0, (grid0.coords t 1).val] :=
  (by decide +kernel : ∀ t : Fin grid0.N, _)
theorem idx_out : ∀ t : Fin cfg0.N, win0_5.index t
    = ![img (grid0.coords t 0).val, place (grid0.coords t 0).val, (grid0.coords t 1).val] :=
  (by decide +kernel : ∀ t : Fin grid0.N, _)
theorem coords_lt : ∀ t : Fin cfg0.N, (grid0.coords t 0).val < 68 ∧ (grid0.coords t 1).val < 4 :=
  (by decide +kernel : ∀ t : Fin grid0.N, _)

/-- The bias row the call reads is the vector of biases. -/
theorem V_bias (c : Dev nD) (l : Fin 4096) :
    V m c main_v0 (ix2 0 l) = m ((c : Thread nD τ).loc main_arg2) (ix1 l) := by
  have h : V m c main_v0 = shapeCast S1x4096 (m ((c : Thread nD τ).loc main_arg2)) shapeCasts_S4096_S1x4096 := by
    show StableHlo.after hostOps0 _ (Proc.devRef .tc main_v0) = _
    after_results
    rfl
  rw [h]
  exact (shapeCast_addUnit_apply ![4096] _ _ _).trans (congrArg _ (funext fun a => by fin_cases a; rfl))

/-- The rows of a block, of the eight before and of the eight after, as entries of the projection. -/
theorem rows_apply (c : Dev nD) (t : Fin cfg0.N) (r : Fin 256) (j : Fin 1024) :
    (X0_0 m c t (ix2 r j) : EReal) = entry (m ((c : Thread nD τ).loc main_arg0)) ((grid0.coords t 0).val * 256 + r.val)
      (9216 + ((grid0.coords t 1).val * 1024 + j.val)) := by
  have e := idx_rows t
  obtain ⟨h0, h1⟩ := coords_lt t
  rw [← entry_eq _ _ _ (by omega) (by omega)]
  unfold X0_0 Pipeline.Window.fill
  rw [dif_pos (moved0_0 t (ix2 r j))]
  blk_simp [iblk]
  rw [V_main_arg0]
  congr 1
  blk_ext [e]
theorem prev_apply (c : Dev nD) (t : Fin cfg0.N) (h : (grid0.coords t 0).val ≠ 0) (j : Fin 1024) :
    (X0_1 m c t (ix2 7 j) : EReal) = entry (m ((c : Thread nD τ).loc main_arg0)) ((grid0.coords t 0).val * 256 - 1)
      (9216 + ((grid0.coords t 1).val * 1024 + j.val)) := by
  have e := idx_prev t
  obtain ⟨h0, h1⟩ := coords_lt t
  rw [← entry_eq _ _ _ (by omega) (by omega)]
  unfold X0_1 Pipeline.Window.fill
  rw [dif_pos (moved0_1 t (ix2 7 j))]
  blk_simp [iblk]
  rw [V_main_arg0]
  congr 1
  blk_ext [e]
theorem next_apply (c : Dev nD) (t : Fin cfg0.N) (h : (grid0.coords t 0).val ≠ 67) (j : Fin 1024) :
    (X0_2 m c t (ix2 0 j) : EReal) = entry (m ((c : Thread nD τ).loc main_arg0)) (((grid0.coords t 0).val + 1) * 256)
      (9216 + ((grid0.coords t 1).val * 1024 + j.val)) := by
  have e := idx_next t
  obtain ⟨h0, h1⟩ := coords_lt t
  rw [Nat.min_eq_left (by omega)] at e
  rw [← entry_eq _ _ _ (by omega) (by omega)]
  unfold X0_2 Pipeline.Window.fill
  rw [dif_pos (moved0_2 t (ix2 0 j))]
  blk_simp [iblk]
  rw [V_main_arg0]
  congr 1
  blk_ext [e]

/-- The neighbours of a block's row, as the body reads them. -/
theorem before_apply (c : Dev nD) (t : Fin cfg0.N) (r : Fin 256) (j : Fin 1024) (h : (r.val + 256 - 1) % 256 < 256) :
    (if r.val = 0 then
        (if (grid0.coords t 0).val < 4 ∨ ((grid0.coords t 0).val - 4) % 16 = 0 then (0 : EReal)
          else View.ld (X0_1 m c t) (Rect.unit ![7, 0] ![1, 1024] inb_S8x1024_S1x1024_7_0) (ix2 0 j))
      else X0_0 m c t (ix2 ⟨(r.val + 256 - 1) % 256, h⟩ j))
      = if place (grid0.coords t 0).val * 256 + r.val = 0 ∨ place (grid0.coords t 0).val * 256 + r.val = 256 then 0
        else entry (m ((c : Thread nD τ).loc main_arg0)) (src (img (grid0.coords t 0).val) (place (grid0.coords t 0).val * 256 + r.val - 1))
          (9216 + ((grid0.coords t 1).val * 1024 + j.val)) := by
  obtain ⟨h0, h1⟩ := coords_lt t
  have hr := r.isLt
  by_cases hn : r.val = 0 ∧ ((grid0.coords t 0).val < 4 ∨ ((grid0.coords t 0).val - 4) % 16 = 0)
  · rw [if_pos hn.1, if_pos hn.2, if_pos ((start_iff _ _ h0 hr).mpr hn)]
  · rw [if_neg (fun e => hn ((start_iff _ _ h0 hr).mp e)), src_before _ _ h0 hr hn]
    by_cases hr0 : r.val = 0
    · rw [if_pos hr0, if_neg (fun e => hn ⟨hr0, e⟩)]
      refine (View.ld_unit_apply_of _ _ _ _ _ (ix2 7 j) (by intro a; fin_cases a <;> simp)).trans ((prev_apply m c t (by omega) j).trans ?_)
      rw [hr0, Nat.add_zero]
    · rw [if_neg hr0]
      refine (rows_apply m c t _ j).trans (congrArg₂ (entry _) ?_ rfl)
      dsimp only
      omega
theorem after_apply (c : Dev nD) (t : Fin cfg0.N) (r : Fin 256) (j : Fin 1024) (h : (r.val + 256 - 255) % 256 < 256) :
    (if r.val = 255 then
        (if (grid0.coords t 0).val < 4 ∨ ((grid0.coords t 0).val - 4) % 16 = 15 then (0 : EReal)
          else View.ld (X0_2 m c t) (Rect.unit ![0, 0] ![1, 1024] inb_S8x1024_S1x1024_0_0) (ix2 0 j))
      else X0_0 m c t (ix2 ⟨(r.val + 256 - 255) % 256, h⟩ j))
      = if place (grid0.coords t 0).val * 256 + r.val = 255 ∨ place (grid0.coords t 0).val * 256 + r.val = 4351 then 0
        else entry (m ((c : Thread nD τ).loc main_arg0)) (src (img (grid0.coords t 0).val) (place (grid0.coords t 0).val * 256 + r.val + 1))
          (9216 + ((grid0.coords t 1).val * 1024 + j.val)) := by
  obtain ⟨h0, h1⟩ := coords_lt t
  have hr := r.isLt
  by_cases hn : r.val = 255 ∧ ((grid0.coords t 0).val < 4 ∨ ((grid0.coords t 0).val - 4) % 16 = 15)
  · rw [if_pos hn.1, if_pos hn.2, if_pos ((end_iff _ _ h0 hr).mpr hn)]
  · rw [if_neg (fun e => hn ((end_iff _ _ h0 hr).mp e)), src_after _ _ h0 hr hn]
    by_cases hr0 : r.val = 255
    · rw [if_pos hr0, if_neg (fun e => hn ⟨hr0, e⟩)]
      refine (View.ld_unit_apply_of _ _ _ _ _ (ix2 0 j) (by intro a; fin_cases a <;> simp)).trans ((next_apply m c t (by omega) j).trans ?_)
      refine congrArg₂ (entry _) ?_ rfl
      omega
    · rw [if_neg hr0]
      refine (rows_apply m c t _ j).trans (congrArg₂ (entry _) ?_ rfl)
      dsimp only
      omega

/-- What point `t` computes is its block of the convolved streams. -/
theorem point_apply (c : Dev nD) (t : Fin cfg0.N) (r : Fin 256) (j : Fin 1024) :
    (k0_pay1 (F := Ideal) (X0_0 m c t)
      (k0_pay2 (grid0.coords t) (View.ld (X0_2 m c t) (Rect.unit ![0, 0] ![1, 1024] inb_S8x1024_S1x1024_0_0)))
      (k0_pay3 (grid0.coords t) (X0_0 m c t) (View.ld (X0_1 m c t) (Rect.unit ![7, 0] ![1, 1024] inb_S8x1024_S1x1024_7_0)))
      k0_pay4 255#32 (View.ld (iblk m c 3 t) (Rect.unit ![0, 0] ![1, 1024] inb_S3x1024_S1x1024_0_0))
      (View.ld (iblk m c 3 t) (Rect.unit ![1, 0] ![1, 1024] inb_S3x1024_S1x1024_1_0))
      (View.ld (iblk m c 3 t) (Rect.unit ![2, 0] ![1, 1024] inb_S3x1024_S1x1024_2_0)) (iblk m c 4 t) (ix3 0 r j) : EReal)
      = conv (m ((c : Thread nD τ).loc main_arg0)) (m ((c : Thread nD τ).loc main_arg1)) (m ((c : Thread nD τ).loc main_arg2))
          ((win0_5.blk t).view.emb (ix3 0 r j)) := by
  have e3 := idx_weights t
  have e4 := idx_bias t
  have e5 := idx_out t
  obtain ⟨h0, h1⟩ := coords_lt t
  have hr := r.isLt
  have hj := j.isLt
  have hb : ((win0_5.blk t).view.emb (ix3 0 r j) 0).val = img (grid0.coords t 0).val := by
    blk_simp [e5]
    rfl
  have hs : ((win0_5.blk t).view.emb (ix3 0 r j) 1).val
      = place (grid0.coords t 0).val * 256 + r.val := by
    blk_simp [e5]
  have hl : ((win0_5.blk t).view.emb (ix3 0 r j) 2).val = (grid0.coords t 1).val * 1024 + j.val := by
    blk_simp [e5]
  rw [block_apply, top_mask, bottom_mask, first_mask ⟨(grid0.coords t 0).val, h0⟩, last_mask ⟨(grid0.coords t 0).val, h0⟩]
  simp only [select_ite]
  unfold conv
  rw [hb, hs, hl]
  congr 1
  · refine Eq.trans (View.ld_unit_apply_of _ _ _ _ _ (ix2 0 j) (by intro a; fin_cases a <;> simp)) ?_
    blk_simp [iblk]
    rw [V_main_arg1]
    congr 1
    blk_ext [e3, e5]
  · refine Eq.trans (View.ld_unit_apply_of _ _ _ _ _ (ix2 1 j) (by intro a; fin_cases a <;> simp)) ?_
    blk_simp [iblk]
    rw [V_main_arg1]
    congr 1
    blk_ext [e3, e5]
  · refine Eq.trans (View.ld_unit_apply_of _ _ _ _ _ (ix2 2 j) (by intro a; fin_cases a <;> simp)) ?_
    blk_simp [iblk]
    rw [V_main_arg1]
    congr 1
    blk_ext [e3, e5]
  · refine Eq.trans ?_ (V_bias m c _)
    blk_simp [iblk]
    congr 1
    blk_ext [e4, e5]
  · exact before_apply m c t r j _
  · rw [src_self _ _ h0 hr]
    exact rows_apply m c t r j
  · exact after_apply m c t r j _

/-- The result array is the convolved streams. -/
theorem result_eq (c : Dev nD) : (dats m 0 c).arrAt 5 cfg0.N
    = conv (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  unfold outsAt0
  frame_out
  obtain ⟨r, j, rfl⟩ : ∃ (r : Fin 256) (j : Fin 1024), y = ix3 0 r j := ⟨y 1, y 2, by idx_ext⟩
  exact point_apply m c t r j

end Cert.ConvIdeal.Conv

namespace Cert.ConvIdeal.Conv

open Idealize.ShloMosaic Idealize.ShloMosaic.TcCoe Idealize.SL.Sem

section Reference

open Cert.ConvRefIdeal Cert.ConvRefIdeal.Gen

/-- The zero that fills the missing neighbour. -/
theorem fill_zero : (FloatOps.sitofp (F := Ideal) FTy.f32 0#32 : EReal) = 0 := by
  show (((0#32 : BitVec 32).toInt : ℝ) : EReal) = 0
  norm_num

/-- A neighbour where there is one and zero elsewhere, said both ways round. -/
theorem swap_ite {c c' : Prop} [Decidable c] [Decidable c'] {x y : EReal} (h : c ↔ ¬c') (e : c → x = y) :
    (if c then x else 0) = if c' then 0 else y := by
  by_cases hc : c
  · rw [if_pos hc, if_neg (h.mp hc), e hc]
  · rw [if_neg hc, if_pos (not_not.mp fun hn => hc (h.mpr hn))]

/-- The reference's result is the convolved streams. -/
theorem reference_eq (p : FVec Ideal S17408x13824 .f32) (w : FVec Ideal S3x4096 .f32) (b : FVec Ideal S4096 .f32) :
    (concatenate S4x4352x4096 1 [⟨S4x256x4096, (mulf (addf (addf (addf (mulf (broadcastInDim S4x256x4096 ![0, 1, 2] bcast_S1x1x4096_S4x256x4096_0_1_2 (broadcastInDim S1x1x4096 ![2] bcast_S4096_S1x1x4096_2 (shapeCast _ (extractStridedSlice S1x4096 ![0, 0] w slices_S3x4096_S1x4096_0_0) shapeCasts_S1x4096_S4096))) (pad S4x256x4096 ![0, 1, 0] ![0, 0, 0] ![0, 0, 0] (extractStridedSlice S4x255x4096 ![0, 0, 0] (shapeCast _ (extractStridedSlice S1024x4096 ![0, 0] (extractStridedSlice S17408x4096 ![0, 9216] p slices_S17408x13824_S17408x4096_0_9216) slices_S17408x4096_S1024x4096_0_0) shapeCasts_S1024x4096_S4x256x4096) slices_S4x256x4096_S4x255x4096_0_0_0) (sitofp .f32 (constantI S_ 32 0#32)) pads_S4x255x4096_S4x256x4096_000_100_000 h_S_)) (mulf (broadcastInDim S4x256x4096 ![0, 1, 2] bcast_S1x1x4096_S4x256x4096_0_1_2 (broadcastInDim S1x1x4096 ![2] bcast_S4096_S1x1x4096_2 (shapeCast _ (extractStridedSlice S1x4096 ![1, 0] w slices_S3x4096_S1x4096_1_0) shapeCasts_S1x4096_S4096))) (shapeCast _ (extractStridedSlice S1024x4096 ![0, 0] (extractStridedSlice S17408x4096 ![0, 9216] p slices_S17408x13824_S17408x4096_0_9216) slices_S17408x4096_S1024x4096_0_0) shapeCasts_S1024x4096_S4x256x4096))) (mulf (broadcastInDim S4x256x4096 ![0, 1, 2] bcast_S1x1x4096_S4x256x4096_0_1_2 (broadcastInDim S1x1x4096 ![2] bcast_S4096_S1x1x4096_2 (shapeCast _ (extractStridedSlice S1x4096 ![2, 0] w slices_S3x4096_S1x4096_2_0) shapeCasts_S1x4096_S4096))) (pad S4x256x4096 ![0, 0, 0] ![0, 1, 0] ![0, 0, 0] (extractStridedSlice S4x255x4096 ![0, 1, 0] (shapeCast _ (extractStridedSlice S1024x4096 ![0, 0] (extractStridedSlice S17408x4096 ![0, 9216] p slices_S17408x13824_S17408x4096_0_9216) slices_S17408x4096_S1024x4096_0_0) shapeCasts_S1024x4096_S4x256x4096) slices_S4x256x4096_S4x255x4096_0_1_0) (sitofp .f32 (constantI S_ 32 0#32)) pads_S4x255x4096_S4x256x4096_000_010_000 h_S_))) (broadcastInDim S4x256x4096 ![0, 1, 2] bcast_S1x1x4096_S4x256x4096_0_1_2 (broadcastInDim S1x1x4096 ![2] bcast_S4096_S1x1x4096_2 b))) (Host.divf (broadcastInDim S4x256x4096 ![] bcast_S_S4x256x4096 (constant S_ .f32 0x3F800000#32)) (addf (broadcastInDim S4x256x4096 ![] bcast_S_S4x256x4096 (constant S_ .f32 0x3F800000#32)) (Host.exp (Host.negf (addf (addf (addf (mulf (broadcastInDim S4x256x4096 ![0, 1, 2] bcast_S1x1x4096_S4x256x4096_0_1_2 (broadcastInDim S1x1x4096 ![2] bcast_S4096_S1x1x4096_2 (shapeCast _ (extractStridedSlice S1x4096 ![0, 0] w slices_S3x4096_S1x4096_0_0) shapeCasts_S1x4096_S4096))) (pad S4x256x4096 ![0, 1, 0] ![0, 0, 0] ![0, 0, 0] (extractStridedSlice S4x255x4096 ![0, 0, 0] (shapeCast _ (extractStridedSlice S1024x4096 ![0, 0] (extractStridedSlice S17408x4096 ![0, 9216] p slices_S17408x13824_S17408x4096_0_9216) slices_S17408x4096_S1024x4096_0_0) shapeCasts_S1024x4096_S4x256x4096) slices_S4x256x4096_S4x255x4096_0_0_0) (sitofp .f32 (constantI S_ 32 0#32)) pads_S4x255x4096_S4x256x4096_000_100_000 h_S_)) (mulf (broadcastInDim S4x256x4096 ![0, 1, 2] bcast_S1x1x4096_S4x256x4096_0_1_2 (broadcastInDim S1x1x4096 ![2] bcast_S4096_S1x1x4096_2 (shapeCast _ (extractStridedSlice S1x4096 ![1, 0] w slices_S3x4096_S1x4096_1_0) shapeCasts_S1x4096_S4096))) (shapeCast _ (extractStridedSlice S1024x4096 ![0, 0] (extractStridedSlice S17408x4096 ![0, 9216] p slices_S17408x13824_S17408x4096_0_9216) slices_S17408x4096_S1024x4096_0_0) shapeCasts_S1024x4096_S4x256x4096))) (mulf (broadcastInDim S4x256x4096 ![0, 1, 2] bcast_S1x1x4096_S4x256x4096_0_1_2 (broadcastInDim S1x1x4096 ![2] bcast_S4096_S1x1x4096_2 (shapeCast _ (extractStridedSlice S1x4096 ![2, 0] w slices_S3x4096_S1x4096_2_0) shapeCasts_S1x4096_S4096))) (pad S4x256x4096 ![0, 0, 0] ![0, 1, 0] ![0, 0, 0] (extractStridedSlice S4x255x4096 ![0, 1, 0] (shapeCast _ (extractStridedSlice S1024x4096 ![0, 0] (extractStridedSlice S17408x4096 ![0, 9216] p slices_S17408x13824_S17408x4096_0_9216) slices_S17408x4096_S1024x4096_0_0) shapeCasts_S1024x4096_S4x256x4096) slices_S4x256x4096_S4x255x4096_0_1_0) (sitofp .f32 (constantI S_ 32 0#32)) pads_S4x255x4096_S4x256x4096_000_010_000 h_S_))) (broadcastInDim S4x256x4096 ![0, 1, 2] bcast_S1x1x4096_S4x256x4096_0_1_2 (broadcastInDim S1x1x4096 ![2] bcast_S4096_S1x1x4096_2 b))))))))⟩, ⟨S4x4096x4096, (mulf (addf (addf (addf (mulf (broadcastInDim S4x4096x4096 ![0, 1, 2] bcast_S1x1x4096_S4x4096x4096_0_1_2 (broadcastInDim S1x1x4096 ![2] bcast_S4096_S1x1x4096_2 (shapeCast _ (extractStridedSlice S1x4096 ![0, 0] w slices_S3x4096_S1x4096_0_0) shapeCasts_S1x4096_S4096))) (pad S4x4096x4096 ![0, 1, 0] ![0, 0, 0] ![0, 0, 0] (extractStridedSlice S4x4095x4096 ![0, 0, 0] (shapeCast _ (extractStridedSlice S16384x4096 ![1024, 0] (extractStridedSlice S17408x4096 ![0, 9216] p slices_S17408x13824_S17408x4096_0_9216) slices_S17408x4096_S16384x4096_1024_0) shapeCasts_S16384x4096_S4x4096x4096) slices_S4x4096x4096_S4x4095x4096_0_0_0) (sitofp .f32 (constantI S_ 32 0#32)) pads_S4x4095x4096_S4x4096x4096_000_100_000 h_S_)) (mulf (broadcastInDim S4x4096x4096 ![0, 1, 2] bcast_S1x1x4096_S4x4096x4096_0_1_2 (broadcastInDim S1x1x4096 ![2] bcast_S4096_S1x1x4096_2 (shapeCast _ (extractStridedSlice S1x4096 ![1, 0] w slices_S3x4096_S1x4096_1_0) shapeCasts_S1x4096_S4096))) (shapeCast _ (extractStridedSlice S16384x4096 ![1024, 0] (extractStridedSlice S17408x4096 ![0, 9216] p slices_S17408x13824_S17408x4096_0_9216) slices_S17408x4096_S16384x4096_1024_0) shapeCasts_S16384x4096_S4x4096x4096))) (mulf (broadcastInDim S4x4096x4096 ![0, 1, 2] bcast_S1x1x4096_S4x4096x4096_0_1_2 (broadcastInDim S1x1x4096 ![2] bcast_S4096_S1x1x4096_2 (shapeCast _ (extractStridedSlice S1x4096 ![2, 0] w slices_S3x4096_S1x4096_2_0) shapeCasts_S1x4096_S4096))) (pad S4x4096x4096 ![0, 0, 0] ![0, 1, 0] ![0, 0, 0] (extractStridedSlice S4x4095x4096 ![0, 1, 0] (shapeCast _ (extractStridedSlice S16384x4096 ![1024, 0] (extractStridedSlice S17408x4096 ![0, 9216] p slices_S17408x13824_S17408x4096_0_9216) slices_S17408x4096_S16384x4096_1024_0) shapeCasts_S16384x4096_S4x4096x4096) slices_S4x4096x4096_S4x4095x4096_0_1_0) (sitofp .f32 (constantI S_ 32 0#32)) pads_S4x4095x4096_S4x4096x4096_000_010_000 h_S_))) (broadcastInDim S4x4096x4096 ![0, 1, 2] bcast_S1x1x4096_S4x4096x4096_0_1_2 (broadcastInDim S1x1x4096 ![2] bcast_S4096_S1x1x4096_2 b))) (Host.divf (broadcastInDim S4x4096x4096 ![] bcast_S_S4x4096x4096 (constant S_ .f32 0x3F800000#32)) (addf (broadcastInDim S4x4096x4096 ![] bcast_S_S4x4096x4096 (constant S_ .f32 0x3F800000#32)) (Host.exp (Host.negf (addf (addf (addf (mulf (broadcastInDim S4x4096x4096 ![0, 1, 2] bcast_S1x1x4096_S4x4096x4096_0_1_2 (broadcastInDim S1x1x4096 ![2] bcast_S4096_S1x1x4096_2 (shapeCast _ (extractStridedSlice S1x4096 ![0, 0] w slices_S3x4096_S1x4096_0_0) shapeCasts_S1x4096_S4096))) (pad S4x4096x4096 ![0, 1, 0] ![0, 0, 0] ![0, 0, 0] (extractStridedSlice S4x4095x4096 ![0, 0, 0] (shapeCast _ (extractStridedSlice S16384x4096 ![1024, 0] (extractStridedSlice S17408x4096 ![0, 9216] p slices_S17408x13824_S17408x4096_0_9216) slices_S17408x4096_S16384x4096_1024_0) shapeCasts_S16384x4096_S4x4096x4096) slices_S4x4096x4096_S4x4095x4096_0_0_0) (sitofp .f32 (constantI S_ 32 0#32)) pads_S4x4095x4096_S4x4096x4096_000_100_000 h_S_)) (mulf (broadcastInDim S4x4096x4096 ![0, 1, 2] bcast_S1x1x4096_S4x4096x4096_0_1_2 (broadcastInDim S1x1x4096 ![2] bcast_S4096_S1x1x4096_2 (shapeCast _ (extractStridedSlice S1x4096 ![1, 0] w slices_S3x4096_S1x4096_1_0) shapeCasts_S1x4096_S4096))) (shapeCast _ (extractStridedSlice S16384x4096 ![1024, 0] (extractStridedSlice S17408x4096 ![0, 9216] p slices_S17408x13824_S17408x4096_0_9216) slices_S17408x4096_S16384x4096_1024_0) shapeCasts_S16384x4096_S4x4096x4096))) (mulf (broadcastInDim S4x4096x4096 ![0, 1, 2] bcast_S1x1x4096_S4x4096x4096_0_1_2 (broadcastInDim S1x1x4096 ![2] bcast_S4096_S1x1x4096_2 (shapeCast _ (extractStridedSlice S1x4096 ![2, 0] w slices_S3x4096_S1x4096_2_0) shapeCasts_S1x4096_S4096))) (pad S4x4096x4096 ![0, 0, 0] ![0, 1, 0] ![0, 0, 0] (extractStridedSlice S4x4095x4096 ![0, 1, 0] (shapeCast _ (extractStridedSlice S16384x4096 ![1024, 0] (extractStridedSlice S17408x4096 ![0, 9216] p slices_S17408x13824_S17408x4096_0_9216) slices_S17408x4096_S16384x4096_1024_0) shapeCasts_S16384x4096_S4x4096x4096) slices_S4x4096x4096_S4x4095x4096_0_1_0) (sitofp .f32 (constantI S_ 32 0#32)) pads_S4x4095x4096_S4x4096x4096_000_010_000 h_S_))) (broadcastInDim S4x4096x4096 ![0, 1, 2] bcast_S1x1x4096_S4x4096x4096_0_1_2 (broadcastInDim S1x1x4096 ![2] bcast_S4096_S1x1x4096_2 b))))))))⟩] concatenates_S4x256x4096_S4x4096x4096_S4x4352x4096_d1 : FVec Ideal S4x4352x4096 .f32)
      = conv p w b := by
  funext i
  obtain ⟨q, s, l, rfl⟩ : ∃ (q : Fin 4) (s : Fin 4352) (l : Fin 4096), i = ix3 q s l := ⟨i 0, i 1, i 2, by idx_ext⟩
  pointwise
  simp only [entry_eq, fill_zero, dite_eq_ite]
  have hs := s.isLt
  unfold conv tap
  dsimp only [ix3]
  by_cases h : s.val < 256
  · rw [if_pos h]
    refine congrArg silu (congrArg₂ (· + ·) (congrArg₂ (· + ·) (congrArg₂ (· + ·) (congrArg (w (ix2 0 l) * ·) (swap_ite (by omega) fun hc => ?_))
      (congrArg (w (ix2 1 l) * ·) ?_)) (congrArg (w (ix2 2 l) * ·) (swap_ite (by omega) fun hc => ?_))) rfl)
      <;> refine congrArg₂ (entry p) ?_ rfl <;> unfold src <;> split_ifs <;> omega
  · rw [if_neg h]
    refine congrArg silu (congrArg₂ (· + ·) (congrArg₂ (· + ·) (congrArg₂ (· + ·) (congrArg (w (ix2 0 l) * ·) (swap_ite (by omega) fun hc => ?_))
      (congrArg (w (ix2 1 l) * ·) ?_)) (congrArg (w (ix2 2 l) * ·) (swap_ite (by omega) fun hc => ?_))) rfl)
      <;> refine congrArg₂ (entry p) ?_ rfl <;> unfold src <;> split_ifs <;> omega

end Reference

/-- The kernel and the reference end with the same array. -/
theorem algebraic : Cert.algebraic_ConvIdeal_ConvRefIdeal := by
  intro m g m' g' _ hagree
  refine ⟨fun c => conv (m ((c.tc : Thread _ _).loc Cert.ConvIdeal.main_arg0)) (m ((c.tc : Thread _ _).loc Cert.ConvIdeal.main_arg1))
    (m ((c.tc : Thread _ _).loc Cert.ConvIdeal.main_arg2)), ?_, ?_⟩
  · refine (θ_run _ _ _).mono (fun r h c => ?_) (Cert.ConvIdeal.Value.run_blocks m g)
    exact ⟨(h c).1.trans (result_eq m c), (h c).2⟩
  · refine (θ_run _ _ _).mono (fun r h c => ?_) (Cert.ConvRefIdeal.Value.run m' g')
    refine ⟨(h c).1.trans ?_, (h c).2⟩
    unfold Cert.ConvRefIdeal.Value.res_main_v55
    rw [(hagree c).1, (hagree c).2.1, (hagree c).2.2]
    exact reference_eq _ _ _

end Cert.ConvIdeal.Conv

end
-- ==== Proof.FinishValue.lean ====
/-
  The last lines of the two mixers at the extended reals. The RWKV half: the sum of the two directions, each head of 64
  entries brought to mean zero and variance one, with gains, offsets, the bonus and the gate. The SSD half: the sum of
  the two directions and the skipped input, gated, each group of 256 entries divided by its root mean square. The body
  takes its sums over heads and groups by products with matrices of ones, of a number rounded and of the rest.
-/
module

public import proofs.«01_k».proof.Defs
public import proofs.«01_k».proof.Proof.Gen.Pre_finite_heads
public import proofs.«01_k».proof.Proof.Gen.FinishIdeal.Value
public import proofs.«01_k».proof.Proof.Gen.FinishRefIdeal.Run
public import Idealize.ShloMosaic.Lib.Pipeline.ValueKit
public import Idealize.ShloMosaic.Lib.Pointwise
public import Idealize.ShloMosaic.Lib.ReduceAll
public import Idealize.ShloMosaic.Lib.KernelVsHost

@[expose] public section

set_option maxRecDepth 16384

noncomputable section

namespace Cert.FinishIdeal.Heads

open Cert.FinishIdeal Cert.FinishIdeal.Gen Idealize.ShloMosaic Idealize.ShloMosaic.TcCoe Idealize.SL.Sem
open Idealize.ShloMosaic.Pipeline (Dat)

/-! ## Real numbers among the extended ones -/

/-- A value that is a real number. -/
def IsReal (x : EReal) : Prop := ∃ a : ℝ, x = (a : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.sub {x y : EReal} (hx : IsReal x) (hy : IsReal y) : IsReal (x - y) := by
  obtain ⟨a, rfl⟩ := hx
  obtain ⟨b, rfl⟩ := hy
  exact ⟨a - b, (EReal.coe_sub a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem coe_sum {n : ℕ} (f : Fin n → ℝ) : (∑ i, ((f i : ℝ) : EReal)) = ((∑ i, f i : ℝ) : EReal) :=
  (map_sum (⟨⟨Real.toEReal, EReal.coe_zero⟩, EReal.coe_add⟩ : ℝ →+ EReal) f Finset.univ).symm
theorem IsReal.sum {n : ℕ} {f : Fin n → EReal} (h : ∀ k, IsReal (f k)) : IsReal (∑ k, f k) := by
  choose g hg using h
  refine ⟨∑ k, g k, ?_⟩
  rw [← coe_sum]
  exact Finset.sum_congr rfl fun k _ => hg k

/-- A real number less itself. -/
theorem IsReal.sub_self {x : EReal} (hx : IsReal x) : x - x = 0 := by
  obtain ⟨a, rfl⟩ := hx
  rw [← EReal.coe_sub, _root_.sub_self, EReal.coe_zero]

/-- Dividing by a real number that is not zero is multiplying by its inverse. -/
theorem div_eq_mul (x : EReal) (c d : ℝ) (hc : c ≠ 0) (hd : c⁻¹ = d) : Ideal.div x (c : EReal) = x * (d : EReal) := by
  unfold Ideal.div
  rw [if_neg (fun e => hc (EReal.coe_eq_zero.1 e)), ← EReal.coe_inv, hd]

/-- The numbers 64 and 256 and their inverses, as the programs write them. -/
theorem bits_64 : Ideal.ofBits .f32 0x42800000#32 = ((64 : ℝ) : EReal) := by
  simp [Ideal.ofBits, Ideal.ieee]
  rw [← EReal.coe_mul]
  norm_num
theorem bits_inv64 : Ideal.ofBits .f32 0x3C800000#32 = ((1 / 64 : ℝ) : EReal) := by
  simp [Ideal.ofBits, Ideal.ieee]
  rw [← EReal.coe_mul]
  norm_num
theorem bits_256 : Ideal.ofBits .f32 0x43800000#32 = ((256 : ℝ) : EReal) := by
  simp [Ideal.ofBits, Ideal.ieee]
  rw [← EReal.coe_mul]
  norm_num
theorem bits_inv256 : Ideal.ofBits .f32 0x3B800000#32 = ((1 / 256 : ℝ) : EReal) := by
  simp [Ideal.ofBits, Ideal.ieee]
  rw [← EReal.coe_mul]
  norm_num

theorem mul_inv64 (x : EReal) : x * Ideal.ofBits .f32 0x3C800000#32 = Ideal.div x (Ideal.ofBits .f32 0x42800000#32) := by
  rw [bits_64, bits_inv64, div_eq_mul x 64 (1 / 64) (by norm_num) (by norm_num)]
theorem mul_inv256 (x : EReal) : x * Ideal.ofBits .f32 0x3B800000#32 = Ideal.div x (Ideal.ofBits .f32 0x43800000#32) := by
  rw [bits_256, bits_inv256, div_eq_mul x 256 (1 / 256) (by norm_num) (by norm_num)]

/-- The logistic of a real number is one. -/
theorem IsReal.logistic {x : EReal} (hx : IsReal x) : IsReal (Ideal.div 1 (1 + Ideal.exp (-x))) := by
  obtain ⟨a, rfl⟩ := hx
  have e : (1 : EReal) + Ideal.exp (-(a : EReal)) = ((1 + Real.exp (-a) : ℝ) : EReal) := by
    rw [← EReal.coe_neg]
    show (1 : EReal) + ((Real.exp (-a) : ℝ) : EReal) = _
    rw [EReal.coe_add, EReal.coe_one]
  rw [e, div_eq_mul 1 (1 + Real.exp (-a)) _ (by positivity) rfl, one_mul]
  exact ⟨_, rfl⟩

/-! ## What the two halves compute -/

/-- The mean of a head. -/
def mean (h : Fin 64 → EReal) : EReal := Ideal.div (∑ k, h k) (Ideal.ofBits .f32 0x42800000#32)

/-- An entry `x` of a head `h`, less the mean, over the root of the variance. -/
def normed (h : Fin 64 → EReal) (x : EReal) : EReal :=
  (x - mean h)
    * Ideal.rsqrt (Ideal.div (∑ k, (h k - mean h) * (h k - mean h)) (Ideal.ofBits .f32 0x42800000#32) + Ideal.ofBits .f32 0x3A27C5AC#32)

/-- An entry of the SSD half before its normalisation: the two directions, the skipped input, the gate. -/
def gated (f b d x z : EReal) : EReal := (f + b + d * x) * (z * Ideal.div 1 (1 + Ideal.exp (-z)))

/-- An entry `x` of a group `h`, over the group's root mean square. -/
def scaled (h : Fin 256 → EReal) (x : EReal) : EReal :=
  x * Ideal.rsqrt (Ideal.div (∑ k, h k * h k) (Ideal.ofBits .f32 0x43800000#32) + Ideal.ofBits .f32 0x358637BD#32)

theorem gated_real {f b d x z : EReal} (hf : IsReal f) (hb : IsReal b) (hd : IsReal d) (hx : IsReal x) (hz : IsReal z) :
    IsReal (gated f b d x z) :=
  ((hf.add hb).add (hd.mul hx)).mul (hz.mul hz.logistic)

/-! ## The body's sums -/

/-- The sums of a tile's rows against a matrix of ones: of the rounded numbers and of what the rounding left. -/
def onesSum (a : FVec Ideal S256x128 .f32) (w : FVec Ideal S128x128 .bf16) : FVec Ideal S256x128 .f32 :=
  addf
    (matmul dot_S256x128_S128x128_S256x128_1_0_0_1_n_n none (truncf .bf16 a bitsLt_bf16_f32) w
      (constant S256x128 .f32 0x00000000#32))
    (matmul dot_S256x128_S128x128_S256x128_1_0_0_1_n_n none
      (truncf .bf16 (subf a (extf .f32 (truncf .bf16 a bitsLt_bf16_f32) bitsLt_bf16_f32)) bitsLt_bf16_f32) w
      (constant S256x128 .f32 0x00000000#32))

/-- The rounding leaves nothing of a real number. -/
theorem onesSum_apply (a : FVec Ideal S256x128 .f32) (w : FVec Ideal S128x128 .bf16) (r : Fin 256) (j : Fin 128)
    (ha : ∀ k, IsReal (a (ix2 r k))) :
    (onesSum a w (ix2 r j) : EReal) = ∑ k : Fin 128, (a (ix2 r k) : EReal) * w (ix2 k j) := by
  have e : (onesSum a w (ix2 r j) : EReal)
      = (∑ k : Fin 128, (a (ix2 r k) : EReal) * w (ix2 k j)) + ∑ k : Fin 128, ((a (ix2 r k) : EReal) - a (ix2 r k)) * w (ix2 k j) := by
    pointwise [onesSum]
  rw [e, Finset.sum_eq_zero (s := Finset.univ) (f := fun k : Fin 128 => ((a (ix2 r k) : EReal) - a (ix2 r k)) * w (ix2 k j))
    (fun k _ => by rw [(ha k).sub_self, zero_mul]), add_zero]

/-- The number of a lane's head, as the body counts it. -/
def headOf (k : BitVec 32) : BitVec 32 :=
  Scalar.select
    (IntOp.andi
      (IntOp.cmpi .ne
        (IntOp.subi (BitVec.setWidth 32 (IntOp.cmpi .sgt k 0#32)) (BitVec.setWidth 32 (IntOp.cmpi .slt k 0#32)))
        (Scalar.subi (Scalar.extui (Scalar.cmpi .sgt 64#32 0#32)) (Scalar.extui (Scalar.cmpi .slt 64#32 0#32))))
      (IntOp.cmpi .ne (IntOp.remsi .vector k 64#32) 0#32))
    (IntOp.subi (IntOp.divsi .vector k 64#32) 1#32)
    (IntOp.divsi .vector k 64#32)

theorem headOf_eq : ∀ k : Fin 128, headOf (BitVec.ofNat 32 k.val) = BitVec.ofNat 32 (k.val / 64) := by
  decide +kernel
theorem sameHead : ∀ p q : Fin 2,
    IntOp.cmpi .eq (BitVec.ofNat 32 p.val) (BitVec.ofNat 32 q.val) = if p.val = q.val then 1#1 else 0#1 := by
  decide +kernel

/-- The matrix with ones where two lanes lie in the same head. -/
def headOnes : FVec Ideal S128x128 .bf16 :=
  k0_pay7 (F := Ideal) k0_pay3 (iota .tc S128x128 32 [1] iota_S128x128_d1_w32) 64#32 k0_pay4 k0_pay5 k0_pay6

theorem headOnes_apply (k j : Fin 128) : (headOnes (ix2 k j) : EReal) = if k.val / 64 = j.val / 64 then 1 else 0 := by
  have e : (headOnes (ix2 k j) : EReal)
      = Scalar.select (IntOp.cmpi .eq (headOf (BitVec.ofNat 32 k.val)) (headOf (BitVec.ofNat 32 j.val))) 1 0 := by
    pointwise [headOnes, k0_pay7, k0_pay3, k0_pay4, k0_pay5, k0_pay6, headOf]
  have s := sameHead ⟨k.val / 64, by omega⟩ ⟨j.val / 64, by omega⟩
  dsimp only at s
  rw [e, headOf_eq, headOf_eq, s]
  by_cases h : k.val / 64 = j.val / 64 <;> simp [h, Scalar.select]

/-- A sum over a tile's lanes with ones at one head is the sum over the head. -/
theorem sum_head (f : Fin 128 → EReal) (j : Fin 128) :
    ∑ k : Fin 128, f k * (if k.val / 64 = j.val / 64 then 1 else 0) = ∑ k : Fin 64, f ⟨j.val / 64 * 64 + k.val, by omega⟩ := by
  rw [show (∑ k : Fin 128, f k * (if k.val / 64 = j.val / 64 then (1 : EReal) else 0))
      = ∑ k : Fin (64 + 64), f k * (if k.val / 64 = j.val / 64 then (1 : EReal) else 0) from rfl, Fin.sum_univ_add]
  have h0 : ∀ k : Fin 64, (Fin.castAdd 64 k).val / 64 = 0 := fun k => by simp
  have h1 : ∀ k : Fin 64, (Fin.natAdd 64 k).val / 64 = 1 := fun k => by simp
  simp only [h0, h1]
  obtain h | h : j.val / 64 = 0 ∨ j.val / 64 = 1 := by omega
  · simp only [h, if_true, zero_ne_one.symm, if_false, mul_one, mul_zero, Finset.sum_const_zero, add_zero]
    exact Finset.sum_congr rfl fun k _ => congrArg f (Fin.ext (by simp))
  · simp only [h, if_true, zero_ne_one, if_false, mul_one, mul_zero, Finset.sum_const_zero, zero_add]
    exact Finset.sum_congr rfl fun k _ => congrArg f (Fin.ext (by simp [Nat.add_comm]))

theorem headSum_tile (a : FVec Ideal S256x128 .f32) (r : Fin 256) (j : Fin 128) (ha : ∀ k, IsReal (a (ix2 r k))) :
    (onesSum a headOnes (ix2 r j) : EReal) = ∑ k : Fin 64, (a (ix2 r ⟨j.val / 64 * 64 + k.val, by omega⟩) : EReal) := by
  rw [onesSum_apply a _ r j ha]
  simp only [headOnes_apply]
  exact sum_head (fun k => a (ix2 r k)) j

/-- Four tiles side by side. -/
def four (p0 p1 p2 p3 : FVec Ideal S256x128 .f32) : FVec Ideal S256x512 .f32 :=
  concatenate S256x512 1 [⟨S256x128, p0⟩, ⟨S256x128, p1⟩, ⟨S256x128, p2⟩, ⟨S256x128, p3⟩]
    concatenates_S256x128_S256x128_S256x128_S256x128_S256x512_d1

theorem four_apply (p0 p1 p2 p3 : FVec Ideal S256x128 .f32) (r : Fin 256) (l : Fin 512) :
    (four p0 p1 p2 p3 (ix2 r l) : EReal)
      = if h : l.val < 128 then p0 (ix2 r ⟨l.val, h⟩)
        else if h : l.val - 128 < 128 then p1 (ix2 r ⟨l.val - 128, h⟩)
        else if h : l.val - 128 - 128 < 128 then p2 (ix2 r ⟨l.val - 128 - 128, h⟩)
        else p3 (ix2 r ⟨l.val - 128 - 128 - 128, by omega⟩) := by
  pointwise [four]

/-- The entries of the head that lane `l` of a block's row lies in. -/
def headRow (v : FVec Ideal S256x512 .f32) (r : Fin 256) (l : Fin 512) (k : Fin 64) : EReal :=
  v (ix2 r ⟨l.val / 64 * 64 + k.val, by omega⟩)

/-- The sums over the heads of a block. -/
def headSums (v : FVec Ideal S256x512 .f32) (w : FVec Ideal S128x128 .bf16) : FVec Ideal S256x512 .f32 :=
  four (onesSum (extractStridedSlice S256x128 ![0, 0] v slices_S256x512_o0_0_S256x128) w)
    (onesSum (extractStridedSlice S256x128 ![0, 128] v slices_S256x512_o0_128_S256x128) w)
    (onesSum (extractStridedSlice S256x128 ![0, 256] v slices_S256x512_o0_256_S256x128) w)
    (onesSum (extractStridedSlice S256x128 ![0, 384] v slices_S256x512_o0_384_S256x128) w)

/-- A tile of a block. -/
theorem slice_apply (v : FVec Ideal S256x512 .f32) (o : ℕ) (ho : o + 128 ≤ 512)
    (hs : S256x512.Slices ![0, o] S256x128) (r : Fin 256) (k : Fin 128) :
    (extractStridedSlice S256x128 ![0, o] v hs (ix2 r k) : EReal) = v (ix2 r ⟨o + k.val, by omega⟩) := by
  pointwise []

theorem headSums_apply (v : FVec Ideal S256x512 .f32) (r : Fin 256) (l : Fin 512) (hv : ∀ l, IsReal (v (ix2 r l))) :
    (headSums v headOnes (ix2 r l) : EReal) = ∑ k, headRow v r l k := by
  unfold headSums headRow
  rw [four_apply]
  split_ifs <;>
  · rw [headSum_tile _ _ _ (fun k => by rw [slice_apply v _ (by omega)]; exact hv _)]
    refine Finset.sum_congr rfl fun k _ => ?_
    rw [slice_apply v _ (by omega)]
    congr 2
    apply Fin.ext
    dsimp only
    omega

/-! ## The RWKV half of a block -/

/-- The sums of two directions' blocks. -/
theorem pay2_apply (x y : FVec Ideal S1x1x256x512 .f32) (r : Fin 256) (l : Fin 512) :
    (k0_pay2 (F := Ideal) x y (ix2 r l) : EReal) = x (ix4 0 0 r l) + y (ix4 0 0 r l) := by
  pointwise [k0_pay2]

/-- A block's entries less the means of their heads. -/
def centred (v : FVec Ideal S256x512 .f32) : FVec Ideal S256x512 .f32 :=
  subf v (mulf (headSums v headOnes) (broadcast S256x512 (Scalar.ofBits .f32 0x3C800000#32)))

theorem centred_apply (v : FVec Ideal S256x512 .f32) (r : Fin 256) (l : Fin 512) (hv : ∀ l, IsReal (v (ix2 r l))) :
    (centred v (ix2 r l) : EReal) = v (ix2 r l) - mean (headRow v r l) := by
  have e : (centred v (ix2 r l) : EReal)
      = v (ix2 r l) - (headSums v headOnes (ix2 r l) : EReal) * Ideal.ofBits .f32 0x3C800000#32 := by
    pointwise [centred]
  rw [e, headSums_apply v r l hv, mul_inv64]
  rfl

theorem mean_real {h : Fin 64 → EReal} (hh : ∀ k, IsReal (h k)) : IsReal (mean h) := by
  unfold mean
  rw [← mul_inv64, bits_inv64]
  exact (IsReal.sum hh).mul ⟨_, rfl⟩

theorem centred_real (v : FVec Ideal S256x512 .f32) (r : Fin 256) (l : Fin 512) (hv : ∀ l, IsReal (v (ix2 r l))) :
    IsReal (centred v (ix2 r l)) := by
  rw [centred_apply v r l hv]
  exact (hv l).sub (mean_real fun k => hv _)

/-- The variances of the heads, plus the small constant. -/
def spread (v : FVec Ideal S256x512 .f32) : FVec Ideal S256x512 .f32 :=
  addf (mulf (headSums (mulf (centred v) (centred v)) headOnes) (broadcast S256x512 (Scalar.ofBits .f32 0x3C800000#32)))
    (broadcast S256x512 (Scalar.ofBits .f32 0x3A27C5AC#32))

theorem spread_apply (v : FVec Ideal S256x512 .f32) (r : Fin 256) (l : Fin 512) (hv : ∀ l, IsReal (v (ix2 r l))) :
    (spread v (ix2 r l) : EReal)
      = Ideal.div (∑ k, (headRow v r l k - mean (headRow v r l)) * (headRow v r l k - mean (headRow v r l)))
          (Ideal.ofBits .f32 0x42800000#32) + Ideal.ofBits .f32 0x3A27C5AC#32 := by
  have e : (spread v (ix2 r l) : EReal)
      = (headSums (mulf (centred v) (centred v)) headOnes (ix2 r l) : EReal) * Ideal.ofBits .f32 0x3C800000#32
        + Ideal.ofBits .f32 0x3A27C5AC#32 := by
    pointwise [spread]
  have hc : ∀ l, ((mulf (centred v) (centred v)) (ix2 r l) : EReal) = centred v (ix2 r l) * centred v (ix2 r l) := fun l => rfl
  rw [e, headSums_apply _ r l (fun l => by rw [hc]; exact (centred_real v r l hv).mul (centred_real v r l hv)), mul_inv64]
  congr 2
  refine Finset.sum_congr rfl fun k _ => ?_
  have hr : headRow v r ⟨l.val / 64 * 64 + k.val, by omega⟩ = headRow v r l := by
    funext k'
    unfold headRow
    congr 2
    apply Fin.ext
    dsimp only
    omega
  show ((mulf (centred v) (centred v)) (ix2 r _) : EReal) = _
  rw [hc, centred_apply v r _ hv, hr]
  rfl

theorem pay16_apply (c s : FVec Ideal S256x512 .f32) (w b : FVec Ideal S1x512 .f32) (bo ga : FVec Ideal S1x256x512 .f32)
    (r : Fin 256) (l : Fin 512) :
    (k0_pay16 (F := Ideal) c s w b bo ga (ix2 r l) : EReal)
      = ((c (ix2 r l) * Ideal.rsqrt (s (ix2 r l))) * w (ix2 0 l) + b (ix2 0 l) + bo (ix3 0 r l)) * ga (ix3 0 r l) := by
  pointwise [k0_pay16]

/-- The body's RWKV block is made of these. -/
theorem rwkv_block (v : FVec Ideal S256x512 .f32) (w b : FVec Ideal S1x512 .f32) (bo ga : FVec Ideal S1x256x512 .f32)
    (r : Fin 256) (l : Fin 512) (hv : ∀ l, IsReal (v (ix2 r l))) :
    (k0_pay16 (F := Ideal) (centred v) (spread v) w b bo ga (ix2 r l) : EReal)
      = (normed (headRow v r l) (v (ix2 r l)) * w (ix2 0 l) + b (ix2 0 l) + bo (ix3 0 r l)) * ga (ix3 0 r l) := by
  rw [pay16_apply, centred_apply v r l hv, spread_apply v r l hv]
  rfl

/-! ## The SSD half of a block -/

/-- The matrix of ones. -/
def allOnes : FVec Ideal S128x128 .bf16 := broadcast S128x128 (Scalar.ofBits .bf16 0x3F80#16)

theorem allOnes_apply (k j : Fin 128) : (allOnes (ix2 k j) : EReal) = 1 := by
  pointwise [allOnes]

/-- The entries of the group that lane `l` of a block's row lies in. -/
def groupRow (v : FVec Ideal S256x512 .f32) (r : Fin 256) (l : Fin 512) (k : Fin 256) : EReal :=
  v (ix2 r ⟨l.val / 256 * 256 + k.val, by omega⟩)

/-- The sum over a group: its two tiles are added first. -/
theorem group_tile (v : FVec Ideal S256x512 .f32) (o : ℕ) (ho : o + 256 ≤ 512) (h0 : S256x512.Slices ![0, o] S256x128)
    (h1 : S256x512.Slices ![0, o + 128] S256x128) (r : Fin 256) (j : Fin 128) (hv : ∀ l, IsReal (v (ix2 r l))) :
    (onesSum (addf (extractStridedSlice S256x128 ![0, o] v h0) (extractStridedSlice S256x128 ![0, o + 128] v h1)) allOnes (ix2 r j) : EReal)
      = ∑ k : Fin 256, v (ix2 r ⟨o + k.val, by omega⟩) := by
  have e : ∀ k : Fin 128, (addf (extractStridedSlice S256x128 ![0, o] v h0) (extractStridedSlice S256x128 ![0, o + 128] v h1) (ix2 r k) : EReal)
      = v (ix2 r ⟨o + k.val, by omega⟩) + v (ix2 r ⟨o + 128 + k.val, by omega⟩) := fun k =>
    congrArg₂ (fun a b : EReal => a + b) (slice_apply v o (by omega) h0 r k) (slice_apply v (o + 128) (by omega) h1 r k)
  rw [onesSum_apply _ _ r j (fun k => by rw [e]; exact (hv _).add (hv _))]
  simp only [allOnes_apply, mul_one, e]
  rw [Finset.sum_add_distrib]
  refine Eq.symm ((Fin.sum_univ_add (a := 128) (b := 128) fun k : Fin 256 => (v (ix2 r ⟨o + k.val, by omega⟩) : EReal)).trans ?_)
  congr 1

/-- The mean squares of the groups of a block, from its squares. -/
def groupMeans (q : FVec Ideal S256x512 .f32) : FVec Ideal S256x512 .f32 :=
  four
    (mulf (onesSum (addf (extractStridedSlice S256x128 ![0, 0] q slices_S256x512_o0_0_S256x128) (extractStridedSlice S256x128 ![0, 128] q slices_S256x512_o0_128_S256x128)) allOnes) (broadcast S256x128 (Scalar.ofBits .f32 0x3B800000#32)))
    (mulf (onesSum (addf (extractStridedSlice S256x128 ![0, 0] q slices_S256x512_o0_0_S256x128) (extractStridedSlice S256x128 ![0, 128] q slices_S256x512_o0_128_S256x128)) allOnes) (broadcast S256x128 (Scalar.ofBits .f32 0x3B800000#32)))
    (mulf (onesSum (addf (extractStridedSlice S256x128 ![0, 256] q slices_S256x512_o0_256_S256x128) (extractStridedSlice S256x128 ![0, 384] q slices_S256x512_o0_384_S256x128)) allOnes) (broadcast S256x128 (Scalar.ofBits .f32 0x3B800000#32)))
    (mulf (onesSum (addf (extractStridedSlice S256x128 ![0, 256] q slices_S256x512_o0_256_S256x128) (extractStridedSlice S256x128 ![0, 384] q slices_S256x512_o0_384_S256x128)) allOnes) (broadcast S256x128 (Scalar.ofBits .f32 0x3B800000#32)))

theorem scaled_tile (a : FVec Ideal S256x128 .f32) (r : Fin 256) (j : Fin 128) :
    (mulf a (broadcast S256x128 (Scalar.ofBits .f32 0x3B800000#32)) (ix2 r j) : EReal)
      = Ideal.div (a (ix2 r j)) (Ideal.ofBits .f32 0x43800000#32) :=
  mul_inv256 _

theorem groupMeans_apply (q : FVec Ideal S256x512 .f32) (r : Fin 256) (l : Fin 512) (hq : ∀ l, IsReal (q (ix2 r l))) :
    (groupMeans q (ix2 r l) : EReal) = Ideal.div (∑ k, groupRow q r l k) (Ideal.ofBits .f32 0x43800000#32) := by
  unfold groupMeans groupRow
  rw [four_apply]
  split_ifs <;>
  · rw [scaled_tile]
    first
    | rw [group_tile q 0 (by omega) _ _ r _ hq]
    | rw [group_tile q 256 (by omega) _ _ r _ hq]
    congr 1
    refine Finset.sum_congr rfl fun k _ => ?_
    congr 2
    apply Fin.ext
    dsimp only
    omega

/-- The block before its normalisation. -/
def gatedBlock (z f : FVec Ideal S256x512 .f32) : FVec Ideal S256x512 .f32 := mulf f (mulf z (k0_pay18 (F := Ideal) z))

/-- The body's SSD block is made of these. -/
theorem pay1_eq (z f : FVec Ideal S256x512 .f32) (n : FVec Ideal S1x512 .f32) :
    k0_pay1 (F := Ideal) z f (k0_pay18 (F := Ideal) z) n
      = truncf .bf16 (mulf (mulf (gatedBlock z f) (rsqrt (addf (groupMeans (mulf (gatedBlock z f) (gatedBlock z f)))
          (broadcast S256x512 (Scalar.ofBits .f32 0x358637BD#32)))))
          (broadcastTo S256x512 (shapeCast S1x512 n shapeCasts_S1x512_S1x512) broadcasts_S1x512_S256x512)) bitsLt_bf16_f32 := rfl

theorem gatedBlock_apply (z : FVec Ideal S256x512 .f32) (x y : FVec Ideal S1x1x256x512 .f32) (d : FVec Ideal S1x512 .f32)
    (xs : FVec Ideal S1x256x512 .f32) (r : Fin 256) (l : Fin 512) :
    (gatedBlock z (k0_pay17 (F := Ideal) x y d xs) (ix2 r l) : EReal)
      = gated (x (ix4 0 0 r l)) (y (ix4 0 0 r l)) (d (ix2 0 l)) (xs (ix3 0 r l)) (z (ix2 r l)) := by
  pointwise [gatedBlock, k0_pay17, k0_pay18, gated, Ideal.logistic]

theorem ssd_block (z f : FVec Ideal S256x512 .f32) (n : FVec Ideal S1x512 .f32) (r : Fin 256) (l : Fin 512)
    (hy : ∀ l, IsReal (gatedBlock z f (ix2 r l))) :
    (k0_pay1 (F := Ideal) z f (k0_pay18 (F := Ideal) z) n (ix2 r l) : EReal)
      = scaled (groupRow (gatedBlock z f) r l) (gatedBlock z f (ix2 r l)) * n (ix2 0 l) := by
  rw [pay1_eq]
  generalize hg : gatedBlock z f = y at hy
  have e : ((truncf .bf16 (mulf (mulf y (rsqrt (addf (groupMeans (mulf y y)) (broadcast S256x512 (Scalar.ofBits .f32 0x358637BD#32)))))
      (broadcastTo S256x512 (shapeCast S1x512 n shapeCasts_S1x512_S1x512) broadcasts_S1x512_S256x512)) bitsLt_bf16_f32 : FVec Ideal S256x512 .bf16) (ix2 r l) : EReal)
      = y (ix2 r l) * Ideal.rsqrt ((groupMeans (mulf y y) (ix2 r l) : EReal) + Ideal.ofBits .f32 0x358637BD#32) * n (ix2 0 l) := by
    pointwise []
  rw [e, groupMeans_apply _ r l (fun l => (hy l).mul (hy l))]
  rfl

/-! ## The results -/

/-- The sum of the two directions of the RWKV scan at row `R`, lane `L`. -/
def rwkvIn (o : S2x4x4096x2048.Idx → EReal) (R : Fin 16384) (L : Fin 2048) : EReal :=
  o (ix4 0 ⟨R.val / 4096, by omega⟩ ⟨R.val % 4096, by omega⟩ L) + o (ix4 1 ⟨R.val / 4096, by omega⟩ ⟨R.val % 4096, by omega⟩ L)

/-- The RWKV half of a row. -/
def rwkvAt (o : S2x4x4096x2048.Idx → EReal) (bo ga : S4x4352x2048.Idx → EReal) (w b : S2048.Idx → EReal) (R : Fin 16384) (L : Fin 2048) : EReal :=
  (normed (fun k => rwkvIn o R ⟨L.val / 64 * 64 + k.val, by omega⟩) (rwkvIn o R L) * w (ix1 L) + b (ix1 L)
    + bo (ix3 ⟨R.val / 4096, by omega⟩ ⟨256 + R.val % 4096, by omega⟩ L)) * ga (ix3 ⟨R.val / 4096, by omega⟩ ⟨256 + R.val % 4096, by omega⟩ L)

/-- The SSD half of a row before its normalisation. -/
def ssdIn (y : S2x4x4096x2048.Idx → EReal) (x : S4x4352x4096.Idx → EReal) (p : S17408x13824.Idx → EReal) (d : S32.Idx → EReal)
    (R : Fin 16384) (L : Fin 2048) : EReal :=
  gated (y (ix4 0 ⟨R.val / 4096, by omega⟩ ⟨R.val % 4096, by omega⟩ L)) (y (ix4 1 ⟨R.val / 4096, by omega⟩ ⟨R.val % 4096, by omega⟩ L))
    (d (ix1 ⟨L.val / 64, by omega⟩)) (x (ix3 ⟨R.val / 4096, by omega⟩ ⟨256 + R.val % 4096, by omega⟩ ⟨L.val, by omega⟩))
    (p (ix2 ⟨1024 + R.val, by omega⟩ ⟨7168 + L.val, by omega⟩))

/-- The SSD half of a row. -/
def ssdAt (y : S2x4x4096x2048.Idx → EReal) (x : S4x4352x4096.Idx → EReal) (p : S17408x13824.Idx → EReal) (d : S32.Idx → EReal)
    (n : S2048.Idx → EReal) (R : Fin 16384) (L : Fin 2048) : EReal :=
  scaled (fun k => ssdIn y x p d R ⟨L.val / 256 * 256 + k.val, by omega⟩) (ssdIn y x p d R L) * n (ix1 L)

/-! ## The blocks of a grid point -/

variable (m : (ℓ : Loc nD τ sig) → Buf (Elt Ideal) ℓ) (ρ : Dev nD → PrngReg)

theorem idx_o : ∀ t : Fin cfg0.N, win0_0.index t = ![0, (grid0.coords t 0).val, (grid0.coords t 1).val, (grid0.coords t 2).val] :=
  (by decide +kernel : ∀ t : Fin grid0.N, _)
theorem idx_bonus : ∀ t : Fin cfg0.N, win0_1.index t = ![(grid0.coords t 0).val, (grid0.coords t 1).val + 1, (grid0.coords t 2).val] :=
  (by decide +kernel : ∀ t : Fin grid0.N, _)
theorem idx_gate : ∀ t : Fin cfg0.N, win0_2.index t = ![(grid0.coords t 0).val, (grid0.coords t 1).val + 1, (grid0.coords t 2).val] :=
  (by decide +kernel : ∀ t : Fin grid0.N, _)
theorem idx_w : ∀ t : Fin cfg0.N, win0_3.index t = ![0, (grid0.coords t 2).val] :=
  (by decide +kernel : ∀ t : Fin grid0.N, _)
theorem idx_b : ∀ t : Fin cfg0.N, win0_4.index t = ![0, (grid0.coords t 2).val] :=
  (by decide +kernel : ∀ t : Fin grid0.N, _)
theorem idx_y : ∀ t : Fin cfg0.N, win0_5.index t = ![0, (grid0.coords t 0).val, (grid0.coords t 1).val, (grid0.coords t 2).val] :=
  (by decide +kernel : ∀ t : Fin grid0.N, _)
theorem idx_x : ∀ t : Fin cfg0.N, win0_6.index t = ![(grid0.coords t 0).val, (grid0.coords t 1).val + 1, (grid0.coords t 2).val] :=
  (by decide +kernel : ∀ t : Fin grid0.N, _)
theorem idx_z : ∀ t : Fin cfg0.N, win0_7.index t = ![4 + (grid0.coords t 0).val * 16 + (grid0.coords t 1).val, 14 + (grid0.coords t 2).val] :=
  (by decide +kernel : ∀ t : Fin grid0.N, _)
theorem idx_d : ∀ t : Fin cfg0.N, win0_8.index t = ![0, (grid0.coords t 2).val] :=
  (by decide +kernel : ∀ t : Fin grid0.N, _)
theorem idx_n : ∀ t : Fin cfg0.N, win0_9.index t = ![0, (grid0.coords t 2).val] :=
  (by decide +kernel : ∀ t : Fin grid0.N, _)
theorem idx_rwkv : ∀ t : Fin cfg0.N, win0_10.index t = ![(grid0.coords t 0).val * 16 + (grid0.coords t 1).val, (grid0.coords t 2).val] :=
  (by decide +kernel : ∀ t : Fin grid0.N, _)
theorem idx_ssd : ∀ t : Fin cfg0.N, win0_11.index t = ![(grid0.coords t 0).val * 16 + (grid0.coords t 1).val, (grid0.coords t 2).val] :=
  (by decide +kernel : ∀ t : Fin grid0.N, _)

theorem bounds (t : Fin cfg0.N) : (grid0.coords t 0).val < 4 ∧ (grid0.coords t 1).val < 16 ∧ (grid0.coords t 2).val < 4 :=
  ⟨(grid0.coords t 0).isLt, (grid0.coords t 1).isLt, (grid0.coords t 2).isLt⟩

/-- The row and the lane of a point's block in the results. -/
def rowAt (t : Fin cfg0.N) (r : Fin 256) : Fin 16384 :=
  ⟨((grid0.coords t 0).val * 16 + (grid0.coords t 1).val) * 256 + r.val, by have := bounds t; omega⟩
def laneAt (t : Fin cfg0.N) (l : Fin 512) : Fin 2048 :=
  ⟨(grid0.coords t 2).val * 512 + l.val, by have := bounds t; omega⟩

theorem rowAt_div (t : Fin cfg0.N) (r : Fin 256) : (rowAt t r).val / 4096 = (grid0.coords t 0).val := by
  have := bounds t
  unfold rowAt
  dsimp only
  omega
theorem rowAt_mod (t : Fin cfg0.N) (r : Fin 256) : (rowAt t r).val % 4096 = (grid0.coords t 1).val * 256 + r.val := by
  have := bounds t
  unfold rowAt
  dsimp only
  omega

theorem emb_rwkv (t : Fin cfg0.N) (r : Fin 256) (l : Fin 512) : (win0_10.blk t).view.emb (ix2 r l) = ix2 (rowAt t r) (laneAt t l) := by
  have e := idx_rwkv t
  unfold rowAt laneAt
  blk_ext [e]
theorem emb_ssd (t : Fin cfg0.N) (r : Fin 256) (l : Fin 512) : (win0_11.blk t).view.emb (ix2 r l) = ix2 (rowAt t r) (laneAt t l) := by
  have e := idx_ssd t
  unfold rowAt laneAt
  blk_ext [e]

theorem o_apply (c : Dev nD) (t : Fin cfg0.N) (d : Fin 2) (r : Fin 256) (l : Fin 512) :
    (iblk m c 0 t (ix4 d 0 r l) : EReal)
      = m ((c : Thread nD τ).loc main_arg0) (ix4 d ⟨(rowAt t r).val / 4096, by omega⟩ ⟨(rowAt t r).val % 4096, by omega⟩ (laneAt t l)) := by
  have e := idx_o t
  blk_simp [iblk]
  rw [V_main_arg0]
  congr 1
  simp only [rowAt_div, rowAt_mod]
  unfold laneAt
  blk_ext [e]
theorem y_apply (c : Dev nD) (t : Fin cfg0.N) (d : Fin 2) (r : Fin 256) (l : Fin 512) :
    (iblk m c 5 t (ix4 d 0 r l) : EReal)
      = m ((c : Thread nD τ).loc main_arg5) (ix4 d ⟨(rowAt t r).val / 4096, by omega⟩ ⟨(rowAt t r).val % 4096, by omega⟩ (laneAt t l)) := by
  have e := idx_y t
  blk_simp [iblk]
  rw [V_main_arg5]
  congr 1
  simp only [rowAt_div, rowAt_mod]
  unfold laneAt
  blk_ext [e]
theorem bonus_apply (c : Dev nD) (t : Fin cfg0.N) (r : Fin 256) (l : Fin 512) :
    (iblk m c 1 t (ix3 0 r l) : EReal)
      = m ((c : Thread nD τ).loc main_arg1) (ix3 ⟨(rowAt t r).val / 4096, by omega⟩ ⟨256 + (rowAt t r).val % 4096, by omega⟩ (laneAt t l)) := by
  have e := idx_bonus t
  blk_simp [iblk]
  rw [V_main_arg1]
  congr 1
  simp only [rowAt_div, rowAt_mod]
  unfold laneAt
  blk_ext [e]
theorem gate_apply (c : Dev nD) (t : Fin cfg0.N) (r : Fin 256) (l : Fin 512) :
    (iblk m c 2 t (ix3 0 r l) : EReal)
      = m ((c : Thread nD τ).loc main_arg2) (ix3 ⟨(rowAt t r).val / 4096, by omega⟩ ⟨256 + (rowAt t r).val % 4096, by omega⟩ (laneAt t l)) := by
  have e := idx_gate t
  blk_simp [iblk]
  rw [V_main_arg2]
  congr 1
  simp only [rowAt_div, rowAt_mod]
  unfold laneAt
  blk_ext [e]
theorem x_apply (c : Dev nD) (t : Fin cfg0.N) (r : Fin 256) (l : Fin 512) :
    (iblk m c 6 t (ix3 0 r l) : EReal)
      = m ((c : Thread nD τ).loc main_arg6) (ix3 ⟨(rowAt t r).val / 4096, by omega⟩ ⟨256 + (rowAt t r).val % 4096, by omega⟩ ⟨(laneAt t l).val, by omega⟩) := by
  have e := idx_x t
  blk_simp [iblk]
  rw [V_main_arg6]
  congr 1
  simp only [rowAt_div, rowAt_mod]
  unfold laneAt
  blk_ext [e]
theorem z_apply (c : Dev nD) (t : Fin cfg0.N) (r : Fin 256) (l : Fin 512) :
    (iblk m c 7 t (ix2 r l) : EReal)
      = m ((c : Thread nD τ).loc main_arg7) (ix2 ⟨1024 + (rowAt t r).val, by omega⟩ ⟨7168 + (laneAt t l).val, by omega⟩) := by
  have e := idx_z t
  blk_simp [iblk]
  rw [V_main_arg7]
  congr 1
  unfold rowAt laneAt
  blk_ext [e]

/-- A vector laid out as one row. -/
theorem oneRow (v : FVec Ideal S2048 .f32) (L : Fin 2048) : (shapeCast S1x2048 v shapeCasts_S2048_S1x2048 (ix2 0 L) : EReal) = v (ix1 L) :=
  (shapeCast_addUnit_apply ![2048] _ _ _).trans (congrArg _ (funext fun a => by fin_cases a; rfl))

theorem V_w (c : Dev nD) (L : Fin 2048) : (V m c main_v2 (ix2 0 L) : EReal) = m ((c : Thread nD τ).loc main_arg3) (ix1 L) := by
  have h : V m c main_v2 = shapeCast S1x2048 (m ((c : Thread nD τ).loc main_arg3)) shapeCasts_S2048_S1x2048 := by
    show StableHlo.after hostOps0 _ (Proc.devRef .tc main_v2) = _
    after_results
    rfl
  rw [h]
  exact oneRow _ L
theorem V_b (c : Dev nD) (L : Fin 2048) : (V m c main_v3 (ix2 0 L) : EReal) = m ((c : Thread nD τ).loc main_arg4) (ix1 L) := by
  have h : V m c main_v3 = shapeCast S1x2048 (m ((c : Thread nD τ).loc main_arg4)) shapeCasts_S2048_S1x2048 := by
    show StableHlo.after hostOps0 _ (Proc.devRef .tc main_v3) = _
    after_results
    rfl
  rw [h]
  exact oneRow _ L
theorem V_n (c : Dev nD) (L : Fin 2048) : (V m c main_v5 (ix2 0 L) : EReal) = m ((c : Thread nD τ).loc main_arg9) (ix1 L) := by
  have h : V m c main_v5 = shapeCast S1x2048 (m ((c : Thread nD τ).loc main_arg9)) shapeCasts_S2048_S1x2048 := by
    show StableHlo.after hostOps0 _ (Proc.devRef .tc main_v5) = _
    after_results
    rfl
  rw [h]
  exact oneRow _ L
theorem V_d (c : Dev nD) (L : Fin 2048) : (V m c main_v4 (ix2 0 L) : EReal) = m ((c : Thread nD τ).loc main_arg8) (ix1 ⟨L.val / 64, by omega⟩) := by
  have h : V m c main_v4 = shapeCast S1x2048 (shapeCast S2048 (broadcastInDim S32x64 ![0] bcast_S32_S32x64_0 (m ((c : Thread nD τ).loc main_arg8))) shapeCasts_S32x64_S2048) shapeCasts_S2048_S1x2048 := by
    show StableHlo.after hostOps0 _ (Proc.devRef .tc main_v4) = _
    after_results
    rfl
  rw [h, oneRow]
  generalize m ((c : Thread nD τ).loc main_arg8) = v
  pointwise []

theorem w_apply (c : Dev nD) (t : Fin cfg0.N) (l : Fin 512) :
    (iblk m c 3 t (ix2 0 l) : EReal) = m ((c : Thread nD τ).loc main_arg3) (ix1 (laneAt t l)) := by
  have e := idx_w t
  refine Eq.trans ?_ (V_w m c _)
  blk_simp [iblk]
  congr 1
  unfold laneAt
  blk_ext [e]
theorem b_apply (c : Dev nD) (t : Fin cfg0.N) (l : Fin 512) :
    (iblk m c 4 t (ix2 0 l) : EReal) = m ((c : Thread nD τ).loc main_arg4) (ix1 (laneAt t l)) := by
  have e := idx_b t
  refine Eq.trans ?_ (V_b m c _)
  blk_simp [iblk]
  congr 1
  unfold laneAt
  blk_ext [e]
theorem d_apply (c : Dev nD) (t : Fin cfg0.N) (l : Fin 512) :
    (iblk m c 8 t (ix2 0 l) : EReal) = m ((c : Thread nD τ).loc main_arg8) (ix1 ⟨(laneAt t l).val / 64, by omega⟩) := by
  have e := idx_d t
  refine Eq.trans ?_ (V_d m c _)
  blk_simp [iblk]
  congr 1
  unfold laneAt
  blk_ext [e]
theorem n_apply (c : Dev nD) (t : Fin cfg0.N) (l : Fin 512) :
    (iblk m c 9 t (ix2 0 l) : EReal) = m ((c : Thread nD τ).loc main_arg9) (ix1 (laneAt t l)) := by
  have e := idx_n t
  refine Eq.trans ?_ (V_n m c _)
  blk_simp [iblk]
  congr 1
  unfold laneAt
  blk_ext [e]

/-- The two directions' parts of a block. -/
theorem ld_first (x : S2x1x256x512.Idx → Elt Ideal .f32) (r : Fin 256) (l : Fin 512) :
    ((View.ld (Val := Elt Ideal) (e' := .f32) x r0_0 : S1x1x256x512.Idx → Elt Ideal .f32) (ix4 0 0 r l) : EReal) = x (ix4 0 0 r l) := by
  refine Eq.trans (View.ld_unit_apply_of _ _ _ _ _ (ix4 0 0 r l) (by intro a; fin_cases a <;> simp)) rfl
theorem ld_second (x : S2x1x256x512.Idx → Elt Ideal .f32) (r : Fin 256) (l : Fin 512) :
    ((View.ld (Val := Elt Ideal) (e' := .f32) x r0_1 : S1x1x256x512.Idx → Elt Ideal .f32) (ix4 0 0 r l) : EReal) = x (ix4 1 0 r l) := by
  refine Eq.trans (View.ld_unit_apply_of _ _ _ _ _ (ix4 1 0 r l) (by intro a; fin_cases a <;> simp)) rfl

/-! ## The two results of the kernel -/

theorem headLane (t : Fin cfg0.N) (l : Fin 512) (k : Fin 64) :
    laneAt t ⟨l.val / 64 * 64 + k.val, by omega⟩ = ⟨(laneAt t l).val / 64 * 64 + k.val, by omega⟩ := by
  apply Fin.ext
  unfold laneAt
  dsimp only
  omega
theorem groupLane (t : Fin cfg0.N) (l : Fin 512) (k : Fin 256) :
    laneAt t ⟨l.val / 256 * 256 + k.val, by omega⟩ = ⟨(laneAt t l).val / 256 * 256 + k.val, by omega⟩ := by
  apply Fin.ext
  unfold laneAt
  dsimp only
  omega

/-- The sum of the directions in a point's block. -/
def oBlock (c : Dev nD) (t : Fin cfg0.N) : FVec Ideal S256x512 .f32 :=
  k0_pay2 (F := Ideal) (View.ld (iblk m c 0 t) r0_0) (View.ld (iblk m c 0 t) r0_1)

theorem oBlock_apply (c : Dev nD) (t : Fin cfg0.N) (r : Fin 256) (l : Fin 512) :
    (oBlock m c t (ix2 r l) : EReal) = rwkvIn (m ((c : Thread nD τ).loc main_arg0)) (rowAt t r) (laneAt t l) := by
  refine (pay2_apply _ _ r l).trans ?_
  rw [ld_first, ld_second, o_apply, o_apply]
  rfl

theorem rwkv_point (c : Dev nD) (t : Fin cfg0.N) (r : Fin 256) (l : Fin 512)
    (ho : ∀ i, IsReal (m ((c : Thread nD τ).loc main_arg0) i)) :
    (k0_pay16 (F := Ideal) (centred (oBlock m c t)) (spread (oBlock m c t)) (iblk m c 3 t) (iblk m c 4 t) (iblk m c 1 t) (iblk m c 2 t) (ix2 r l) : EReal)
      = rwkvAt (m ((c : Thread nD τ).loc main_arg0)) (m ((c : Thread nD τ).loc main_arg1)) (m ((c : Thread nD τ).loc main_arg2))
          (m ((c : Thread nD τ).loc main_arg3)) (m ((c : Thread nD τ).loc main_arg4)) (rowAt t r) (laneAt t l) := by
  rw [rwkv_block _ _ _ _ _ r l (fun l => by rw [oBlock_apply]; exact (ho _).add (ho _)), w_apply, b_apply, bonus_apply, gate_apply, oBlock_apply]
  unfold rwkvAt
  congr 5
  funext k
  unfold headRow
  rw [oBlock_apply, headLane]

/-- The SSD half of a point's block before its normalisation. -/
def yBlock (c : Dev nD) (t : Fin cfg0.N) : FVec Ideal S256x512 .f32 :=
  gatedBlock (iblk m c 7 t) (k0_pay17 (F := Ideal) (View.ld (iblk m c 5 t) r0_0) (View.ld (iblk m c 5 t) r0_1) (iblk m c 8 t) (iblk m c 6 t))

theorem yBlock_apply (c : Dev nD) (t : Fin cfg0.N) (r : Fin 256) (l : Fin 512) :
    (yBlock m c t (ix2 r l) : EReal) = ssdIn (m ((c : Thread nD τ).loc main_arg5)) (m ((c : Thread nD τ).loc main_arg6))
      (m ((c : Thread nD τ).loc main_arg7)) (m ((c : Thread nD τ).loc main_arg8)) (rowAt t r) (laneAt t l) := by
  refine (gatedBlock_apply _ _ _ _ _ r l).trans ?_
  rw [ld_first, ld_second, y_apply, y_apply, d_apply, x_apply, z_apply]
  rfl

theorem ssd_point (c : Dev nD) (t : Fin cfg0.N) (r : Fin 256) (l : Fin 512)
    (hy : ∀ R L, IsReal (ssdIn (m ((c : Thread nD τ).loc main_arg5)) (m ((c : Thread nD τ).loc main_arg6))
      (m ((c : Thread nD τ).loc main_arg7)) (m ((c : Thread nD τ).loc main_arg8)) R L)) :
    (k0_pay1 (F := Ideal) (iblk m c 7 t) (k0_pay17 (F := Ideal) (View.ld (iblk m c 5 t) r0_0) (View.ld (iblk m c 5 t) r0_1) (iblk m c 8 t) (iblk m c 6 t))
        (k0_pay18 (F := Ideal) (iblk m c 7 t)) (iblk m c 9 t) (ix2 r l) : EReal)
      = ssdAt (m ((c : Thread nD τ).loc main_arg5)) (m ((c : Thread nD τ).loc main_arg6))
          (m ((c : Thread nD τ).loc main_arg7)) (m ((c : Thread nD τ).loc main_arg8)) (m ((c : Thread nD τ).loc main_arg9)) (rowAt t r) (laneAt t l) := by
  refine (ssd_block _ _ _ r l (fun l => by rw [← yBlock, yBlock_apply]; exact hy _ _)).trans ?_
  rw [← yBlock, yBlock_apply, n_apply]
  unfold ssdAt
  congr 2
  funext k
  unfold groupRow
  rw [yBlock_apply, groupLane]

theorem rwkv_eq (c : Dev nD) (ho : ∀ i, IsReal (m ((c : Thread nD τ).loc main_arg0) i)) : (dats m 0 c).arrAt 10 cfg0.N
    = fun i : S16384x2048.Idx => rwkvAt (m ((c : Thread nD τ).loc main_arg0)) (m ((c : Thread nD τ).loc main_arg1)) (m ((c : Thread nD τ).loc main_arg2))
          (m ((c : Thread nD τ).loc main_arg3)) (m ((c : Thread nD τ).loc main_arg4)) (i 0) (i 1) := by
  refine (dats m 0 c).arrAt_eq_of_covers 10 _ (by decide +kernel) fun t hf y => ?_
  blk_simp
  rw [after0_10]
  frame_out
  obtain ⟨r, l, rfl⟩ : ∃ (r : Fin 256) (l : Fin 512), y = ix2 r l := ⟨y 0, y 1, by idx_ext⟩
  rw [emb_rwkv]
  exact rwkv_point m c t r l ho

theorem ssd_eq (c : Dev nD) (hy : ∀ R L, IsReal (ssdIn (m ((c : Thread nD τ).loc main_arg5)) (m ((c : Thread nD τ).loc main_arg6))
      (m ((c : Thread nD τ).loc main_arg7)) (m ((c : Thread nD τ).loc main_arg8)) R L)) : (dats m 0 c).arrAt 11 cfg0.N
    = fun i : S16384x2048.Idx => ssdAt (m ((c : Thread nD τ).loc main_arg5)) (m ((c : Thread nD τ).loc main_arg6))
          (m ((c : Thread nD τ).loc main_arg7)) (m ((c : Thread nD τ).loc main_arg8)) (m ((c : Thread nD τ).loc main_arg9)) (i 0) (i 1) := by
  refine (dats m 0 c).arrAt_eq_of_covers 11 _ (by decide +kernel) fun t hf y => ?_
  blk_simp
  rw [after0_11]
  frame_out
  obtain ⟨r, l, rfl⟩ : ∃ (r : Fin 256) (l : Fin 512), y = ix2 r l := ⟨y 0, y 1, by idx_ext⟩
  rw [emb_ssd]
  exact ssd_point m c t r l hy

end Cert.FinishIdeal.Heads

namespace Cert.FinishRefIdeal.Heads

open Idealize.ShloMosaic Idealize.ShloMosaic.TcCoe Idealize.SL.Sem

/-! ## The reference -/

open Cert.FinishRefIdeal Cert.FinishRefIdeal.Gen Cert.FinishRefIdeal.Value
open Cert.FinishIdeal.Heads (rwkvAt rwkvIn ssdAt ssdIn normed mean scaled gated)

variable (m : (ℓ : Loc nD τ sig) → Buf (Elt Ideal) ℓ)

theorem reference_rwkv (c : Dev nD) : res_out0 (F := Ideal) m c
    = fun i : S16384x2048.Idx => rwkvAt (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (i 0) (i 1) := by
  unfold res_out0 res_main_v69
  generalize m ((c.tc : Thread nD τ).loc main_arg0) = o
  generalize m ((c.tc : Thread nD τ).loc main_arg1) = bo
  generalize m ((c.tc : Thread nD τ).loc main_arg2) = ga
  generalize m ((c.tc : Thread nD τ).loc main_arg3) = w
  generalize m ((c.tc : Thread nD τ).loc main_arg4) = b
  funext i
  obtain ⟨r, l, rfl⟩ : ∃ (r : Fin 16384) (l : Fin 2048), i = ix2 r l := ⟨i 0, i 1, by idx_ext⟩
  pointwise [rwkvAt, rwkvIn, normed, mean]

theorem reference_ssd (c : Dev nD) : res_out1 (F := Ideal) m c
    = fun i : S16384x2048.Idx => ssdAt (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9)) (i 0) (i 1) := by
  unfold res_out1 res_main_v71
  generalize m ((c.tc : Thread nD τ).loc main_arg5) = y
  generalize m ((c.tc : Thread nD τ).loc main_arg6) = x
  generalize m ((c.tc : Thread nD τ).loc main_arg7) = p
  generalize m ((c.tc : Thread nD τ).loc main_arg8) = d
  generalize m ((c.tc : Thread nD τ).loc main_arg9) = n
  funext i
  obtain ⟨r, l, rfl⟩ : ∃ (r : Fin 16384) (l : Fin 2048), i = ix2 r l := ⟨i 0, i 1, by idx_ext⟩
  pointwise [ssdAt, ssdIn, scaled, gated]
  simp only [Nat.div_add_mod']

end Cert.FinishRefIdeal.Heads

namespace Cert.FinishIdeal.Heads

open Idealize.ShloMosaic Idealize.ShloMosaic.TcCoe Idealize.SL.Sem

/-! ## The claim -/

theorem isReal_of_finite (x : Ideal .f32)
    (h : FloatOps.cmpf .olt (FloatOps.hostAbsf x) (FloatOps.ofBits (F := Ideal) .f32 0x7F800000#32) = 1#1) : IsReal x := by
  rw [← Ideal.xori_weird_eq_hostAbsf_olt_inf] at h
  have h' : ¬ ((x : EReal) = ⊤ ∨ (x : EReal) = ⊥) := fun e => by
    have : FloatOps.weird x = 1#1 := by
      show BitVec.ofBool (decide ((x : EReal) = ⊤ ∨ (x : EReal) = ⊥)) = 1#1
      rw [decide_eq_true e]; rfl
    rw [this] at h
    exact absurd h (by decide)
  exact ⟨EReal.toReal x, (EReal.coe_toReal (fun e => h' (Or.inl e)) (fun e => h' (Or.inr e))).symm⟩

/-- The parts of the convolved input and of the projection that the SSD half reads. -/
theorem x_slice (a : FVec Ideal S4x4352x4096 .f32) (R : Fin 16384) (L : Fin 2048) :
    ((extractStridedSlice Cert.Pre_finite_heads.S4x4096x2048 ![0, 256, 0] a Cert.Pre_finite_heads.Gen.slices_S4x4352x4096_S4x4096x2048_0_256_0 : FVec Ideal _ .f32) (ix3 ⟨R.val / 4096, by omega⟩ ⟨R.val % 4096, by omega⟩ L) : EReal)
      = a (ix3 ⟨R.val / 4096, by omega⟩ ⟨256 + R.val % 4096, by omega⟩ ⟨L.val, by omega⟩) := by
  pointwise []
theorem z_slice (a : FVec Ideal S17408x13824 .f32) (R : Fin 16384) (L : Fin 2048) :
    ((extractStridedSlice Cert.Pre_finite_heads.S16384x2048 ![1024, 7168] a Cert.Pre_finite_heads.Gen.slices_S17408x13824_S16384x2048_1024_7168 : FVec Ideal _ .f32) (ix2 R L) : EReal)
      = a (ix2 ⟨1024 + R.val, by omega⟩ ⟨7168 + L.val, by omega⟩) := by
  pointwise []

/-- Finite arrays make both halves of a row, before their normalisation, real numbers. -/
theorem reals_of_finite {a0 a1 a2 a3 a4 a5 a6 a7 a8 a9}
    (h : Cert.Pre_finite_heads.fn (F := Ideal) a0 a1 a2 a3 a4 a5 a6 a7 a8 a9 = fun _ => 1#1) :
    (∀ i, IsReal (a0 i)) ∧ ∀ R L, IsReal (ssdIn a5 a6 a7 a8 R L) := by
  have e := congrFun h (Shape.Idx.first Cert.Pre_finite_heads.Gen.h_S_)
  obtain ⟨e, e8⟩ := IntOp.andi_eq_one.1 (show IntOp.andi _ _ = 1#1 from e)
  obtain ⟨e, e7⟩ := IntOp.andi_eq_one.1 (show IntOp.andi _ _ = 1#1 from e)
  obtain ⟨e, e6⟩ := IntOp.andi_eq_one.1 (show IntOp.andi _ _ = 1#1 from e)
  obtain ⟨e0, e5⟩ := IntOp.andi_eq_one.1 (show IntOp.andi _ _ = 1#1 from e)
  haveI : Subsingleton Cert.Pre_finite_heads.S_.Idx := ⟨fun i j => funext fun k => k.elim0⟩
  refine ⟨fun i => isReal_of_finite _ (Host.reduce_andi_all _ _ _ _ _ e0 i), fun R L => ?_⟩
  have h6 : IsReal ((extractStridedSlice Cert.Pre_finite_heads.S4x4096x2048 ![0, 256, 0] a6 Cert.Pre_finite_heads.Gen.slices_S4x4352x4096_S4x4096x2048_0_256_0 : FVec Ideal _ .f32) (ix3 ⟨R.val / 4096, by omega⟩ ⟨R.val % 4096, by omega⟩ L)) :=
    isReal_of_finite _ (Host.reduce_andi_all _ _ _ _ _ e6 (ix3 ⟨R.val / 4096, by omega⟩ ⟨R.val % 4096, by omega⟩ L))
  have h7 : IsReal ((extractStridedSlice Cert.Pre_finite_heads.S16384x2048 ![1024, 7168] a7 Cert.Pre_finite_heads.Gen.slices_S17408x13824_S16384x2048_1024_7168 : FVec Ideal _ .f32) (ix2 R L)) :=
    isReal_of_finite _ (Host.reduce_andi_all _ _ _ _ _ e7 (ix2 R L))
  rw [x_slice] at h6
  rw [z_slice] at h7
  exact gated_real (isReal_of_finite _ (Host.reduce_andi_all _ _ _ _ _ e5 _)) (isReal_of_finite _ (Host.reduce_andi_all _ _ _ _ _ e5 _))
    (isReal_of_finite _ (Host.reduce_andi_all _ _ _ _ _ e8 _)) h6 h7

/-- The kernel and the reference end with the same two arrays. -/
theorem algebraic : Cert.algebraic_FinishIdeal_FinishRefIdeal_pre_finite_heads := by
  intro m g m' g' hpre hagree
  refine ⟨fun c => (Cert.FinishIdeal.Gen.dats m 0 c).arrAt 10 Cert.FinishIdeal.cfg0.N,
    fun c => (Cert.FinishIdeal.Gen.dats m 0 c).arrAt 11 Cert.FinishIdeal.cfg0.N, Cert.FinishIdeal.Value.run_blocks m g, ?_⟩
  refine (θ_run _ _ _).mono (fun r h c => ?_) (Cert.FinishRefIdeal.Value.run m' g')
  obtain ⟨ho, hy⟩ := reals_of_finite (hpre c)
  obtain ⟨g0, g1, g2, g3, g4, g5, g6, g7, g8, g9⟩ := hagree c
  refine ⟨(h c).1.trans ((Cert.FinishRefIdeal.Heads.reference_rwkv m' c).trans ?_), (h c).2.1.trans ((Cert.FinishRefIdeal.Heads.reference_ssd m' c).trans ?_), (h c).2.2⟩
  · rw [g0, g1, g2, g3, g4]
    exact (rwkv_eq m c ho).symm
  · rw [g5, g6, g7, g8, g9]
    exact (ssd_eq m c hy).symm

end Cert.FinishIdeal.Heads

end
-- ==== Proof.lean ====
module

public import proofs.«01_k».proof.Proof.Gen.Final.Frame
public import proofs.«01_k».proof.Proof.Gen.FinalIdeal.Frame
public import proofs.«01_k».proof.Proof.Gen.Norm1.Frame
public import proofs.«01_k».proof.Proof.Gen.Norm1Ideal.Frame
public import proofs.«01_k».proof.Proof.Gen.Norm2.Frame
public import proofs.«01_k».proof.Proof.Gen.Norm2Ideal.Frame
public import proofs.«01_k».proof.Proof.Gen.Conv.Frame
public import proofs.«01_k».proof.Proof.Gen.ConvIdeal.Frame
public import proofs.«01_k».proof.Defs
public import proofs.«01_k».proof.Proof.Gen.Ssd.Frame
public import proofs.«01_k».proof.Proof.Gen.SsdIdeal.Frame
public import proofs.«01_k».proof.Proof.Gen.InProj.Frame
public import proofs.«01_k».proof.Proof.Gen.InProjIdeal.Frame
public import proofs.«01_k».proof.Proof.Gen.OutProj.Frame
public import proofs.«01_k».proof.Proof.Gen.OutProjIdeal.Frame
public import proofs.«01_k».proof.Proof.Gen.Query.Frame
public import proofs.«01_k».proof.Proof.Gen.QueryIdeal.Frame
public import proofs.«01_k».proof.Proof.Gen.Expert.Frame
public import proofs.«01_k».proof.Proof.Gen.ExpertIdeal.Frame
public import proofs.«01_k».proof.Proof.Gen.Weights.Frame
public import proofs.«01_k».proof.Proof.Gen.WeightsIdeal.Frame
public import proofs.«01_k».proof.Proof.Gen.Mod.Frame
public import proofs.«01_k».proof.Proof.Gen.ModIdeal.Frame
public import proofs.«01_k».proof.Proof.Gen.Pre_finite
public import proofs.«01_k».proof.Proof.Gen.Finish.Frame
public import proofs.«01_k».proof.Proof.Gen.FinishIdeal.Frame
public import proofs.«01_k».proof.Proof.Gen.FinishIdeal.Value
public import proofs.«01_k».proof.Proof.Gen.FinishRefIdeal.Run
public import proofs.«01_k».proof.Proof.Gen.Pre_finite_heads
public import proofs.«01_k».proof.Proof.SsdValue
public import proofs.«01_k».proof.Proof.InProjValue
public import proofs.«01_k».proof.Proof.OutProjValue
public import proofs.«01_k».proof.Proof.QueryValue
public import proofs.«01_k».proof.Proof.ExpertValue
public import proofs.«01_k».proof.Proof.WeightsValue
public import proofs.«01_k».proof.Proof.ModValue
public import proofs.«01_k».proof.Proof.FinalValue
public import proofs.«01_k».proof.Proof.Norm1Value
public import proofs.«01_k».proof.Proof.Norm2Value
public import proofs.«01_k».proof.Proof.ConvValue
public import proofs.«01_k».proof.Proof.FinishValue
public import Idealize.ShloMosaic.Adequacy
public import Idealize.ShloMosaic.Init
public import Idealize.ShloMosaic.Lib.Quiescent

@[expose] public section

noncomputable section

namespace Cert.Proof

open Idealize.ShloMosaic Idealize.SL.Sem

/-- The reference of `Ssd` runs, leaves its arguments as they were, and has no semaphore to leave raised. -/
theorem frame_SsdRefIdeal : Cert.quiescent_SsdRefIdeal := fun m ρ _ =>
  (θ_run Cert.SsdRefIdeal.defs _ _).mono
    (fun r h => ⟨fun c => (h c).2, Idealize.ShloMosaic.sem_eq_zero_of_no_sems (by decide) r.2⟩)
    (Cert.SsdRefIdeal.Value.run (F := Ideal) m ρ)

/-- The reference of `InProj` runs, leaves its arguments as they were, and has no semaphore to leave raised. -/
theorem frame_InProjRefIdeal : Cert.quiescent_InProjRefIdeal := fun m ρ _ =>
  (θ_run Cert.InProjRefIdeal.defs _ _).mono
    (fun r h => ⟨fun c => (h c).2, Idealize.ShloMosaic.sem_eq_zero_of_no_sems (by decide) r.2⟩)
    (Cert.InProjRefIdeal.Value.run (F := Ideal) m ρ)

/-- The reference of `OutProj` runs, leaves its arguments as they were, and has no semaphore to leave raised. -/
theorem frame_OutProjRefIdeal : Cert.quiescent_OutProjRefIdeal := fun m ρ _ =>
  (θ_run Cert.OutProjRefIdeal.defs _ _).mono
    (fun r h => ⟨fun c => (h c).2, Idealize.ShloMosaic.sem_eq_zero_of_no_sems (by decide) r.2⟩)
    (Cert.OutProjRefIdeal.Value.run (F := Ideal) m ρ)

/-- The reference of `Query` runs, leaves its arguments as they were, and has no semaphore to leave raised. -/
theorem frame_QueryRefIdeal : Cert.quiescent_QueryRefIdeal := fun m ρ _ =>
  (θ_run Cert.QueryRefIdeal.defs _ _).mono
    (fun r h => ⟨fun c => (h c).2, Idealize.ShloMosaic.sem_eq_zero_of_no_sems (by decide) r.2⟩)
    (Cert.QueryRefIdeal.Value.run (F := Ideal) m ρ)

/-- The reference of `Expert` runs, leaves its arguments as they were, and has no semaphore to leave raised. -/
theorem frame_ExpertRefIdeal : Cert.quiescent_ExpertRefIdeal := fun m ρ _ =>
  (θ_run Cert.ExpertRefIdeal.defs _ _).mono
    (fun r h => ⟨fun c => (h c).2, Idealize.ShloMosaic.sem_eq_zero_of_no_sems (by decide) r.2⟩)
    (Cert.ExpertRefIdeal.Value.run (F := Ideal) m ρ)

/-- The reference of `Weights` runs, leaves its arguments as they were, and has no semaphore to leave raised. -/
theorem frame_WeightsRefIdeal : Cert.quiescent_WeightsRefIdeal := fun m ρ _ =>
  (θ_run Cert.WeightsRefIdeal.defs _ _).mono
    (fun r h => ⟨fun c => (h c).2, Idealize.ShloMosaic.sem_eq_zero_of_no_sems (by decide) r.2⟩)
    (Cert.WeightsRefIdeal.Value.run (F := Ideal) m ρ)

/-- The reference of `Mod` runs, leaves its arguments as they were, and has no semaphore to leave raised. -/
theorem frame_ModRefIdeal : Cert.quiescent_ModRefIdeal := fun m ρ _ =>
  (θ_run Cert.ModRefIdeal.defs _ _).mono
    (fun r h => ⟨fun c => (h c).2, Idealize.ShloMosaic.sem_eq_zero_of_no_sems (by decide) r.2⟩)
    (Cert.ModRefIdeal.Value.run (F := Ideal) m ρ)

/-- The reference of `Final` runs, leaves its arguments as they were, and has no semaphore to leave raised. -/
theorem frame_FinalRefIdeal : Cert.quiescent_FinalRefIdeal := fun m ρ _ =>
  (θ_run Cert.FinalRefIdeal.defs _ _).mono
    (fun r h => ⟨fun c => (h c).2, Idealize.ShloMosaic.sem_eq_zero_of_no_sems (by decide) r.2⟩)
    (Cert.FinalRefIdeal.Value.run (F := Ideal) m ρ)

/-- The reference of `Norm1` runs, leaves its arguments as they were, and has no semaphore to leave raised. -/
theorem frame_Norm1RefIdeal : Cert.quiescent_Norm1RefIdeal := fun m ρ _ =>
  (θ_run Cert.Norm1RefIdeal.defs _ _).mono
    (fun r h => ⟨fun c => (h c).2, Idealize.ShloMosaic.sem_eq_zero_of_no_sems (by decide) r.2⟩)
    (Cert.Norm1RefIdeal.Value.run (F := Ideal) m ρ)

/-- The reference of `Norm2` runs, leaves its arguments as they were, and has no semaphore to leave raised. -/
theorem frame_Norm2RefIdeal : Cert.quiescent_Norm2RefIdeal := fun m ρ _ =>
  (θ_run Cert.Norm2RefIdeal.defs _ _).mono
    (fun r h => ⟨fun c => (h c).2, Idealize.ShloMosaic.sem_eq_zero_of_no_sems (by decide) r.2⟩)
    (Cert.Norm2RefIdeal.Value.run (F := Ideal) m ρ)

/-- The reference of `Conv` runs, leaves its arguments as they were, and has no semaphore to leave raised. -/
theorem frame_ConvRefIdeal : Cert.quiescent_ConvRefIdeal := fun m ρ _ =>
  (θ_run Cert.ConvRefIdeal.defs _ _).mono
    (fun r h => ⟨fun c => (h c).2, Idealize.ShloMosaic.sem_eq_zero_of_no_sems (by decide) r.2⟩)
    (Cert.ConvRefIdeal.Value.run (F := Ideal) m ρ)

/-- The reference of `Finish` runs, leaves its arguments as they were, and has no semaphore to leave raised. -/
theorem frame_FinishRefIdeal : Cert.quiescent_FinishRefIdeal := fun m ρ _ =>
  (θ_run Cert.FinishRefIdeal.defs _ _).mono
    (fun r h => ⟨fun c => (h c).2.2, Idealize.ShloMosaic.sem_eq_zero_of_no_sems (by decide) r.2⟩)
    (Cert.FinishRefIdeal.Value.run (F := Ideal) m ρ)

theorem claim : Cert.Claim :=
  ⟨Cert.Ssd.Gen.facts,
   Cert.SsdIdeal.Gen.facts,
   Cert.SsdRefIdeal.Gen.facts,
   Cert.InProj.Gen.facts,
   Cert.InProjIdeal.Gen.facts,
   Cert.InProjRefIdeal.Gen.facts,
   Cert.OutProj.Gen.facts,
   Cert.OutProjIdeal.Gen.facts,
   Cert.OutProjRefIdeal.Gen.facts,
   Cert.Query.Gen.facts,
   Cert.QueryIdeal.Gen.facts,
   Cert.QueryRefIdeal.Gen.facts,
   Cert.Expert.Gen.facts,
   Cert.ExpertIdeal.Gen.facts,
   Cert.ExpertRefIdeal.Gen.facts,
   Cert.Weights.Gen.facts,
   Cert.WeightsIdeal.Gen.facts,
   Cert.WeightsRefIdeal.Gen.facts,
   Cert.Mod.Gen.facts,
   Cert.ModIdeal.Gen.facts,
   Cert.ModRefIdeal.Gen.facts,
   Cert.Final.Gen.facts,
   Cert.FinalIdeal.Gen.facts,
   Cert.FinalRefIdeal.Gen.facts,
   Cert.Norm1.Gen.facts,
   Cert.Norm1Ideal.Gen.facts,
   Cert.Norm1RefIdeal.Gen.facts,
   Cert.Norm2.Gen.facts,
   Cert.Norm2Ideal.Gen.facts,
   Cert.Norm2RefIdeal.Gen.facts,
   Cert.Conv.Gen.facts,
   Cert.ConvIdeal.Gen.facts,
   Cert.ConvRefIdeal.Gen.facts,
   Cert.Finish.Gen.facts,
   Cert.FinishIdeal.Gen.facts,
   Cert.FinishRefIdeal.Gen.facts,
   Cert.Pre_finite.Gen.facts,
   Cert.Pre_finite_heads.Gen.facts,
   fun m ρ _ => Cert.Ssd.Gen.frame m ρ,
   fun m ρ _ => Cert.SsdIdeal.Gen.frame m ρ,
   fun m ρ _ => Cert.SsdIdeal.Gen.frame m ρ,
   frame_SsdRefIdeal,
   fun m ρ _ => frame_SsdRefIdeal m ρ trivial,
   fun m ρ _ => Cert.InProj.Gen.frame m ρ,
   fun m ρ _ => Cert.InProjIdeal.Gen.frame m ρ,
   frame_InProjRefIdeal,
   fun m ρ _ => Cert.OutProj.Gen.frame m ρ,
   fun m ρ _ => Cert.OutProjIdeal.Gen.frame m ρ,
   frame_OutProjRefIdeal,
   fun m ρ _ => Cert.Query.Gen.frame m ρ,
   fun m ρ _ => Cert.QueryIdeal.Gen.frame m ρ,
   frame_QueryRefIdeal,
   fun m ρ _ => Cert.Expert.Gen.frame m ρ,
   fun m ρ _ => Cert.ExpertIdeal.Gen.frame m ρ,
   frame_ExpertRefIdeal,
   fun m ρ _ => Cert.Weights.Gen.frame m ρ,
   fun m ρ _ => Cert.WeightsIdeal.Gen.frame m ρ,
   frame_WeightsRefIdeal,
   fun m ρ _ => Cert.Mod.Gen.frame m ρ,
   fun m ρ _ => Cert.ModIdeal.Gen.frame m ρ,
   frame_ModRefIdeal,
   fun m ρ _ => Cert.Final.Gen.frame m ρ,
   fun m ρ _ => Cert.FinalIdeal.Gen.frame m ρ,
   frame_FinalRefIdeal,
   fun m ρ _ => Cert.Norm1.Gen.frame m ρ,
   fun m ρ _ => Cert.Norm1Ideal.Gen.frame m ρ,
   frame_Norm1RefIdeal,
   fun m ρ _ => Cert.Norm2.Gen.frame m ρ,
   fun m ρ _ => Cert.Norm2Ideal.Gen.frame m ρ,
   frame_Norm2RefIdeal,
   fun m ρ _ => Cert.Conv.Gen.frame m ρ,
   fun m ρ _ => Cert.ConvIdeal.Gen.frame m ρ,
   frame_ConvRefIdeal,
   fun m ρ _ => Cert.Finish.Gen.frame m ρ,
   fun m ρ _ => Cert.FinishIdeal.Gen.frame m ρ,
   fun m ρ _ => Cert.FinishIdeal.Gen.frame m ρ,
   frame_FinishRefIdeal,
   fun m ρ _ => frame_FinishRefIdeal m ρ trivial,
   trivial,
   Cert.SsdIdeal.Scan.algebraic,
   trivial,
   Cert.InProjIdeal.Product.algebraic,
   trivial,
   Cert.OutProjIdeal.Product.algebraic,
   trivial,
   Cert.QueryIdeal.Product.algebraic,
   trivial,
   Cert.ExpertIdeal.Product.algebraic,
   trivial,
   Cert.WeightsIdeal.Gate.algebraic,
   trivial,
   Cert.ModIdeal.Product.algebraic,
   trivial,
   Cert.FinalIdeal.Norm.algebraic,
   trivial,
   Cert.Norm1Ideal.Norm.algebraic,
   trivial,
   Cert.Norm2Ideal.Norm.algebraic,
   trivial,
   Cert.ConvIdeal.Conv.algebraic,
   trivial,
   Cert.FinishIdeal.Heads.algebraic⟩

end Cert.Proof

end
